-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_zero_bias [hPre_finite_zero_bias : Cert.Pre_finite_zero_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_zero_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_zero_bias [hPre_finite_zero_bias : Cert.Pre_finite_zero_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_zero_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_zero_bias [hKernelIdeal : Cert.KernelIdeal.Facts] [hPre_finite_zero_bias : Cert.Pre_finite_zero_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_zero_bias m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_zero_bias [hReferenceIdeal : Cert.ReferenceIdeal.Facts] [hPre_finite_zero_bias : Cert.Pre_finite_zero_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_zero_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal_pre_finite_zero_bias [hKernelIdeal : Cert.KernelIdeal.Facts] [hReferenceIdeal : Cert.ReferenceIdeal.Facts] [hPre_finite_zero_bias : Cert.Pre_finite_zero_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_zero_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_finite_zero_bias : Cert.Pre_finite_zero_bias.Facts),
    quiescent_KernelIdeal (hKernelIdeal := hKernelIdeal)
    ∧ quiescent_KernelIdeal_pre_finite_zero_bias (hKernelIdeal := hKernelIdeal) (hPre_finite_zero_bias := hPre_finite_zero_bias)
    ∧ quiescent_ReferenceIdeal (hReferenceIdeal := hReferenceIdeal)
    ∧ quiescent_ReferenceIdeal_pre_finite_zero_bias (hReferenceIdeal := hReferenceIdeal) (hPre_finite_zero_bias := hPre_finite_zero_bias)
    ∧ algebraic_KernelIdeal_ReferenceIdeal_pre_finite_zero_bias (hKernelIdeal := hKernelIdeal) (hReferenceIdeal := hReferenceIdeal) (hPre_finite_zero_bias := hPre_finite_zero_bias)
-- ==== Pre_finite_zero_bias.lean ====
abbrev S256x1024 : Shape := ⟨2, ![256, 1024]⟩
abbrev S100000x1024 : Shape := ⟨2, ![100000, 1024]⟩
abbrev S100000 : Shape := ⟨1, ![100000]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S100000x1024 : S_.BroadcastsInDim S100000x1024 (![] : Fin 0 → Fin S100000x1024.rank)
  reducesTo_S100000x1024_S_d0_1 : S100000x1024.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S256x1024 .f32) (main_arg1 : FVec F S100000x1024 .f32) (main_arg2 : FVec F S100000 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S100000x1024 .f32 := Host.absf main_arg1
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  let main_cst_2 : FVec F S_ .f32 := constant S_ .f32 0x00000000#32
  let main_v9 : FVec F S100000 .f32 := broadcastInDim S100000 ![] bcast_S_S100000 main_cst_2
  let main_v10 : IVec S100000 1 := cmpf .oeq main_arg2 main_v9
  let main_c_3 : IVec S_ 1 := constantI S_ 1 1#1
  let main_v11 : IVec S_ 1 := (fun x v => Host.reduce IntOp.andi x v reducesTo_S100000_S_d0 h_S_) main_v10 main_c_3
  let main_v12 : IVec S_ 1 := andi main_v8 main_v11
  main_v12
-- ==== KernelIdeal.lean ====
abbrev S256x1024 : Shape := ⟨2, ![256, 1024]⟩
abbrev S100000x1024 : Shape := ⟨2, ![100000, 1024]⟩
abbrev S100000 : Shape := ⟨1, ![100000]⟩
abbrev S256x101376 : Shape := ⟨2, ![256, 101376]⟩
abbrev S33x256x96 : Shape := ⟨3, ![33, 256, 96]⟩
abbrev S3072x1024 : Shape := ⟨2, ![3072, 1024]⟩
abbrev S256x3072 : Shape := ⟨2, ![256, 3072]⟩
abbrev S1x256x96 : Shape := ⟨3, ![1, 256, 96]⟩
abbrev S256x96x32 : Shape := ⟨3, ![256, 96, 32]⟩
abbrev S256x96 : Shape := ⟨2, ![256, 96]⟩
abbrev S256x33x96 : Shape := ⟨3, ![256, 33, 96]⟩
abbrev S256x3168 : Shape := ⟨2, ![256, 3168]⟩
abbrev S256x64 : Shape := ⟨2, ![256, 64]⟩
abbrev S256 : Shape := ⟨1, ![256]⟩
abbrev S256x1 : Shape := ⟨2, ![256, 1]⟩
abbrev S202752x128 : Shape := ⟨2, ![202752, 128]⟩
abbrev S64x256 : Shape := ⟨2, ![64, 256]⟩
abbrev S1x16384 : Shape := ⟨2, ![1, 16384]⟩
abbrev S16384x128 : Shape := ⟨2, ![16384, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S16384x1 : Shape := ⟨2, ![16384, 1]⟩
abbrev S256x2048 : Shape := ⟨2, ![256, 2048]⟩
abbrev S64x2048 : Shape := ⟨2, ![64, 2048]⟩
abbrev S16384x32 : Shape := ⟨2, ![16384, 32]⟩
abbrev S256x32 : Shape := ⟨2, ![256, 32]⟩

abbrev nBuf : Table → Nat
  | .hbm => 18
  | .local .tc .vmem => 19
  | .local .scVector .vmem => 2
  | _ => 0

abbrev bufTy : (tb : Table) → Fin (nBuf tb) → BufTy
  | .hbm, ⟨0, _⟩ => ⟨S256x1024, .f32⟩
  | .hbm, ⟨1, _⟩ => ⟨S100000x1024, .f32⟩
  | .hbm, ⟨2, _⟩ => ⟨S100000, .f32⟩
  | .hbm, ⟨3, _⟩ => ⟨S256x101376, .f32⟩
  | .hbm, ⟨4, _⟩ => ⟨S33x256x96, .f32⟩
  | .hbm, ⟨5, _⟩ => ⟨S256x33x96, .f32⟩
  | .hbm, ⟨6, _⟩ => ⟨S256x3168, .f32⟩
  | .hbm, ⟨7, _⟩ => ⟨S256x64, .i32⟩
  | .hbm, ⟨8, _⟩ => ⟨S256x64, .i32⟩
  | .hbm, ⟨9, _⟩ => ⟨S256x64, .i32⟩
  | .hbm, ⟨10, _⟩ => ⟨S202752x128, .f32⟩
  | .hbm, ⟨11, _⟩ => ⟨S64x256, .i32⟩
  | .hbm, ⟨12, _⟩ => ⟨S1x16384, .i32⟩
  | .hbm, ⟨13, _⟩ => ⟨S16384x128, .f32⟩
  | .hbm, ⟨14, _⟩ => ⟨S64x256, .i32⟩
  | .hbm, ⟨15, _⟩ => ⟨S16384x1, .i32⟩
  | .hbm, ⟨16, _⟩ => ⟨S256x64, .f32⟩
  | .hbm, ⟨17, _⟩ => ⟨S256x64, .i32⟩
  | .local .tc .vmem, ⟨0, _⟩ => ⟨S256x1024, .f32⟩
  | .local .tc .vmem, ⟨1, _⟩ => ⟨S3072x1024, .f32⟩
  | .local .tc .vmem, ⟨2, _⟩ => ⟨S3072x1024, .f32⟩
  | .local .tc .vmem, ⟨3, _⟩ => ⟨S256x3072, .f32⟩
  | .local .tc .vmem, ⟨4, _⟩ => ⟨S256x3072, .f32⟩
  | .local .tc .vmem, ⟨5, _⟩ => ⟨S1x256x96, .f32⟩
  | .local .tc .vmem, ⟨6, _⟩ => ⟨S1x256x96, .f32⟩
  | .local .tc .vmem, ⟨7, _⟩ => ⟨S256x3168, .f32⟩
  | .local .tc .vmem, ⟨8, _⟩ => ⟨S256x64, .i32⟩
  | .local .tc .vmem, ⟨9, _⟩ => ⟨S256x64, .i32⟩
  | .local .tc .vmem, ⟨10, _⟩ => ⟨S256x64, .i32⟩
  | .local .tc .vmem, ⟨11, _⟩ => ⟨S256x3168, .f32⟩
  | .local .tc .vmem, ⟨12, _⟩ => ⟨S16384x128, .f32⟩
  | .local .tc .vmem, ⟨13, _⟩ => ⟨S16384x1, .i32⟩
  | .local .tc .vmem, ⟨14, _⟩ => ⟨S256x64, .i32⟩
  | .local .tc .vmem, ⟨15, _⟩ => ⟨S256x64, .f32⟩
  | .local .tc .vmem, ⟨16, _⟩ => ⟨S256x64, .i32⟩
  | .local .tc .vmem, ⟨17, _⟩ => ⟨S256x2048, .f32⟩
  | .local .tc .vmem, ⟨18, _⟩ => ⟨S256x2048, .i32⟩
  | .local .scVector .vmem, ⟨0, _⟩ => ⟨S2x1x256, .i32⟩
  | .local .scVector .vmem, ⟨1, _⟩ => ⟨S2x256x128, .f32⟩
  | _, _ => ⟨S256x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v4_scv : Ref sig .scVector := ⟨.hbm, 10, rfl⟩
abbrev main_v6_scv : Ref sig .scVector := ⟨.hbm, 12, rfl⟩
abbrev main_v7_scv : Ref sig .scVector := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc3_stg4_0 : Ref sig .tc := ⟨.vmem, 16, rfl⟩
abbrev cc3_scratch0 : Ref sig .tc := ⟨.vmem, 17, rfl⟩
abbrev cc3_scratch1 : Ref sig .tc := ⟨.vmem, 18, rfl⟩
abbrev cc2_scoped0 : Ref sig .scVector := ⟨.vmem, 0, rfl⟩
abbrev cc2_scoped2 : Ref sig .scVector := ⟨.vmem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "mask" => some ⊥
  | _ => none

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

@[reducible] def k1_t1_loop : Scf.Loop 32 :=
  let c0_i32_3 : BitVec 32 := 0#32
  let c64_i32 : BitVec 32 := 64#32
  let v8 : BitVec 32 := Scalar.addi c0_i32_3 c64_i32
  let c1_i32 : BitVec 32 := 1#32
  ⟨c0_i32_3, v8, c1_i32⟩
abbrev stage1_0 : Fin 1 → Memref sig .tc .vmem S256x3168 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x64 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x64 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x64 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![2, 16], ![false, false]⟩

def k2_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k2_off2 (i : grid2.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k2_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k2_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k2_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k2_cond1 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k2_t1
  let c1_i32_70_r0 : BitVec 32 := 1#32
  let v83_r0 : BitVec 1 := Scalar.cmpi .sge arg5_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k2_off5 (i : grid2.Coords) (arg10_r0 : BitVec 32) : Fin 2 → Nat :=
  let c0_i32_105_r0 : BitVec 32 := 0#32
  let c256_i32_102_r0 : BitVec 32 := 256#32
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v145_r0 : BitVec 32 := Scalar.muli c256_i32_102_r0 v76_r0
  ![0, v145_r0.toNat]
def k2_off6 (arg6_r0 : BitVec 32) : Fin 1 → Nat :=
  let c2_i32_101_r0 : BitVec 32 := 2#32
  let v144_r0 : BitVec 32 := Scalar.remui arg6_r0 c2_i32_101_r0
  ![v144_r0.toNat]
def k2_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k2_cond2 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k2_t1
  let c0_i32_56_r0 : BitVec 32 := 0#32
  let v64_r0 : BitVec 1 := Scalar.cmpi .eq arg5_r0 c0_i32_56_r0
  let v97_r0 : BitVec 1 := Scalar.ori v96_r0 v64_r0
  let c0_i32_78_r0 : BitVec 32 := 0#32
  let v98_r0 : BitVec 1 := Scalar.cmpi .sge arg5_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k2_off8 (i : grid2.Coords) (arg10_r0 : BitVec 32) : Fin 2 → Nat :=
  let c0_i32_105_r0 : BitVec 32 := 0#32
  let c256_i32_101_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v144_r0 : BitVec 32 := Scalar.muli c256_i32_101_r0 v66_r0
  ![0, v144_r0.toNat]
def k2_off9 (arg7_r0 : BitVec 32) : Fin 1 → Nat :=
  let c2_i32_102_r0 : BitVec 32 := 2#32
  let v145_r0 : BitVec 32 := Scalar.remui arg7_r0 c2_i32_102_r0
  ![v145_r0.toNat]
def k2_off10 (arg8_r0 : BitVec 32) : Fin 3 → Nat :=
  let c2_i32_83_r0 : BitVec 32 := 2#32
  let v109_r0 : BitVec 32 := Scalar.remui arg8_r0 c2_i32_83_r0
  let c0_i32_101_r1 : BitVec 32 := 0#32
  let c0_i32_102_r1 : BitVec 32 := 0#32
  ![v109_r0.toNat, 0, 0]

def k2_chk2 (arg8_r0 : BitVec 32) : Prop :=
  (∀ a, (k2_off10 arg8_r0) a + S1x256x128.size a ≤ S2x256x128.size a)
theorem k2_off10_inb : ∀ (arg8_r0 : BitVec 32) (k2_hw2 : k2_chk2 arg8_r0), ∀ a, (k2_off10 arg8_r0) a + S1x256x128.size a ≤ S2x256x128.size a := fun arg8_r0 k2_hw2 => k2_hw2

def k2_off11 (arg7_r0 : BitVec 32) : Fin 3 → Nat :=
  let c2_i32_82_r0 : BitVec 32 := 2#32
  let v108_r0 : BitVec 32 := Scalar.remui arg7_r0 c2_i32_82_r0
  let c0_i32_103_r1 : BitVec 32 := 0#32
  let c0_i32_104_r1 : BitVec 32 := 0#32
  ![v108_r0.toNat, 0, 0]

def k2_chk3 (arg7_r0 : BitVec 32) : Prop :=
  (∀ a, (k2_off11 arg7_r0) a + S1x1x256.size a ≤ S2x1x256.size a)
theorem k2_off11_inb : ∀ (arg7_r0 : BitVec 32) (k2_hw3 : k2_chk3 arg7_r0), ∀ a, (k2_off11 arg7_r0) a + S1x1x256.size a ≤ S2x1x256.size a := fun arg7_r0 k2_hw3 => k2_hw3

def k2_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k2_cond5 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v115_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k2_t1
  let c1_i32_57_r0 : BitVec 32 := 1#32
  let v65_r0 : BitVec 1 := Scalar.cmpi .eq arg5_r0 c1_i32_57_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k2_off13 (i : grid2.Coords) (arg10_r0 : BitVec 32) : Fin 2 → Nat :=
  let c256_i32_102_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v145_r0 : BitVec 32 := Scalar.muli c256_i32_102_r0 v66_r0
  let c0_i32_105_r0 : BitVec 32 := 0#32
  ![v145_r0.toNat, 0]
def k2_off14 (arg8_r0 : BitVec 32) : Fin 1 → Nat :=
  let c2_i32_101_r0 : BitVec 32 := 2#32
  let v144_r0 : BitVec 32 := Scalar.remui arg8_r0 c2_i32_101_r0
  ![v144_r0.toNat]
def k2_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k2_cond7 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v128_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k2_t1
  let c0_i32_56_r0 : BitVec 32 := 0#32
  let v64_r0 : BitVec 1 := Scalar.cmpi .eq arg5_r0 c0_i32_56_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k2_off16 (i : grid2.Coords) (arg10_r0 : BitVec 32) : Fin 2 → Nat :=
  let c256_i32_102_r0 : BitVec 32 := 256#32
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v145_r0 : BitVec 32 := Scalar.muli c256_i32_102_r0 v71_r0
  let c0_i32_105_r0 : BitVec 32 := 0#32
  ![v145_r0.toNat, 0]
def k2_off17 (arg9_r0 : BitVec 32) : Fin 1 → Nat :=
  let c2_i32_101_r0 : BitVec 32 := 2#32
  let v144_r0 : BitVec 32 := Scalar.remui arg9_r0 c2_i32_101_r0
  ![v144_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) : Prop :=
  (∀ (k2_h1 : k2_cond1 i k2_t1 arg10_r0 = 1#1), ∀ a, (k2_off4 arg6_r0) a + S1x1x256.size a ≤ S2x1x256.size a) ∧
  (∀ (k2_h1 : k2_cond1 i k2_t1 arg10_r0 = 1#1), ∀ a, (k2_off5 i arg10_r0) a + S1x256.size a ≤ S1x16384.size a) ∧
  (∀ (k2_h1 : k2_cond1 i k2_t1 arg10_r0 = 1#1), ∀ a, (k2_off6 arg6_r0) a + S1.size a ≤ S2.size a) ∧
  (∀ (k2_h2 : k2_cond2 i k2_t1 arg10_r0 = 1#1), ∀ a, (k2_off7 arg7_r0) a + S1x1x256.size a ≤ S2x1x256.size a) ∧
  (∀ (k2_h2 : k2_cond2 i k2_t1 arg10_r0 = 1#1), ∀ a, (k2_off8 i arg10_r0) a + S1x256.size a ≤ S1x16384.size a) ∧
  (∀ (k2_h2 : k2_cond2 i k2_t1 arg10_r0 = 1#1), ∀ a, (k2_off9 arg7_r0) a + S1.size a ≤ S2.size a) ∧
  (∀ (k2_h5 : k2_cond5 i k2_t1 arg10_r0 = 1#1), ∀ a, (k2_off12 arg8_r0) a + S1x256x128.size a ≤ S2x256x128.size a) ∧
  (∀ (k2_h5 : k2_cond5 i k2_t1 arg10_r0 = 1#1), ∀ a, (k2_off13 i arg10_r0) a + S256x128.size a ≤ S16384x128.size a) ∧
  (∀ (k2_h5 : k2_cond5 i k2_t1 arg10_r0 = 1#1), ∀ a, (k2_off14 arg8_r0) a + S1.size a ≤ S2.size a) ∧
  (∀ (k2_h7 : k2_cond7 i k2_t1 arg10_r0 = 1#1), ∀ a, (k2_off15 arg9_r0) a + S1x256x128.size a ≤ S2x256x128.size a) ∧
  (∀ (k2_h7 : k2_cond7 i k2_t1 arg10_r0 = 1#1), ∀ a, (k2_off16 i arg10_r0) a + S256x128.size a ≤ S16384x128.size a) ∧
  (∀ (k2_h7 : k2_cond7 i k2_t1 arg10_r0 = 1#1), ∀ a, (k2_off17 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off4 arg6_r0) a + S1x1x256.size a ≤ S2x1x256.size a := fun i k2_t1 arg6_r0 arg7_r0 arg8_r0 arg9_r0 arg10_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off5 i arg10_r0) a + S1x256.size a ≤ S1x16384.size a := fun i k2_t1 arg6_r0 arg7_r0 arg8_r0 arg9_r0 arg10_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off6 arg6_r0) a + S1.size a ≤ S2.size a := fun i k2_t1 arg6_r0 arg7_r0 arg8_r0 arg9_r0 arg10_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off7 arg7_r0) a + S1x1x256.size a ≤ S2x1x256.size a := fun i k2_t1 arg6_r0 arg7_r0 arg8_r0 arg9_r0 arg10_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off8 i arg10_r0) a + S1x256.size a ≤ S1x16384.size a := fun i k2_t1 arg6_r0 arg7_r0 arg8_r0 arg9_r0 arg10_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off9 arg7_r0) a + S1.size a ≤ S2.size a := fun i k2_t1 arg6_r0 arg7_r0 arg8_r0 arg9_r0 arg10_r0 k2_hw1 k2_h2 => k2_hw1.2.2.2.2.2.1 k2_h2
theorem k2_off12_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off12 arg8_r0) a + S1x256x128.size a ≤ S2x256x128.size a := fun i k2_t1 arg6_r0 arg7_r0 arg8_r0 arg9_r0 arg10_r0 k2_hw1 k2_h5 => k2_hw1.2.2.2.2.2.2.1 k2_h5
theorem k2_off13_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off13 i arg10_r0) a + S256x128.size a ≤ S16384x128.size a := fun i k2_t1 arg6_r0 arg7_r0 arg8_r0 arg9_r0 arg10_r0 k2_hw1 k2_h5 => k2_hw1.2.2.2.2.2.2.2.1 k2_h5
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off14 arg8_r0) a + S1.size a ≤ S2.size a := fun i k2_t1 arg6_r0 arg7_r0 arg8_r0 arg9_r0 arg10_r0 k2_hw1 k2_h5 => k2_hw1.2.2.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off15 arg9_r0) a + S1x256x128.size a ≤ S2x256x128.size a := fun i k2_t1 arg6_r0 arg7_r0 arg8_r0 arg9_r0 arg10_r0 k2_hw1 k2_h7 => k2_hw1.2.2.2.2.2.2.2.2.2.1 k2_h7
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off16 i arg10_r0) a + S256x128.size a ≤ S16384x128.size a := fun i k2_t1 arg6_r0 arg7_r0 arg8_r0 arg9_r0 arg10_r0 k2_hw1 k2_h7 => k2_hw1.2.2.2.2.2.2.2.2.2.2.1 k2_h7
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off17 arg9_r0) a + S1.size a ≤ S2.size a := fun i k2_t1 arg6_r0 arg7_r0 arg8_r0 arg9_r0 arg10_r0 k2_hw1 k2_h7 => k2_hw1.2.2.2.2.2.2.2.2.2.2.2 k2_h7

def k2_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k2_off19 (i : grid2.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k2_chk5 (i : grid2.Coords) (v33_4_r0 : BitVec 32) : Prop :=
  (∀ a, (k2_off19 i v33_4_r0) a + S256x128.size a ≤ S16384x128.size a)
theorem k2_off19_inb : ∀ (i : grid2.Coords) (v33_4_r0 : BitVec 32) (k2_hw5 : k2_chk5 i v33_4_r0), ∀ a, (k2_off19 i v33_4_r0) a + S256x128.size a ≤ S16384x128.size a := fun i v33_4_r0 k2_hw5 => k2_hw5

def k2_off20 (v33_3_r0 : BitVec 32) : Fin 1 → Nat :=
  let c2_i32_48_r0 : BitVec 32 := 2#32
  let v54_r0 : BitVec 32 := Scalar.remui v33_3_r0 c2_i32_48_r0
  ![v54_r0.toNat]
def k2_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k2_chk4 (v33_3_r0 : BitVec 32) : Prop :=
  (∀ a, (k2_off18 v33_3_r0) a + S1x256x128.size a ≤ S2x256x128.size a) ∧
  (∀ a, (k2_off20 v33_3_r0) a + S1.size a ≤ S2.size a) ∧
  (∀ a, (k2_off21 v33_3_r0) a + S1x256x128.size a ≤ S2x256x128.size a)
theorem k2_off18_inb : ∀ (v33_3_r0 : BitVec 32) (k2_hw4 : k2_chk4 v33_3_r0), ∀ a, (k2_off18 v33_3_r0) a + S1x256x128.size a ≤ S2x256x128.size a := fun v33_3_r0 k2_hw4 => k2_hw4.1
theorem k2_off20_inb : ∀ (v33_3_r0 : BitVec 32) (k2_hw4 : k2_chk4 v33_3_r0), ∀ a, (k2_off20 v33_3_r0) a + S1.size a ≤ S2.size a := fun v33_3_r0 k2_hw4 => k2_hw4.2.1
theorem k2_off21_inb : ∀ (v33_3_r0 : BitVec 32) (k2_hw4 : k2_chk4 v33_3_r0), ∀ a, (k2_off21 v33_3_r0) a + S1x256x128.size a ≤ S2x256x128.size a := fun v33_3_r0 k2_hw4 => k2_hw4.2.2

abbrev grid3 : Pipeline.Grid := .none

@[reducible] def k3_t1_loop : Scf.Loop 32 :=
  let c0_i32_93 : BitVec 32 := 0#32
  let c64_i32 : BitVec 32 := 64#32
  let v341 : BitVec 32 := Scalar.addi c0_i32_93 c64_i32
  let c1_i32_94 : BitVec 32 := 1#32
  ⟨c0_i32_93, v341, c1_i32_94⟩
abbrev stage3_0 : Fin 1 → Memref sig .tc .vmem S16384x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S16384x1 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S256x64 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S256x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S256x64 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x1024 : Shape := ⟨2, ![256, 1024]⟩
abbrev S100000x1024 : Shape := ⟨2, ![100000, 1024]⟩
abbrev S100000 : Shape := ⟨1, ![100000]⟩
abbrev S1024x100000 : Shape := ⟨2, ![1024, 100000]⟩
abbrev S256x100000 : Shape := ⟨2, ![256, 100000]⟩
abbrev S1x100000 : Shape := ⟨2, ![1, 100000]⟩
abbrev S256x64 : Shape := ⟨2, ![256, 64]⟩
abbrev S_ : Shape := ⟨0, ![]⟩
abbrev S256 : Shape := ⟨1, ![256]⟩
abbrev S256x1 : Shape := ⟨2, ![256, 1]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S100000x1024, .f32⟩
  | .hbm, ⟨2, _⟩ => ⟨S100000, .f32⟩
  | .hbm, ⟨3, _⟩ => ⟨S1024x100000, .f32⟩
  | .hbm, ⟨4, _⟩ => ⟨S256x100000, .f32⟩
  | .hbm, ⟨5, _⟩ => ⟨S1x100000, .f32⟩
  | .hbm, ⟨6, _⟩ => ⟨S256x100000, .f32⟩
  | .hbm, ⟨7, _⟩ => ⟨S256x100000, .f32⟩
  | .hbm, ⟨8, _⟩ => ⟨S256x64, .f32⟩
  | .hbm, ⟨9, _⟩ => ⟨S256x64, .i32⟩
  | .hbm, ⟨10, _⟩ => ⟨S_, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256x1, .f32⟩
  | .hbm, ⟨16, _⟩ => ⟨S256x64, .f32⟩
  | .hbm, ⟨17, _⟩ => ⟨S256x64, .f32⟩
  | .hbm, ⟨18, _⟩ => ⟨S256x64, .f32⟩
  | .hbm, ⟨19, _⟩ => ⟨S_, .f32⟩
  | .hbm, ⟨20, _⟩ => ⟨S256, .f32⟩
  | .hbm, ⟨21, _⟩ => ⟨S256x1, .f32⟩
  | .hbm, ⟨22, _⟩ => ⟨S256x64, .f32⟩
  | .hbm, ⟨23, _⟩ => ⟨S256x64, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Setup.lean ====
/-
  The program as the launch theorem sees it, the resource algebra of the proof (the handshakes' rounds, the
  pipelines' rounds, the transfers' counters), and loads and stores of a memref owned at known contents.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Threads
public import Idealize.ShloMosaic.Lib.Pipeline.Kit
public import Idealize.ShloMosaic.Lib.Pipeline.Regions
public import Idealize.ShloMosaic.Lib.VecWindow
public import Idealize.ShloMosaic.Lib.Tactic

@[expose] public section

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program's parts -/

abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl.trans Emb.inr).trans (uEmb).toEmb

instance EP_landsIn : (EP : Emb UP 𝕄).LandsIn (upEmb : UEmb _ 𝕄) := by unfold EP; infer_instance

/-! ## Loads and stores of an owned memref -/

section Own

variable (c : Thread nD τ) (bd : Option 𝒱₀.V) {α : Type}

/-- A load of a memref's own sizes reads what it is owned at. -/
theorem wp_loadOwn {cs : CoreSpace} {s : Shape} {e : EltTy} {m : Memref sig c.2.kind cs s e} {off : Fin s.rank → ℕ}
    {inb : ∀ a, off a + s.size a ≤ s.size a} {hl : m.view.LoadsAt (Rect.unit off s.size inb).toLoadRect}
    {k : (s.Idx → Elt F e) → Prog (TpuEff nD τ sig (Elt F) Λ₀ c.2) α} {q : PosShare TreeShare} {X : s.Idx → Elt F e} {Q : α → sProp 𝕄} :
    (owns c m q X : sProp 𝕄)
      ⊢ iprop((owns c m q X -∗ wp frame (wpE (defs₀ (F := F)) 𝒱₀ c bd) Set.univ (k X) Q)
        -∗ wp frame (wpE (defs₀ (F := F)) 𝒱₀ c bd) Set.univ (.op (.load m (Rect.unit off s.size inb).toLoadRect hl) k) Q) := by
  unfold owns
  have hS : m.view.setOn (Rect.unit off s.size inb).toLoadRect.set ⊆ m.view.set := View.setOn_subset_set _ _
  iintro ⟨%f, %hf, H⟩ HK
  iapply (wp_load 𝒱₀ c bd Set.univ (m := m) (r := (Rect.unit off s.size inb).toLoadRect) (hl := hl) (S := m.view.set) hS) $$ H
  iintro H
  have e : m.view.readAt (Elt F) (Rect.unit off s.size inb).toLoadRect f = X := (View.readAt_full m.view f inb).trans hf
  have e' : k (m.view.readAt (Elt F) (Rect.unit off s.size inb).toLoadRect f) = k X := congrArg k e
  rw [e']
  iapply HK
  iexists f; isplitr; · ipureintro; exact hf
  iexact H

/-- A load of a window of a memref reads that window of what it is owned at. -/
theorem wp_loadWin {cs : CoreSpace} {s : Shape} {e : EltTy} {m : Memref sig c.2.kind cs s e} {off size : Fin s.rank → ℕ}
    {inb : ∀ a, off a + size a ≤ s.size a} {hl : m.view.LoadsAt (Rect.unit off size inb).toLoadRect}
    {k : ((Rect.unit off size inb).shape.Idx → Elt F e) → Prog (TpuEff nD τ sig (Elt F) Λ₀ c.2) α} {q : PosShare TreeShare} {X : s.Idx → Elt F e} {Q : α → sProp 𝕄} :
    (owns c m q X : sProp 𝕄)
      ⊢ iprop((owns c m q X -∗ wp frame (wpE (defs₀ (F := F)) 𝒱₀ c bd) Set.univ (k (VecWindow.window X off size inb)) Q)
        -∗ wp frame (wpE (defs₀ (F := F)) 𝒱₀ c bd) Set.univ (.op (.load m (Rect.unit off size inb).toLoadRect hl) k) Q) := by
  unfold owns
  have hS : m.view.setOn (Rect.unit off size inb).toLoadRect.set ⊆ m.view.set := View.setOn_subset_set _ _
  iintro ⟨%f, %hf, H⟩ HK
  iapply (wp_load 𝒱₀ c bd Set.univ (m := m) (r := (Rect.unit off size inb).toLoadRect) (hl := hl) (S := m.view.set) hS) $$ H
  iintro H
  have e : m.view.readAt (Elt F) (Rect.unit off size inb).toLoadRect f = VecWindow.window X off size inb :=
    (View.readAt_unit m.view f inb rfl inb).trans (by rw [hf])
  rw [e]
  iapply HK
  iexists f; isplitr; · ipureintro; exact hf
  iexact H

/-- An unmasked store at a window of a memref leaves the payload put there. -/
theorem wp_storeWin {cs : CoreSpace} {s : Shape} {e : EltTy} {m : Memref sig c.2.kind cs s e} {off size : Fin s.rank → ℕ}
    {inb : ∀ a, off a + size a ≤ s.size a} {w : (Rect.unit off size inb).shape.Idx → Elt F e}
    {hx : (m.access (Rect.unit off size inb)).Stores Finset.univ}
    {hm : Finset.univ = Finset.univ ∨ ∀ a, (Rect.unit off size inb).stride a = 1}
    {k : PUnit → Prog (TpuEff nD τ sig (Elt F) Λ₀ c.2) α} {X : s.Idx → Elt F e} {Q : α → sProp 𝕄} :
    (owns c m fullShare X : sProp 𝕄)
      ⊢ iprop((owns c m fullShare (VecWindow.put X off size w) -∗ wp frame (wpE (defs₀ (F := F)) 𝒱₀ c bd) Set.univ (k ⟨⟩) Q)
        -∗ wp frame (wpE (defs₀ (F := F)) 𝒱₀ c bd) Set.univ (.op (.store m (Rect.unit off size inb) w Finset.univ hx hm) k) Q) := by
  unfold owns
  have hS : (m.access (Rect.unit off size inb)).setOn Finset.univ ⊆ m.view.set := by rw [View.setOn_univ]; exact View.set_slice_subset _ _
  iintro ⟨%f, %hf, H⟩ HK
  iapply (wp_store 𝒱₀ c bd Set.univ (m := m) (r := Rect.unit off size inb) (w := w) (Mk := Finset.univ) (hx := hx) (hm := hm)
    (S := m.view.set) hS) $$ H
  iintro H
  iapply HK
  iexists _; isplitr
  swap; · iexact H
  ipureintro
  rw [← hf]
  exact View.read_writes_cons_put m.view f inb w [] rfl

/-- An unmasked store of a memref's own sizes leaves the payload. -/
theorem wp_storeOwn {cs : CoreSpace} {s : Shape} {e : EltTy} {m : Memref sig c.2.kind cs s e} {off : Fin s.rank → ℕ}
    {inb : ∀ a, off a + s.size a ≤ s.size a} {w : s.Idx → Elt F e}
    {hx : (m.access (Rect.unit off s.size inb)).Stores Finset.univ}
    {hm : Finset.univ = Finset.univ ∨ ∀ a, (Rect.unit off s.size inb).stride a = 1}
    {k : PUnit → Prog (TpuEff nD τ sig (Elt F) Λ₀ c.2) α} {X : s.Idx → Elt F e} {Q : α → sProp 𝕄} :
    (owns c m fullShare X : sProp 𝕄)
      ⊢ iprop((owns c m fullShare w -∗ wp frame (wpE (defs₀ (F := F)) 𝒱₀ c bd) Set.univ (k ⟨⟩) Q)
        -∗ wp frame (wpE (defs₀ (F := F)) 𝒱₀ c bd) Set.univ (.op (.store m (Rect.unit off s.size inb) w Finset.univ hx hm) k) Q) := by
  unfold owns
  have hS : (m.access (Rect.unit off s.size inb)).setOn Finset.univ ⊆ m.view.set := by rw [View.setOn_univ]; exact View.set_slice_subset _ _
  iintro ⟨%f, %hf, H⟩ HK
  iapply (wp_store 𝒱₀ c bd Set.univ (m := m) (r := Rect.unit off s.size inb) (w := w) (Mk := Finset.univ) (hx := hx) (hm := hm)
    (S := m.view.set) hS) $$ H
  iintro H
  iapply HK
  iexists _; isplitr
  swap; · iexact H
  ipureintro
  exact View.read_writes_full m.view f inb w []

end Own

end Cert.KernelIdeal.Hand

end
-- ==== Proof.BodyProject.lean ====
/-
  The kernel that projects: its body from its staging buffers to its two results, a block of logits and the maxima of
  the block's chunks.
-/
module

public import proofs.«01_k».proof.Proof.Setup

@[expose] public section

noncomputable section

namespace Cert.KernelIdeal.Hand

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

theorem prBody (c : Dev nD) (i : grid0.Coords) (arg1 : Memref sig .tc .vmem S256x1024 .f32) (harg1 : arg1.IsWhole) (arg2 : Memref sig .tc .vmem S3072x1024 .f32) (harg2 : arg2.IsWhole)
    (arg3 : Memref sig .tc .vmem S256x3072 .f32) (harg3 : arg3.IsWhole) (arg4 : Memref sig .tc .vmem S1x256x96 .f32) (harg4 : arg4.IsWhole)
    (X : Vec F S256x1024 .f32) (Wb : Vec F S3072x1024 .f32) (Y3 : Vec F S256x3072 .f32) (Y4 : Vec F S1x256x96 .f32) :
    iprop(owns (c : Thread nD τ) arg1 fullShare X ∗ owns (c : Thread nD τ) arg2 fullShare Wb ∗ owns (c : Thread nD τ) arg3 fullShare Y3
        ∗ owns (c : Thread nD τ) arg4 fullShare Y4)
      ⊢ wp frame (wpE (defs₀ (F := F)) 𝒱₀ (c : Thread nD τ) none) Set.univ
          (cc0__k1_body i arg1 harg1 arg2 harg2 arg3 harg3 arg4 harg4)
          fun _ => (iprop(owns (c : Thread nD τ) arg1 fullShare X ∗ owns (c : Thread nD τ) arg2 fullShare Wb
            ∗ owns (c : Thread nD τ) arg3 fullShare (k0_pay1 i X Wb) ∗ owns (c : Thread nD τ) arg4 fullShare (k0_pay2 i X Wb)) : sProp 𝕄) := by
  simp only [cc0__k1_body_eq_skeleton]; unfold cc0__k1_body_skel
  simp only [Prog.lift, Prog.bind_op, Prog.bind_ret, Prog.pure_eq_ret, Prog.bind_assoc]
  iintro ⟨H1, H2, H3, H4⟩
  iapply (wp_loadOwn (c : Thread nD τ) none) $$ H1; iintro H1
  iapply (wp_loadOwn (c : Thread nD τ) none) $$ H2; iintro H2
  iapply (wp_loadOwn (c : Thread nD τ) none) $$ H3; iintro H3
  iapply (wp_storeOwn (c : Thread nD τ) none) $$ H3; iintro H3
  iapply (wp_loadOwn (c : Thread nD τ) none) $$ H4; iintro H4
  iapply (wp_storeOwn (c : Thread nD τ) none) $$ H4; iintro H4
  rw [wp_ret]; imodintro
  isplitl [H1]; · iexact H1
  isplitl [H2]; · iexact H2
  isplitl [H3]; · iexact H3
  iexact H4

end Cert.KernelIdeal.Hand

end
-- ==== Proof.IdealProject.lean ====
module
public import proofs.«01_k».proof.Proof.Setup
public import Idealize.ShloMosaic.Lib.ValueIdx
public import Idealize.ShloMosaic.Lib.WordCmp
public import Idealize.ShloMosaic.PureOps.Ideal.Laws
@[expose] public section
noncomputable section

/-!
  What the projection kernel stores, read over the extended reals: the logits of one block of the vocabulary, with
  every column past the vocabulary's end at minus infinity, and the greatest of each run of 32 columns.
-/

namespace Cert.KernelIdeal.Hand
open Cert.KernelIdeal Cert.KernelIdeal.Gen
open Idealize.ShloMosaic Idealize.ShloMosaic.ValueIdx

/-- The logit of row `r` at column `c`; minus infinity past the end of the vocabulary. -/
def logit (x : S256x1024.Idx → EReal) (W : S100000x1024.Idx → EReal) (r : Fin 256) (c : ℕ) : EReal :=
  if h : c < 100000 then ∑ k : Fin 1024, x (ix2 r k) * W (ix2 ⟨c, h⟩ k) else ⊥

/-- The greatest of the 32 logits of row `r` whose columns start at `32 * j`. -/
def chunkMax (x : S256x1024.Idx → EReal) (W : S100000x1024.Idx → EReal) (r : Fin 256) (j : ℕ) : EReal :=
  (Finset.univ : Finset (Fin 32)).fold max ⊥ fun l => logit x W r (32 * j + l.val)

/-- The whole array of logits the projection leaves. -/
def logitsArr (x : S256x1024.Idx → EReal) (W : S100000x1024.Idx → EReal) : S256x101376.Idx → EReal :=
  fun z => logit x W (z 0) (z 1).val

/-- The whole array of chunk maxima the projection leaves, one slab per block of the vocabulary. -/
def maxArr (x : S256x1024.Idx → EReal) (W : S100000x1024.Idx → EReal) : S33x256x96.Idx → EReal :=
  fun z => chunkMax x W (z 1) (96 * (z 0).val + (z 2).val)

theorem mask_bot : (Named.named κ "mask" 0xFF61B1E6#32 : Ideal .f32) = (⊥ : EReal) := rfl

theorem negInf_bot : (FloatOps.ofBits .f32 0xFF800000#32 : Ideal .f32) = (⊥ : EReal) := by
  show Ideal.ofBits .f32 0xFF800000#32 = ⊥
  simp [Ideal.ofBits, Ideal.ieee]

/-- The product the kernel takes, at one entry. -/
theorem prod_at (X : FVec Ideal S256x1024 .f32) (Wb : FVec Ideal S3072x1024 .f32) (r : Fin 256) (l : Fin 3072) :
    (matmul dot_S256x1024_S3072x1024_S256x3072_1_1_0_0_n_n none X Wb (constant S256x3072 .f32 0x00000000#32) : FVec Ideal S256x3072 .f32) (ix2 r l)
      = ∑ k : Fin 1024, (X (ix2 r k) : EReal) * Wb (ix2 l k) := by
  refine (Ideal.matmul_constant_zero_apply dot_S256x1024_S3072x1024_S256x3072_1_1_0_0_n_n none X Wb (ix2 r l)).trans ?_
  rw [← Equiv.sum_comp (contrEquiv1 dot_S256x1024_S3072x1024_S256x3072_1_1_0_0_n_n 1024 rfl rfl).symm]
  refine Finset.sum_congr rfl fun k _ => ?_
  congr 1
  · congr 1; funext a
    match a with
    | ⟨0, _⟩ => rfl
    | ⟨1, _⟩ => rfl
  · congr 1; funext a
    match a with
    | ⟨0, _⟩ => rfl
    | ⟨1, _⟩ => rfl

/-- The first store of a block at one entry: the logit, or minus infinity past column 100000. -/
theorem pay1_at (i : grid0.Coords) (X : FVec Ideal S256x1024 .f32) (Wb : FVec Ideal S3072x1024 .f32) (r : Fin 256) (l : Fin 3072) :
    (k0_pay1 (F := Ideal) i X Wb (ix2 r l) : EReal)
      = if (i 0).val * 3072 + l.val < 100000 then ∑ k : Fin 1024, (X (ix2 r k) : EReal) * Wb (ix2 l k) else ⊥ := by
  have hi : (i 0).val < 33 := (i 0).isLt
  have hl := l.isLt
  have hc : cmpi .slt (addi (broadcast S256x3072 (Scalar.muli (BitVec.ofNat 32 (i 0).val) 3072#32)) (iota .tc S256x3072 32 [1] iota_S256x3072_d1_w32)) (broadcast S256x3072 100000#32) (ix2 r l)
      = BitVec.ofBool (decide ((i 0).val * 3072 + l.val < 100000)) := by
    show IntOp.cmpi .slt (IntOp.addi (IntOp.muli (BitVec.ofNat 32 (i 0).val) (BitVec.ofNat 32 3072)) (BitVec.ofNat 32 (0 * 3072 + l.val))) (BitVec.ofNat 32 100000) = _
    rw [WordCmp.muli_ofNat, WordCmp.addi_ofNat, WordCmp.cmpi_slt_eq]
    congr 1
    have e : (BitVec.ofNat 32 ((i 0).val * 3072 + (0 * 3072 + l.val))).toNat = (i 0).val * 3072 + l.val := by
      rw [BitVec.toNat_ofNat, Nat.mod_eq_of_lt (by omega)]; omega
    rw [decide_eq_decide, WordCmp.toInt_eq_toNat_of_lt_half (by rw [e]; omega), WordCmp.toInt_eq_toNat_of_lt_half (by decide), e]
    show ((_ : ℕ) : ℤ) < ((100000 : ℕ) : ℤ) ↔ _
    exact Int.ofNat_lt
  have hs : (k0_pay1 (F := Ideal) i X Wb (ix2 r l) : EReal) = Scalar.select (cmpi .slt (addi (broadcast S256x3072 (Scalar.muli (BitVec.ofNat 32 (i 0).val) 3072#32)) (iota .tc S256x3072 32 [1] iota_S256x3072_d1_w32)) (broadcast S256x3072 100000#32) (ix2 r l))
      ((matmul dot_S256x1024_S3072x1024_S256x3072_1_1_0_0_n_n none X Wb (constant S256x3072 .f32 0x00000000#32) : FVec Ideal S256x3072 .f32) (ix2 r l))
      (⊥ : EReal) := rfl
  rw [hs, hc, prod_at]
  by_cases h : (i 0).val * 3072 + l.val < 100000
  · rw [if_pos h, decide_eq_true h]; rfl
  · rw [if_neg h, decide_eq_false h]; rfl

/-- The block of `W` a grid point fetches: its real rows are those of `W`, whatever stands below them. -/
def IsBlock (W : S100000x1024.Idx → EReal) (i : grid0.Coords) (Wb : S3072x1024.Idx → EReal) : Prop :=
  ∀ (l : Fin 3072) (k : Fin 1024) (h : (i 0).val * 3072 + l.val < 100000), Wb (ix2 l k) = W (ix2 ⟨_, h⟩ k)

theorem pay1_eq (i : grid0.Coords) (x : S256x1024.Idx → EReal) (W : S100000x1024.Idx → EReal) (Wb : S3072x1024.Idx → EReal)
    (hW : IsBlock W i Wb) (r : Fin 256) (l : Fin 3072) :
    (k0_pay1 (F := Ideal) i x Wb (ix2 r l) : EReal) = logit x W r ((i 0).val * 3072 + l.val) := by
  rw [pay1_at]; unfold logit
  by_cases h : (i 0).val * 3072 + l.val < 100000
  · rw [if_pos h, dif_pos h]
    exact Finset.sum_congr rfl fun k _ => by rw [hW l k h]
  · rw [if_neg h, dif_neg h]

theorem pay2_eq (i : grid0.Coords) (x : S256x1024.Idx → EReal) (W : S100000x1024.Idx → EReal) (Wb : S3072x1024.Idx → EReal)
    (hW : IsBlock W i Wb) (r : Fin 256) (g : Fin 96) :
    (k0_pay2 (F := Ideal) i x Wb (ix3 0 r g) : EReal) = chunkMax x W r (96 * (i 0).val + g.val) := by
  have hcast : Shape.reshapeEquiv shapeCasts_S256x96_S1x256x96 (ix3 0 r g) = ix2 r g := by
    refine Shape.reshapeEquiv_eq_of_rowMajor _ ?_
    rw [Shape.rowMajor_val_two, Shape.rowMajor_val_three]
    show r.val * 96 + g.val = ((0 : Fin 1).val * 256 + r.val) * 96 + g.val
    simp
  have hcast2 : ∀ l : Fin 32, Shape.reshapeEquiv shapeCasts_S256x3072_S256x96x32 (ix3 r g l) = ix2 r ⟨32 * g.val + l.val, by omega⟩ := fun l => by
    refine Shape.reshapeEquiv_eq_of_rowMajor _ ?_
    rw [Shape.rowMajor_val_two, Shape.rowMajor_val_three]
    show r.val * 3072 + (32 * g.val + l.val) = (r.val * 96 + g.val) * 32 + l.val
    omega
  have h1 : (k0_pay2 (F := Ideal) i x Wb (ix3 0 r g) : EReal)
      = multiReduction .maximumf [2] S256x96 (shapeCast S256x96x32 (k0_pay1 (F := Ideal) i x Wb) shapeCasts_S256x3072_S256x96x32) 0xFF800000#32 reduces_S256x96x32_S256x96 (.inl rfl) rfl
          (Shape.reshapeEquiv shapeCasts_S256x96_S1x256x96 (ix3 0 r g)) := rfl
  rw [h1, hcast]
  refine (Ideal.multiReduction_maximumf_single _ _ reduces_S256x96x32_S256x96 (.inl rfl) rfl _).trans ?_
  unfold chunkMax
  refine Eq.trans (congrArg (fun b : EReal => Finset.fold max b _ (Finset.univ : Finset (Fin 32))) negInf_bot) ?_
  refine congrArg (Finset.fold max (⊥ : EReal) · (Finset.univ : Finset (Fin 32))) (funext fun l => ?_)
  have hl : reduces_S256x96x32_S256x96.lift (ix2 r g) l = ix3 r g l := by
    funext a
    match a with
    | ⟨0, _⟩ => rfl
    | ⟨1, _⟩ => rfl
    | ⟨2, _⟩ => rfl
  show (k0_pay1 (F := Ideal) i x Wb (Shape.reshapeEquiv shapeCasts_S256x3072_S256x96x32 (reduces_S256x96x32_S256x96.lift (ix2 r g) l)) : EReal) = _
  refine (congrArg (fun z => (k0_pay1 (F := Ideal) i x Wb z : EReal)) ((congrArg _ hl).trans (hcast2 l))).trans ?_
  refine (pay1_eq i x W Wb hW r _).trans ?_
  refine congrArg (logit x W r) ?_
  show (i 0).val * 3072 + (32 * g.val + l.val) = 32 * (96 * (i 0).val + g.val) + l.val
  omega

end Cert.KernelIdeal.Hand
end
-- ==== Proof.PipeProject.lean ====
module
public import proofs.«01_k».proof.Proof.BodyProject
public import proofs.«01_k».proof.Proof.IdealProject
public import Idealize.ShloMosaic.Lib.Pipeline.Value
public import Idealize.ShloMosaic.Lib.Pipeline.RegionArrays
@[expose] public section
noncomputable section

/-!
  The projection's pipeline: what each staging buffer holds at each grid point, the body's obligation there, and what
  the two result arrays hold at the end.
-/

namespace Cert.KernelIdeal.Hand
open Cert.KernelIdeal Cert.KernelIdeal.Gen
open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

local notation "𝕄" => MT nD τ sig (HIx 1) (Elt Ideal) ℕ UU ℕ

/-- The contents of a whole TensorCore buffer on device `c`. -/
abbrev BufAt (c : Dev nD) (b : Ref sig .tc) : Type := Buf (Elt Ideal) ((c : Thread nD τ).loc b)

variable (O : CellTallies nD τ sig (HIx 1)) (B : Set (SemLoc sig × HIx 1)) (c : Dev nD)
variable (x : BufAt c main_arg0) (W : BufAt c main_arg1) (A2 : BufAt c main_v0_0) (A3 : BufAt c main_v0_1)

/-- The part of `W` the transfer at point `t` moves. -/
abbrev wPart (t : Fin cfg0.N) : (win0_1.xblock (grid0.coords t)).Idx → EReal := (win0_1.blk t).view.read (Elt Ideal) W

/-- The proof data of the projection's pipeline. -/
def dat0 : Dat τ (Elt Ideal) (HIx 1) ℕ UU ℕ cfg0 c where
  A w := match w with
    | ⟨0, _⟩ => x
    | ⟨1, _⟩ => W
    | ⟨2, _⟩ => A2
    | ⟨3, _⟩ => A3
  after w t := match w with
    | ⟨0, _⟩ => (x : S256x1024.Idx → EReal)
    | ⟨1, _⟩ => win0_1.fill (grid0.coords t) (fun _ => (0 : EReal)) (wPart c W t)
    | ⟨2, _⟩ => fun j : S256x3072.Idx => logit x W (j 0) ((grid0.coords t 0).val * 3072 + (j 1).val)
    | ⟨3, _⟩ => fun j : S1x256x96.Idx => chunkMax x W (j 1) (96 * (grid0.coords t 0).val + (j 2).val)
  Φ _ := Pipeline.scopedRest (Ix := HIx 1) (Name := ℕ) (U := UU) (Lvl := ℕ) (Val := Elt Ideal) spec0 c
  q _ := fullShare
  owed _ := O
  recorded _ := B

theorem after0_0 (t : Fin cfg0.N) : (dat0 O B c x W A2 A3).after 0 t = (x : S256x1024.Idx → EReal) := by dsimp only [dat0]

theorem after0_1 (t : Fin cfg0.N) : (dat0 O B c x W A2 A3).after 1 t = win0_1.fill (grid0.coords t) (fun _ => (0 : EReal)) (wPart c W t) := by dsimp only [dat0]

theorem after0_2 (t : Fin cfg0.N) : (dat0 O B c x W A2 A3).after 2 t
    = fun j : S256x3072.Idx => logit x W (j 0) ((grid0.coords t 0).val * 3072 + (j 1).val) := by dsimp only [dat0]

theorem after0_3 (t : Fin cfg0.N) : (dat0 O B c x W A2 A3).after 3 t
    = fun j : S1x256x96.Idx => chunkMax x W (j 1) (96 * (grid0.coords t 0).val + (j 2).val) := by dsimp only [dat0]

/-- At grid point `t` the coordinate is `t`. -/
theorem coord0 (t : Fin cfg0.N) : (grid0.coords t 0).val = t.val := by revert t; decide +kernel

theorem index0_0 (t : Fin cfg0.N) (a : Fin 2) : win0_0.index t a = 0 := by
  match a with
  | ⟨0, _⟩ => rfl
  | ⟨1, _⟩ => rfl

theorem index0_1 (t : Fin cfg0.N) : win0_1.index t 0 = t.val ∧ win0_1.index t 1 = 0 := by revert t; decide +kernel
theorem index0_2 (t : Fin cfg0.N) : win0_2.index t 0 = 0 ∧ win0_2.index t 1 = t.val := by revert t; decide +kernel
theorem index0_3 (t : Fin cfg0.N) : win0_3.index t 0 = t.val ∧ win0_3.index t 1 = 0 ∧ win0_3.index t 2 = 0 := by revert t; decide +kernel

/-- The first window's buffer holds `x` at every point. -/
theorem before0_0 (t : Fin cfg0.N) (d : (cfg0.win 0).block.Idx → Elt Ideal (cfg0.win 0).elt) :
    (dat0 O B c x W A2 A3).before 0 t d = (x : S256x1024.Idx → EReal) := by
  by_cases h0 : t.val % 33 = 0
  · unfold Dat.before
    rw [if_pos ((fetch0_0 t).mpr h0)]
    funext j
    show (x : S256x1024.Idx → EReal) ((win0_0.rect t).emb j) = x j
    congr 1
    funext a; apply Fin.ext
    match a with
    | ⟨0, _⟩ => show win0_0.index t 0 * 256 + 1 * (j 0).val = (j 0).val; rw [index0_0 t 0]; omega
    | ⟨1, _⟩ => show win0_0.index t 1 * 1024 + 1 * (j 1).val = (j 1).val; rw [index0_0 t 1]; omega
  · have hf : (cfg0.win 0).fetch t = false := by
      rw [← Bool.not_eq_true, fetch0_0]; exact h0
    rw [(dat0 O B c x W A2 A3).before_of_pos 0 t (by omega) hf d, if_neg (by show ¬(false = true); exact Bool.false_ne_true)]
    rfl

/-- What a fetch at `t` leaves in the second window's buffer is the block of `W`, wherever that lies inside `W`. -/
theorem isBlock_fill (t : Fin cfg0.N) (d : (cfg0.win 1).block.Idx → Elt Ideal (cfg0.win 1).elt) :
    IsBlock W (grid0.coords t) (win0_1.fill (grid0.coords t) d (wPart c W t)) := by
  intro l k h
  have hx0 : l.val < win0_1.xsize (grid0.coords t) 0 := by
    show l.val < (Pipeline.Clip.of (win0_1.index t 0) 3072 100000).extent 3072
    rw [(index0_1 t).1]
    rw [coord0] at h
    unfold Pipeline.Clip.of
    split
    · exact l.isLt
    · show l.val < 100000 - t.val * 3072
      omega
  have hx1 : k.val < win0_1.xsize (grid0.coords t) 1 := by
    show k.val < (Pipeline.Clip.of (win0_1.index t 1) 1024 1024).extent 1024
    rw [(index0_1 t).2]
    exact k.isLt
  have hm : win0_1.moved (grid0.coords t) (ix2 l k) = true := (win0_1.moved_iff _ _).mpr fun a => by
    match a with
    | ⟨0, _⟩ => exact hx0
    | ⟨1, _⟩ => exact hx1
  unfold Window.fill
  rw [dif_pos hm]
  show (W : S100000x1024.Idx → EReal) ((win0_1.rect t).emb _) = _
  congr 1
  funext a; apply Fin.ext
  match a with
  | ⟨0, _⟩ =>
    show win0_1.index t 0 * 3072 + 1 * l.val = (grid0.coords t 0).val * 3072 + l.val
    rw [(index0_1 t).1, coord0]; omega
  | ⟨1, _⟩ => show win0_1.index t 1 * 1024 + 1 * k.val = k.val; rw [(index0_1 t).2]; omega

theorem before0_1 (t : Fin cfg0.N) (d : (cfg0.win 1).block.Idx → Elt Ideal (cfg0.win 1).elt) :
    (dat0 O B c x W A2 A3).before 1 t d = win0_1.fill (grid0.coords t) d (wPart c W t) := by
  unfold Dat.before
  rw [if_pos (fetch0_1 t)]
  rfl

/-- The body at each point, from what the fetches left to what the write-backs take. -/
theorem obligation0 : BodyObligationLoose (dat0 O B c x W A2 A3) (defs₀ (F := Ideal)) 𝒱₀ (none : HIx 1) Set.univ := fun t => by
  rw [bigSep_W0, bigSep_W0]
  show iprop((dat0 O B c x W A2 A3).Φ t.castSucc ∗ (dat0 O B c x W A2 A3).owesAt none t.castSucc
      ∗ (∃ d, owns (c : Thread nD τ) (st0_0 t) fullShare ((dat0 O B c x W A2 A3).before 0 t d))
      ∗ (∃ d, owns (c : Thread nD τ) (st0_1 t) fullShare ((dat0 O B c x W A2 A3).before 1 t d))
      ∗ (∃ d, owns (c : Thread nD τ) (st0_2 t) fullShare ((dat0 O B c x W A2 A3).before 2 t d))
      ∗ (∃ d, owns (c : Thread nD τ) (st0_3 t) fullShare ((dat0 O B c x W A2 A3).before 3 t d)))
    ⊢ wp frame (wpE (defs₀ (F := Ideal)) 𝒱₀ (c : Thread nD τ) none) Set.univ (bodyAt0 (F := Ideal) t) fun _ =>
      iprop((dat0 O B c x W A2 A3).Φ t.castSucc ∗ (dat0 O B c x W A2 A3).owesAt none t.castSucc
        ∗ owns (c : Thread nD τ) (st0_0 t) fullShare ((dat0 O B c x W A2 A3).after 0 t)
        ∗ (∃ d, owns (c : Thread nD τ) (st0_1 t) fullShare (win0_1.fill (grid0.coords t) d (win0_1.cut (grid0.coords t) ((dat0 O B c x W A2 A3).after 1 t))))
        ∗ owns (c : Thread nD τ) (st0_2 t) fullShare ((dat0 O B c x W A2 A3).after 2 t)
        ∗ owns (c : Thread nD τ) (st0_3 t) fullShare ((dat0 O B c x W A2 A3).after 3 t))
  iintro ⟨HΦ, Howes, ⟨%d0, H0⟩, ⟨%d1, H1⟩, ⟨%d2, H2⟩, ⟨%d3, H3⟩⟩
  ihave H0 := (Entails.of_eq (congrArg (owns (c : Thread nD τ) (st0_0 t) fullShare) (before0_0 O B c x W A2 A3 t d0))) $$ H0
  ihave H1 := (Entails.of_eq (congrArg (owns (c : Thread nD τ) (st0_1 t) fullShare) (before0_1 O B c x W A2 A3 t d1))) $$ H1
  ihave HW := (prBody (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
    (x : S256x1024.Idx → EReal) (win0_1.fill (grid0.coords t) d1 (wPart c W t)) _ _) $$ [H0 H1 H2 H3]
  · isplitl [H0]; · iexact H0
    isplitl [H1]; · iexact H1
    isplitl [H2]; · iexact H2
    iexact H3
  iapply wp_wand $$ [$HW]
  iintro %r ⟨H0, H1, H2, H3⟩
  isplitl [HΦ]; · iexact HΦ
  isplitl [Howes]; · iexact Howes
  isplitl [H0]
  · iapply (Entails.of_eq (congrArg (owns (c : Thread nD τ) (st0_0 t) fullShare) (after0_0 O B c x W A2 A3 t).symm)) $$ H0
  isplitl [H1]
  · iexists d1
    iapply (Entails.of_eq (congrArg (owns (c : Thread nD τ) (st0_1 t) fullShare)
      (show win0_1.fill (grid0.coords t) d1 (wPart c W t) = win0_1.fill (grid0.coords t) d1 (win0_1.cut (grid0.coords t) ((dat0 O B c x W A2 A3).after 1 t)) by
        rw [after0_1, win0_1.cut_fill]))) $$ H1
  isplitl [H2]
  · iapply (Entails.of_eq (congrArg (owns (c : Thread nD τ) (st0_2 t) fullShare)
      (show k0_pay1 (F := Ideal) (grid0.coords t) x (win0_1.fill (grid0.coords t) d1 (wPart c W t)) = (dat0 O B c x W A2 A3).after 2 t by
        rw [after0_2]
        funext j
        exact (congrArg (k0_pay1 (F := Ideal) (grid0.coords t) x (win0_1.fill (grid0.coords t) d1 (wPart c W t))) (eq_ix2 (j : S256x3072.Idx))).trans
          (pay1_eq _ x W _ (isBlock_fill c W t d1) _ _)))) $$ H2
  · iapply (Entails.of_eq (congrArg (owns (c : Thread nD τ) (st0_3 t) fullShare)
      (show k0_pay2 (F := Ideal) (grid0.coords t) x (win0_1.fill (grid0.coords t) d1 (wPart c W t)) = (dat0 O B c x W A2 A3).after 3 t by
        rw [after0_3]
        funext j
        have h0 : (j : S1x256x96.Idx) 0 = (0 : Fin 1) := Fin.eq_zero _
        have hj : (j : S1x256x96.Idx) = ix3 (0 : Fin 1) (j 1) (j 2) := (eq_ix3 (j : S1x256x96.Idx)).trans (congrArg (fun z : Fin 1 => ix3 z (j 1) (j 2)) h0)
        exact (congrArg (k0_pay2 (F := Ideal) (grid0.coords t) x (win0_1.fill (grid0.coords t) d1 (wPart c W t))) hj).trans
          (pay2_eq _ x W _ (isBlock_fill c W t d1) _ _)))) $$ H3

/-! ## What the arrays hold at the end -/

theorem final0_2 : (dat0 O B c x W A2 A3).arrAt 2 cfg0.N = (logitsArr x W : S256x101376.Idx → EReal) := by
  refine (dat0 O B c x W A2 A3).arrAt_eq_of_cover 2 _ (fun t _ => ?_) (fun (i : S256x101376.Idx) => ?_)
  · funext j
    show logit x W _ _ = logit x W _ _
    refine congrArg₂ (logit x W) ?_ ?_
    · apply Fin.ext
      show (j 0).val = win0_2.index t 0 * 256 + 1 * (j 0).val
      rw [(index0_2 t).1]; omega
    · show (grid0.coords t 0).val * 3072 + (j 1).val = win0_2.index t 1 * 3072 + 1 * (j 1).val
      rw [(index0_2 t).2, coord0]; omega
  · have h0 : (i 0).val < 256 := (i 0).isLt
    have h1 : (i 1).val < 101376 := (i 1).isLt
    obtain ⟨t, ht⟩ : ∃ t : Fin cfg0.N, t.val = (i 1).val / 3072 := ⟨⟨_, by rw [show cfg0.N = 33 from N_0]; omega⟩, rfl⟩
    refine ⟨t, flush0_2 t, ?_⟩
    show i ∈ ((View.whole main_v0_0).slice (win0_2.rect t)).set
    rw [View.set_slice_whole, Rect.mem_set_unit]
    intro a
    match a with
    | ⟨0, _⟩ =>
      show win0_2.index t 0 * 256 ≤ (i 0).val ∧ (i 0).val < win0_2.index t 0 * 256 + 256
      rw [(index0_2 t).1]; omega
    | ⟨1, _⟩ =>
      show win0_2.index t 1 * 3072 ≤ (i 1).val ∧ (i 1).val < win0_2.index t 1 * 3072 + 3072
      rw [(index0_2 t).2]; omega

theorem final0_3 : (dat0 O B c x W A2 A3).arrAt 3 cfg0.N = (maxArr x W : S33x256x96.Idx → EReal) := by
  refine (dat0 O B c x W A2 A3).arrAt_eq_of_cover 3 _ (fun t _ => ?_) (fun (i : S33x256x96.Idx) => ?_)
  · funext j
    show chunkMax x W _ _ = chunkMax x W _ _
    have hj : (j 0).val < 1 := (j 0).isLt
    refine congrArg₂ (chunkMax x W) ?_ ?_
    · apply Fin.ext
      show (j 1).val = win0_3.index t 1 * 256 + 1 * (j 1).val
      rw [(index0_3 t).2.1]; omega
    · show 96 * (grid0.coords t 0).val + (j 2).val = 96 * (win0_3.index t 0 * 1 + 1 * (j 0).val) + (win0_3.index t 2 * 96 + 1 * (j 2).val)
      rw [(index0_3 t).1, (index0_3 t).2.2, coord0]; omega
  · have h0 : (i 0).val < 33 := (i 0).isLt
    have h1 : (i 1).val < 256 := (i 1).isLt
    have h2 : (i 2).val < 96 := (i 2).isLt
    obtain ⟨t, ht⟩ : ∃ t : Fin cfg0.N, t.val = (i 0).val := ⟨⟨_, lt_of_lt_of_eq h0 (show 33 = cfg0.N from N_0.symm)⟩, rfl⟩
    refine ⟨t, flush0_3 t, ?_⟩
    show i ∈ ((View.whole main_v0_1).slice (win0_3.rect t)).set
    rw [View.set_slice_whole, Rect.mem_set_unit]
    intro a
    match a with
    | ⟨0, _⟩ =>
      show win0_3.index t 0 * 1 ≤ (i 0).val ∧ (i 0).val < win0_3.index t 0 * 1 + 1
      rw [(index0_3 t).1]; omega
    | ⟨1, _⟩ =>
      show win0_3.index t 1 * 256 ≤ (i 1).val ∧ (i 1).val < win0_3.index t 1 * 256 + 256
      rw [(index0_3 t).2.1]; omega
    | ⟨2, _⟩ =>
      show win0_3.index t 2 * 96 ≤ (i 2).val ∧ (i 2).val < win0_3.index t 2 * 96 + 96
      rw [(index0_3 t).2.2]; omega

end Cert.KernelIdeal.Hand
end
-- ==== Proof.BodyChunks.lean ====
/-
  The kernel that selects the chunks: its loop of 64 trips by an invariant that names what the scratch and the
  carried list hold before each trip, and the body from its staging buffers to its three results.
-/
module

public import proofs.«01_k».proof.Proof.Setup

@[expose] public section

noncomputable section

namespace Cert.KernelIdeal.Hand

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- What the scratch and the carried list of chunk numbers hold before trip `k`, from the chunk maxima `X`. -/
def chSt (X : Vec F S256x3168 .f32) : ℕ → FVec F S256x3168 .f32 × IVec S256x64 32
  | 0 => (k1_pay2 X, k1_pay3)
  | k + 1 => if h : k < k1_t1_loop.trips then (k1_pay5 (chSt X k).1, k1_pay6 ⟨k, h⟩ (chSt X k).2 (chSt X k).1) else chSt X k

theorem chSt_succ (X : Vec F S256x3168 .f32) (k : Fin k1_t1_loop.trips) :
    chSt X (k.val + 1) = (k1_pay5 (chSt X k.val).1, k1_pay6 k (chSt X k.val).2 (chSt X k.val).1) := by
  rw [chSt, dif_pos k.isLt]

/-- The list of chunk numbers the loop ends with. -/
def chIds (X : Vec F S256x3168 .f32) : IVec S256x64 32 := (chSt X k1_t1_loop.trips).2

section

variable (c : Dev nD) (arg0 : Memref sig .tc .vmem S256x3168 .f32) (harg0 : arg0.IsWhole) (arg1 : Memref sig .tc .vmem S256x64 .i32) (harg1 : arg1.IsWhole)
  (arg2 : Memref sig .tc .vmem S256x64 .i32) (harg2 : arg2.IsWhole) (arg3 : Memref sig .tc .vmem S256x64 .i32) (harg3 : arg3.IsWhole)
  (arg4 : Memref sig .tc .vmem S256x3168 .f32) (harg4 : arg4.IsWhole)

def chInv (X : Vec F S256x3168 .f32) (k : ℕ) (acc : IVec S256x64 32) : sProp 𝕄 :=
  iprop(⌜acc = (chSt X k).2⌝ ∗ owns (c : Thread nD τ) arg4 fullShare (chSt X k).1)

theorem chTrip (X : Vec F S256x3168 .f32) (k : Fin k1_t1_loop.trips) (acc : IVec S256x64 32) :
    chInv c arg4 X k.val acc ⊢ wp frame (wpE (defs₀ (F := F)) 𝒱₀ (c : Thread nD τ) none) Set.univ
      (k1_t1_body arg0 harg0 arg1 harg1 arg2 harg2 arg3 harg3 arg4 harg4 k acc) (chInv c arg4 X (k.val + 1)) := by
  unfold k1_t1_body chInv
  simp only [Prog.lift, Prog.bind_op, Prog.bind_ret, Prog.pure_eq_ret]
  iintro ⟨%hacc, H⟩
  subst hacc
  iapply (wp_loadOwn (c : Thread nD τ) none) $$ H; iintro H
  iapply (wp_loadOwn (c : Thread nD τ) none) $$ H; iintro H
  iapply (wp_storeOwn (c : Thread nD τ) none) $$ H; iintro H
  rw [wp_ret, chSt_succ]; imodintro
  isplitr; · ipureintro; rfl
  iexact H

theorem chBody (X : Vec F S256x3168 .f32) (Y1 Y2 Y3 : IVec S256x64 32) (Y4 : Vec F S256x3168 .f32) :
    iprop(owns (c : Thread nD τ) arg0 fullShare X ∗ owns (c : Thread nD τ) arg1 fullShare Y1 ∗ owns (c : Thread nD τ) arg2 fullShare Y2
        ∗ owns (c : Thread nD τ) arg3 fullShare Y3 ∗ owns (c : Thread nD τ) arg4 fullShare Y4)
      ⊢ wp frame (wpE (defs₀ (F := F)) 𝒱₀ (c : Thread nD τ) none) Set.univ
          (cc1__k2_body arg0 harg0 arg1 harg1 arg2 harg2 arg3 harg3 arg4 harg4)
          fun _ => (iprop(owns (c : Thread nD τ) arg0 fullShare X ∗ owns (c : Thread nD τ) arg1 fullShare (chIds X)
            ∗ owns (c : Thread nD τ) arg2 fullShare (k1_pay7 (chIds X)) ∗ owns (c : Thread nD τ) arg3 fullShare (k1_pay1 (chIds X))
            ∗ ∃ Z, owns (c : Thread nD τ) arg4 fullShare Z) : sProp 𝕄) := by
  simp only [cc1__k2_body_eq_skeleton]; unfold cc1__k2_body_skel
  simp only [k1_part1_eq_skeleton]; unfold k1_part1_skel
  simp only [Prog.lift, Prog.bind_op, Prog.bind_ret, Prog.pure_eq_ret, Prog.bind_assoc]
  iintro ⟨H0, H1, H2, H3, H4⟩
  iapply (wp_loadOwn (c : Thread nD τ) none) $$ H0; iintro H0
  iapply (wp_loadOwn (c : Thread nD τ) none) $$ H4; iintro H4
  iapply (wp_storeOwn (c : Thread nD τ) none) $$ H4; iintro H4
  iapply (Scf.wp_for_bind frame (wpE (defs₀ (F := F)) 𝒱₀ (c : Thread nD τ) none) Set.univ k1_t1_loop.lb k1_t1_loop.ub k1_t1_loop.st k1_t1_ok _ _
    (chInv c arg4 X) (chTrip c arg0 harg0 arg1 harg1 arg2 harg2 arg3 harg3 arg4 harg4 X)) $$ [H4]
  · unfold chInv
    isplitr; · ipureintro; rfl
    iexact H4
  iintro %acc HI
  unfold chInv; icases HI with ⟨%hacc, H4⟩
  subst hacc
  iapply (wp_loadOwn (c : Thread nD τ) none) $$ H1; iintro H1
  iapply (wp_storeOwn (c : Thread nD τ) none) $$ H1; iintro H1
  iapply (wp_loadOwn (c : Thread nD τ) none) $$ H2; iintro H2
  iapply (wp_storeOwn (c : Thread nD τ) none) $$ H2; iintro H2
  iapply (wp_loadOwn (c : Thread nD τ) none) $$ H3; iintro H3
  iapply (wp_storeOwn (c : Thread nD τ) none) $$ H3; iintro H3
  rw [wp_ret]; imodintro
  isplitl [H0]; · iexact H0
  isplitl [H1]; · iexact H1
  isplitl [H2]; · iexact H2
  isplitl [H3]; · iexact H3
  iexists _; iexact H4

end

end Cert.KernelIdeal.Hand

end
-- ==== Proof.PipeChunks.lean ====
module
public import proofs.«01_k».proof.Proof.BodyChunks
public import Idealize.ShloMosaic.Lib.ValueIdx
public import Idealize.ShloMosaic.Lib.Pipeline.Value
public import Idealize.ShloMosaic.Lib.Pipeline.RegionArrays
@[expose] public section
noncomputable section

/-!
  The chunk selection's pipeline: a single point over whole arrays.
-/

namespace Cert.KernelIdeal.Hand
open Cert.KernelIdeal Cert.KernelIdeal.Gen
open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

local notation "𝕄" => MT nD τ sig (HIx 1) (Elt Ideal) ℕ UU ℕ

/-- The row, among rows of 128, that holds each selected chunk's quarter; -/
abbrev chFlat (X : FVec Ideal S256x3168 .f32) : IVec S256x64 32 := k1_pay7 (chIds (F := Ideal) X)
/-- and which quarter of it. -/
abbrev chOff (X : FVec Ideal S256x3168 .f32) : IVec S256x64 32 := k1_pay1 (chIds (F := Ideal) X)

variable (O : CellTallies nD τ sig (HIx 1)) (B : Set (SemLoc sig × HIx 1)) (c : Dev nD)
variable (X0 : Buf (Elt Ideal) ((c : Thread nD τ).loc main_v2)) (X1 : Buf (Elt Ideal) ((c : Thread nD τ).loc main_v3_0)) (X2 : Buf (Elt Ideal) ((c : Thread nD τ).loc main_v3_1)) (X3 : Buf (Elt Ideal) ((c : Thread nD τ).loc main_v3_2))

/-- The proof data of this pipeline: one grid point, every window a whole array. -/
def dat1 : Dat τ (Elt Ideal) (HIx 1) ℕ UU ℕ cfg1 c where
  A w := match w with
    | ⟨0, _⟩ => X0
    | ⟨1, _⟩ => X1
    | ⟨2, _⟩ => X2
    | ⟨3, _⟩ => X3
  after w _ := match w with
    | ⟨0, _⟩ => (X0 : S256x3168.Idx → Elt Ideal .f32)
    | ⟨1, _⟩ => ((chIds X0) : S256x64.Idx → Elt Ideal .i32)
    | ⟨2, _⟩ => ((chFlat X0) : S256x64.Idx → Elt Ideal .i32)
    | ⟨3, _⟩ => ((chOff X0) : S256x64.Idx → Elt Ideal .i32)
  Φ _ := Pipeline.scopedRest (Ix := HIx 1) (Name := ℕ) (U := UU) (Lvl := ℕ) (Val := Elt Ideal) spec1 c
  q _ := fullShare
  owed _ := O
  recorded _ := B

theorem after1_0 (t : Fin cfg1.N) : (dat1 O B c X0 X1 X2 X3).after 0 t = (X0 : S256x3168.Idx → Elt Ideal .f32) := by dsimp only [dat1]

theorem read1_0 (t : Fin cfg1.N) (f : S256x3168.Idx → Elt Ideal .f32) : (win1_0.blk t).view.read (Elt Ideal) f = f := by
  funext j
  show f ((win1_0.rect t).emb j) = f j
  congr 1
  funext a; apply Fin.ext
  show 0 * _ + 1 * (j a).val = (j a).val
  omega

theorem before1_0 (t : Fin cfg1.N) (d : (cfg1.win 0).block.Idx → Elt Ideal (cfg1.win 0).elt) :
    (dat1 O B c X0 X1 X2 X3).before 0 t d = (X0 : S256x3168.Idx → Elt Ideal .f32) := by
  unfold Dat.before
  rw [if_pos (fetch1_0 t)]
  exact read1_0 t X0

theorem after1_1 (t : Fin cfg1.N) : (dat1 O B c X0 X1 X2 X3).after 1 t = ((chIds X0) : S256x64.Idx → Elt Ideal .i32) := by dsimp only [dat1]

theorem read1_1 (t : Fin cfg1.N) (f : S256x64.Idx → Elt Ideal .i32) : (win1_1.blk t).view.read (Elt Ideal) f = f := by
  funext j
  show f ((win1_1.rect t).emb j) = f j
  congr 1
  funext a; apply Fin.ext
  show 0 * _ + 1 * (j a).val = (j a).val
  omega

theorem final1_1 : (dat1 O B c X0 X1 X2 X3).arrAt 1 cfg1.N = ((chIds X0) : S256x64.Idx → Elt Ideal .i32) := by
  refine (dat1 O B c X0 X1 X2 X3).arrAt_eq_of_cover 1 _ (fun t _ => ?_) (fun (i : S256x64.Idx) => ?_)
  · exact (read1_1 t (chIds X0)).symm
  · refine ⟨t1_0, flush1_1 t1_0, ?_⟩
    show i ∈ ((View.whole main_v3_0).slice (win1_1.rect t1_0)).set
    rw [View.set_slice_whole, Rect.mem_set_unit]
    intro a
    show 0 * _ ≤ (i a).val ∧ (i a).val < 0 * _ + _
    have := (i a).isLt
    rw [Nat.zero_mul, Nat.zero_add]
    exact ⟨Nat.zero_le _, this⟩

theorem after1_2 (t : Fin cfg1.N) : (dat1 O B c X0 X1 X2 X3).after 2 t = ((chFlat X0) : S256x64.Idx → Elt Ideal .i32) := by dsimp only [dat1]

theorem read1_2 (t : Fin cfg1.N) (f : S256x64.Idx → Elt Ideal .i32) : (win1_2.blk t).view.read (Elt Ideal) f = f := by
  funext j
  show f ((win1_2.rect t).emb j) = f j
  congr 1
  funext a; apply Fin.ext
  show 0 * _ + 1 * (j a).val = (j a).val
  omega

theorem final1_2 : (dat1 O B c X0 X1 X2 X3).arrAt 2 cfg1.N = ((chFlat X0) : S256x64.Idx → Elt Ideal .i32) := by
  refine (dat1 O B c X0 X1 X2 X3).arrAt_eq_of_cover 2 _ (fun t _ => ?_) (fun (i : S256x64.Idx) => ?_)
  · exact (read1_2 t (chFlat X0)).symm
  · refine ⟨t1_0, flush1_2 t1_0, ?_⟩
    show i ∈ ((View.whole main_v3_1).slice (win1_2.rect t1_0)).set
    rw [View.set_slice_whole, Rect.mem_set_unit]
    intro a
    show 0 * _ ≤ (i a).val ∧ (i a).val < 0 * _ + _
    have := (i a).isLt
    rw [Nat.zero_mul, Nat.zero_add]
    exact ⟨Nat.zero_le _, this⟩

theorem after1_3 (t : Fin cfg1.N) : (dat1 O B c X0 X1 X2 X3).after 3 t = ((chOff X0) : S256x64.Idx → Elt Ideal .i32) := by dsimp only [dat1]

theorem read1_3 (t : Fin cfg1.N) (f : S256x64.Idx → Elt Ideal .i32) : (win1_3.blk t).view.read (Elt Ideal) f = f := by
  funext j
  show f ((win1_3.rect t).emb j) = f j
  congr 1
  funext a; apply Fin.ext
  show 0 * _ + 1 * (j a).val = (j a).val
  omega

theorem final1_3 : (dat1 O B c X0 X1 X2 X3).arrAt 3 cfg1.N = ((chOff X0) : S256x64.Idx → Elt Ideal .i32) := by
  refine (dat1 O B c X0 X1 X2 X3).arrAt_eq_of_cover 3 _ (fun t _ => ?_) (fun (i : S256x64.Idx) => ?_)
  · exact (read1_3 t (chOff X0)).symm
  · refine ⟨t1_0, flush1_3 t1_0, ?_⟩
    show i ∈ ((View.whole main_v3_2).slice (win1_3.rect t1_0)).set
    rw [View.set_slice_whole, Rect.mem_set_unit]
    intro a
    show 0 * _ ≤ (i a).val ∧ (i a).val < 0 * _ + _
    have := (i a).isLt
    rw [Nat.zero_mul, Nat.zero_add]
    exact ⟨Nat.zero_le _, this⟩

/-- The kernel's own scratch taken out of the buffers the pipeline does not stage, to be put back. -/
theorem scratch1 : (Pipeline.scopedRest (Ix := HIx 1) (Name := ℕ) (U := UU) (Lvl := ℕ) (Val := Elt Ideal) spec1 c : sProp 𝕄)
    ⊢ iprop((∃ f : Buf (Elt Ideal) ((c : Thread nD τ).loc cc1_scratch0), ((c : Thread nD τ).loc cc1_scratch0) ↦{fullShare} f) ∗ (((∃ f : Buf (Elt Ideal) ((c : Thread nD τ).loc cc1_scratch0), ((c : Thread nD τ).loc cc1_scratch0) ↦{fullShare} f)) -∗ Pipeline.scopedRest (Ix := HIx 1) (Name := ℕ) (U := UU) (Lvl := ℕ) (Val := Elt Ideal) spec1 c)) := by
  rw [scopedRest1_eq]
  iintro ⟨H0, H1, H2, H3, H4, H5, H6, H7, H8, H9, H10, H11, H12, H13, H14⟩
  isplitl [H7]; · iexact H7
  iintro H7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body, from what the fetches left to what the write-backs take. -/
theorem obligation1 : BodyObligationLoose (dat1 O B c X0 X1 X2 X3) (defs₀ (F := Ideal)) 𝒱₀ (none : HIx 1) Set.univ := fun t => by
  rw [bigSep_W1, bigSep_W1]
  show iprop((dat1 O B c X0 X1 X2 X3).Φ t.castSucc ∗ (dat1 O B c X0 X1 X2 X3).owesAt none t.castSucc
      ∗ (∃ d, owns (c : Thread nD τ) (st1_0 t) fullShare ((dat1 O B c X0 X1 X2 X3).before 0 t d)) ∗ (∃ d, owns (c : Thread nD τ) (st1_1 t) fullShare ((dat1 O B c X0 X1 X2 X3).before 1 t d)) ∗ (∃ d, owns (c : Thread nD τ) (st1_2 t) fullShare ((dat1 O B c X0 X1 X2 X3).before 2 t d)) ∗ (∃ d, owns (c : Thread nD τ) (st1_3 t) fullShare ((dat1 O B c X0 X1 X2 X3).before 3 t d)))
    ⊢ wp frame (wpE (defs₀ (F := Ideal)) 𝒱₀ (c : Thread nD τ) none) Set.univ (bodyAt1 (F := Ideal) t) fun _ =>
      iprop((dat1 O B c X0 X1 X2 X3).Φ t.castSucc ∗ (dat1 O B c X0 X1 X2 X3).owesAt none t.castSucc
        ∗ owns (c : Thread nD τ) (st1_0 t) fullShare ((dat1 O B c X0 X1 X2 X3).after 0 t) ∗ owns (c : Thread nD τ) (st1_1 t) fullShare ((dat1 O B c X0 X1 X2 X3).after 1 t) ∗ owns (c : Thread nD τ) (st1_2 t) fullShare ((dat1 O B c X0 X1 X2 X3).after 2 t) ∗ owns (c : Thread nD τ) (st1_3 t) fullShare ((dat1 O B c X0 X1 X2 X3).after 3 t))
  rw [show (dat1 O B c X0 X1 X2 X3).Φ t.castSucc = Pipeline.scopedRest (Ix := HIx 1) (Name := ℕ) (U := UU) (Lvl := ℕ) (Val := Elt Ideal) spec1 c from rfl]
  iintro ⟨HΦ, Howes, ⟨%d0, H0⟩, ⟨%d1, H1⟩, ⟨%d2, H2⟩, ⟨%d3, H3⟩⟩
  ihave H0 := (Entails.of_eq (congrArg (owns (c : Thread nD τ) (st1_0 t) fullShare) (before1_0 O B c X0 X1 X2 X3 t d0))) $$ H0
  ihave HS := (scratch1 c) $$ HΦ
  icases HS with ⟨⟨%z0, Z0⟩, HΦ⟩
  ihave Z0 := (Entails.of_eq (owns_whole (c : Thread nD τ) cc1_scratch0 fullShare z0).symm) $$ Z0
  ihave HW := (chBody (F := Ideal) c (win1_0.stage (cfg1.slots t 0)) (hstage1_0 0) (win1_1.stage (cfg1.slots t 1)) (hstage1_1 0) (win1_2.stage (cfg1.slots t 2)) (hstage1_2 0) (win1_3.stage (cfg1.slots t 3)) (hstage1_3 0) (Memref.whole cc1_scratch0) (Memref.isWhole_whole _)
    X0 _ _ _ _) $$ [H0 H1 H2 H3 Z0]
  · isplitl [H0]; · iexact H0
    isplitl [H1]; · iexact H1
    isplitl [H2]; · iexact H2
    isplitl [H3]; · iexact H3
    iexact Z0
  iapply wp_wand $$ [$HW]
  iintro %r ⟨H0, H1, H2, H3, ⟨%y0, Z0⟩⟩
  ihave Z0 := (Entails.of_eq (owns_whole (c : Thread nD τ) cc1_scratch0 fullShare y0)) $$ Z0
  isplitl [HΦ Z0]
  · iapply HΦ $$ [Z0]
    iexists _; iexact Z0
  isplitl [Howes]; · iexact Howes
  isplitl [H0]
  · iapply (Entails.of_eq (congrArg (owns (c : Thread nD τ) (st1_0 t) fullShare) (after1_0 O B c X0 X1 X2 X3 t).symm)) $$ H0
  isplitl [H1]
  · iapply (Entails.of_eq (congrArg (owns (c : Thread nD τ) (st1_1 t) fullShare) (after1_1 O B c X0 X1 X2 X3 t).symm)) $$ H1
  isplitl [H2]
  · iapply (Entails.of_eq (congrArg (owns (c : Thread nD τ) (st1_2 t) fullShare) (after1_2 O B c X0 X1 X2 X3 t).symm)) $$ H2
  iapply (Entails.of_eq (congrArg (owns (c : Thread nD τ) (st1_3 t) fullShare) (after1_3 O B c X0 X1 X2 X3 t).symm)) $$ H3

end Cert.KernelIdeal.Hand
end
-- ==== Proof.BodyFinalize.lean ====
/-
  The kernel that picks the entries: the gathered rows' quarters laid side by side into the scratch by 64 stores, the
  loop of 64 trips by an invariant that names what the scratch and the carried lists hold before each trip, and the
  body from its staging buffers to its two results.
-/
module

public import proofs.«01_k».proof.Proof.Setup
public import Idealize.ShloMosaic.Lib.Pipeline.Value

@[expose] public section

noncomputable section

namespace Cert.KernelIdeal.Hand

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The quarters side by side -/

/-- Where the entry at row `r`, column `l` of the side-by-side layout comes from: row `256 (l / 32) + r`, column `l % 32`. -/
def srcIdx (i : S256x2048.Idx) : S16384x32.Idx
  | 0 => ⟨256 * ((i 1).val / 32) + (i 0).val, by
      have h0 : (i 0).val < 256 := (i 0).isLt
      have h1 : (i 1).val < 2048 := (i 1).isLt
      show _ < 16384
      omega⟩
  | 1 => ⟨(i 1).val % 32, by show _ < 32; omega⟩

/-- The quarters of all rows laid side by side. -/
def spread (sel : FVec F S16384x32 .f32) : FVec F S256x2048 .f32 := fun i => sel (srcIdx i)

/-- The first `n` column blocks hold their quarters. -/
def Filled (sel : FVec F S16384x32 .f32) (n : ℕ) (X : FVec F S256x2048 .f32) : Prop :=
  ∀ i : S256x2048.Idx, (i 1).val < 32 * n → X i = spread sel i

theorem Filled.zero (sel : FVec F S16384x32 .f32) (X : FVec F S256x2048 .f32) : Filled sel 0 X := fun i h => absurd h (by omega)

theorem Filled.full {sel : FVec F S16384x32 .f32} {X : FVec F S256x2048 .f32} (h : Filled sel 64 X) : X = spread sel :=
  funext fun i => h i (by have h1 : (i 1).val < 2048 := (i 1).isLt; omega)

/-- A store of block `n`'s quarter fills one more block. -/
theorem Filled.put {sel : FVec F S16384x32 .f32} {X : FVec F S256x2048 .f32} (n : ℕ) (hX : Filled sel n X)
    {w : ((a : Fin 2) → Fin (S256x32.size a)) → F .f32}
    (hs : S16384x32.Slices ![256 * n, 0] S256x32) (hw : w = shapeCast S256x32 (extractStridedSlice S256x32 ![256 * n, 0] sel hs) shapeCasts_S256x32_S256x32) :
    Filled sel (n + 1) (VecWindow.put X ![0, 32 * n] S256x32.size w) := by
  intro i hi
  have h0 : (i 0).val < 256 := (i 0).isLt
  unfold VecWindow.put
  split
  · rename_i h
    rw [hw, shapeCast_self]
    have h1 := h 1
    have e1 : (32 * n : ℕ) ≤ (i 1).val := h1.1
    unfold spread extractStridedSlice
    congr 1
    funext a
    apply Fin.ext
    fin_cases a
    · show 256 * n + ((i 0).val - 0) = 256 * ((i 1).val / 32) + (i 0).val
      omega
    · show 0 + ((i 1).val - 32 * n) = (i 1).val % 32
      omega
  · rename_i h
    refine hX i ?_
    by_contra hc
    refine h fun a => ?_
    fin_cases a
    · show 0 ≤ (i 0).val ∧ (i 0).val < 0 + 256
      omega
    · show 32 * n ≤ (i 1).val ∧ (i 1).val < 32 * n + 32
      omega

section

variable (c : Dev nD) (arg0 : Memref sig .tc .vmem S16384x128 .f32) (harg0 : arg0.IsWhole) (arg1 : Memref sig .tc .vmem S16384x1 .i32) (harg1 : arg1.IsWhole)
  (arg2 : Memref sig .tc .vmem S256x64 .i32) (harg2 : arg2.IsWhole) (arg3 : Memref sig .tc .vmem S256x64 .f32) (harg3 : arg3.IsWhole)
  (arg4 : Memref sig .tc .vmem S256x64 .i32) (harg4 : arg4.IsWhole) (arg5 : Memref sig .tc .vmem S256x2048 .f32) (harg5 : arg5.IsWhole)
  (arg6 : Memref sig .tc .vmem S256x2048 .i32) (harg6 : arg6.IsWhole)

/-- The scratch at some contents whose first `n` column blocks hold their quarters. -/
def filled (sel : FVec F S16384x32 .f32) (n : ℕ) : sProp 𝕄 :=
  iprop(∃ X : FVec F S256x2048 .f32, ⌜Filled sel n X⌝ ∗ owns (c : Thread nD τ) arg5 fullShare X)

theorem fiPart3 (v81 : FVec F S16384x32 .f32) :
    (filled c arg5 v81 0 : sProp 𝕄) ⊢ wp frame (wpE (defs₀ (F := F)) 𝒱₀ (c : Thread nD τ) none) Set.univ
      (k3_part3 arg0 harg0 arg1 harg1 arg2 harg2 arg3 harg3 arg4 harg4 arg5 harg5 arg6 harg6 v81 (extractStridedSlice S256x32 ![0, 0] v81 slices_S16384x32_o0_0_S256x32))
      (fun r => (iprop(⌜r = k3_pay17 v81⌝ ∗ filled c arg5 v81 9) : sProp 𝕄)) := by
  simp only [k3_part3_eq_skeleton]; unfold k3_part3_skel
  simp only [Prog.lift, Prog.bind_op, Prog.bind_ret, Prog.pure_eq_ret]
  unfold filled
  iintro ⟨%X, %hX, H⟩
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  rw [wp_ret]; imodintro
  isplitr; · ipureintro; rfl
  iexists _; isplitr
  swap; · iexact H
  ipureintro
  replace hX := hX.put 0 slices_S16384x32_o0_0_S256x32 rfl
  replace hX := hX.put 1 slices_S16384x32_o256_0_S256x32 rfl
  replace hX := hX.put 2 slices_S16384x32_o512_0_S256x32 rfl
  replace hX := hX.put 3 slices_S16384x32_o768_0_S256x32 rfl
  replace hX := hX.put 4 slices_S16384x32_o1024_0_S256x32 rfl
  replace hX := hX.put 5 slices_S16384x32_o1280_0_S256x32 rfl
  replace hX := hX.put 6 slices_S16384x32_o1536_0_S256x32 rfl
  replace hX := hX.put 7 slices_S16384x32_o1792_0_S256x32 rfl
  replace hX := hX.put 8 slices_S16384x32_o2048_0_S256x32 rfl
  exact hX

theorem fiPart4 (v81 : FVec F S16384x32 .f32) :
    (filled c arg5 v81 9 : sProp 𝕄) ⊢ wp frame (wpE (defs₀ (F := F)) 𝒱₀ (c : Thread nD τ) none) Set.univ
      (k3_part4 arg0 harg0 arg1 harg1 arg2 harg2 arg3 harg3 arg4 harg4 arg5 harg5 arg6 harg6 v81 (k3_pay17 v81))
      (fun r => (iprop(⌜r = k3_pay26 v81⌝ ∗ filled c arg5 v81 17) : sProp 𝕄)) := by
  simp only [k3_part4_eq_skeleton]; unfold k3_part4_skel
  simp only [Prog.lift, Prog.bind_op, Prog.bind_ret, Prog.pure_eq_ret]
  unfold filled
  iintro ⟨%X, %hX, H⟩
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  rw [wp_ret]; imodintro
  isplitr; · ipureintro; rfl
  iexists _; isplitr
  swap; · iexact H
  ipureintro
  replace hX := hX.put 9 slices_S16384x32_o2304_0_S256x32 rfl
  replace hX := hX.put 10 slices_S16384x32_o2560_0_S256x32 rfl
  replace hX := hX.put 11 slices_S16384x32_o2816_0_S256x32 rfl
  replace hX := hX.put 12 slices_S16384x32_o3072_0_S256x32 rfl
  replace hX := hX.put 13 slices_S16384x32_o3328_0_S256x32 rfl
  replace hX := hX.put 14 slices_S16384x32_o3584_0_S256x32 rfl
  replace hX := hX.put 15 slices_S16384x32_o3840_0_S256x32 rfl
  replace hX := hX.put 16 slices_S16384x32_o4096_0_S256x32 rfl
  exact hX

theorem fiPart5 (v81 : FVec F S16384x32 .f32) :
    (filled c arg5 v81 17 : sProp 𝕄) ⊢ wp frame (wpE (defs₀ (F := F)) 𝒱₀ (c : Thread nD τ) none) Set.univ
      (k3_part5 arg0 harg0 arg1 harg1 arg2 harg2 arg3 harg3 arg4 harg4 arg5 harg5 arg6 harg6 v81 (k3_pay26 v81))
      (fun r => (iprop(⌜r = k3_pay35 v81⌝ ∗ filled c arg5 v81 26) : sProp 𝕄)) := by
  simp only [k3_part5_eq_skeleton]; unfold k3_part5_skel
  simp only [Prog.lift, Prog.bind_op, Prog.bind_ret, Prog.pure_eq_ret]
  unfold filled
  iintro ⟨%X, %hX, H⟩
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  rw [wp_ret]; imodintro
  isplitr; · ipureintro; rfl
  iexists _; isplitr
  swap; · iexact H
  ipureintro
  replace hX := hX.put 17 slices_S16384x32_o4352_0_S256x32 rfl
  replace hX := hX.put 18 slices_S16384x32_o4608_0_S256x32 rfl
  replace hX := hX.put 19 slices_S16384x32_o4864_0_S256x32 rfl
  replace hX := hX.put 20 slices_S16384x32_o5120_0_S256x32 rfl
  replace hX := hX.put 21 slices_S16384x32_o5376_0_S256x32 rfl
  replace hX := hX.put 22 slices_S16384x32_o5632_0_S256x32 rfl
  replace hX := hX.put 23 slices_S16384x32_o5888_0_S256x32 rfl
  replace hX := hX.put 24 slices_S16384x32_o6144_0_S256x32 rfl
  replace hX := hX.put 25 slices_S16384x32_o6400_0_S256x32 rfl
  exact hX

theorem fiPart6 (v81 : FVec F S16384x32 .f32) :
    (filled c arg5 v81 26 : sProp 𝕄) ⊢ wp frame (wpE (defs₀ (F := F)) 𝒱₀ (c : Thread nD τ) none) Set.univ
      (k3_part6 arg0 harg0 arg1 harg1 arg2 harg2 arg3 harg3 arg4 harg4 arg5 harg5 arg6 harg6 v81 (k3_pay35 v81))
      (fun r => (iprop(⌜r = PUnit.unit⌝ ∗ filled c arg5 v81 35) : sProp 𝕄)) := by
  simp only [k3_part6_eq_skeleton]; unfold k3_part6_skel
  simp only [Prog.lift, Prog.bind_op, Prog.bind_ret, Prog.pure_eq_ret]
  unfold filled
  iintro ⟨%X, %hX, H⟩
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  rw [wp_ret]; imodintro
  isplitr; · ipureintro; trivial
  iexists _; isplitr
  swap; · iexact H
  ipureintro
  replace hX := hX.put 26 slices_S16384x32_o6656_0_S256x32 rfl
  replace hX := hX.put 27 slices_S16384x32_o6912_0_S256x32 rfl
  replace hX := hX.put 28 slices_S16384x32_o7168_0_S256x32 rfl
  replace hX := hX.put 29 slices_S16384x32_o7424_0_S256x32 rfl
  replace hX := hX.put 30 slices_S16384x32_o7680_0_S256x32 rfl
  replace hX := hX.put 31 slices_S16384x32_o7936_0_S256x32 rfl
  replace hX := hX.put 32 slices_S16384x32_o8192_0_S256x32 rfl
  replace hX := hX.put 33 slices_S16384x32_o8448_0_S256x32 rfl
  replace hX := hX.put 34 slices_S16384x32_o8704_0_S256x32 rfl
  exact hX

theorem fiPart7 (v81 : FVec F S16384x32 .f32) :
    (filled c arg5 v81 35 : sProp 𝕄) ⊢ wp frame (wpE (defs₀ (F := F)) 𝒱₀ (c : Thread nD τ) none) Set.univ
      (k3_part7 arg0 harg0 arg1 harg1 arg2 harg2 arg3 harg3 arg4 harg4 arg5 harg5 arg6 harg6 v81)
      (fun r => (iprop(⌜r.1 = k3_pay53 v81⌝ ∗ filled c arg5 v81 43) : sProp 𝕄)) := by
  simp only [k3_part7_eq_skeleton]; unfold k3_part7_skel
  simp only [Prog.lift, Prog.bind_op, Prog.bind_ret, Prog.pure_eq_ret]
  unfold filled
  iintro ⟨%X, %hX, H⟩
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  rw [wp_ret]; imodintro
  isplitr; · ipureintro; rfl
  iexists _; isplitr
  swap; · iexact H
  ipureintro
  replace hX := hX.put 35 slices_S16384x32_o8960_0_S256x32 rfl
  replace hX := hX.put 36 slices_S16384x32_o9216_0_S256x32 rfl
  replace hX := hX.put 37 slices_S16384x32_o9472_0_S256x32 rfl
  replace hX := hX.put 38 slices_S16384x32_o9728_0_S256x32 rfl
  replace hX := hX.put 39 slices_S16384x32_o9984_0_S256x32 rfl
  replace hX := hX.put 40 slices_S16384x32_o10240_0_S256x32 rfl
  replace hX := hX.put 41 slices_S16384x32_o10496_0_S256x32 rfl
  replace hX := hX.put 42 slices_S16384x32_o10752_0_S256x32 rfl
  exact hX

theorem fiPart8 (v81 : FVec F S16384x32 .f32) (w : Vec F S256x32 .f32) :
    (filled c arg5 v81 43 : sProp 𝕄) ⊢ wp frame (wpE (defs₀ (F := F)) 𝒱₀ (c : Thread nD τ) none) Set.univ
      (k3_part8 arg0 harg0 arg1 harg1 arg2 harg2 arg3 harg3 arg4 harg4 arg5 harg5 arg6 harg6 v81 (k3_pay53 v81) w)
      (fun r => (iprop(⌜r = k3_pay63 v81⌝ ∗ filled c arg5 v81 52) : sProp 𝕄)) := by
  simp only [k3_part8_eq_skeleton]; unfold k3_part8_skel
  simp only [Prog.lift, Prog.bind_op, Prog.bind_ret, Prog.pure_eq_ret]
  unfold filled
  iintro ⟨%X, %hX, H⟩
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  rw [wp_ret]; imodintro
  isplitr; · ipureintro; rfl
  iexists _; isplitr
  swap; · iexact H
  ipureintro
  replace hX := hX.put 43 slices_S16384x32_o11008_0_S256x32 rfl
  replace hX := hX.put 44 slices_S16384x32_o11264_0_S256x32 rfl
  replace hX := hX.put 45 slices_S16384x32_o11520_0_S256x32 rfl
  replace hX := hX.put 46 slices_S16384x32_o11776_0_S256x32 rfl
  replace hX := hX.put 47 slices_S16384x32_o12032_0_S256x32 rfl
  replace hX := hX.put 48 slices_S16384x32_o12288_0_S256x32 rfl
  replace hX := hX.put 49 slices_S16384x32_o12544_0_S256x32 rfl
  replace hX := hX.put 50 slices_S16384x32_o12800_0_S256x32 rfl
  replace hX := hX.put 51 slices_S16384x32_o13056_0_S256x32 rfl
  exact hX

theorem fiPart9 (v81 : FVec F S16384x32 .f32) :
    (filled c arg5 v81 52 : sProp 𝕄) ⊢ wp frame (wpE (defs₀ (F := F)) 𝒱₀ (c : Thread nD τ) none) Set.univ
      (k3_part9 arg0 harg0 arg1 harg1 arg2 harg2 arg3 harg3 arg4 harg4 arg5 harg5 arg6 harg6 v81 (k3_pay63 v81))
      (fun r => (iprop(⌜r = k3_pay72 v81⌝ ∗ filled c arg5 v81 60) : sProp 𝕄)) := by
  simp only [k3_part9_eq_skeleton]; unfold k3_part9_skel
  simp only [Prog.lift, Prog.bind_op, Prog.bind_ret, Prog.pure_eq_ret]
  unfold filled
  iintro ⟨%X, %hX, H⟩
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  iapply (wp_storeWin (c : Thread nD τ) none) $$ H; iintro H
  iapply (wp_loadWin (c : Thread nD τ) none) $$ H; iintro H
  rw [wp_ret]; imodintro
  isplitr; · ipureintro; rfl
  iexists _; isplitr
  swap; · iexact H
  ipureintro
  replace hX := hX.put 52 slices_S16384x32_o13312_0_S256x32 rfl
  replace hX := hX.put 53 slices_S16384x32_o13568_0_S256x32 rfl
  replace hX := hX.put 54 slices_S16384x32_o13824_0_S256x32 rfl
  replace hX := hX.put 55 slices_S16384x32_o14080_0_S256x32 rfl
  replace hX := hX.put 56 slices_S16384x32_o14336_0_S256x32 rfl
  replace hX := hX.put 57 slices_S16384x32_o14592_0_S256x32 rfl
  replace hX := hX.put 58 slices_S16384x32_o14848_0_S256x32 rfl
  replace hX := hX.put 59 slices_S16384x32_o15104_0_S256x32 rfl
  exact hX

/-! ## The parts before and after -/

/-- The original index of every entry of the side-by-side layout, from the chunk numbers. -/
def fiOrig (ids : IVec S256x64 32) : IVec S256x2048 32 :=
  k3_pay5 (k3_pay1 (F := F) ids) (Scalar.select (Scalar.cmpi .eq 32#32 0#32) 1#32 32#32) k3_pay2 k3_pay3 k3_pay4

/-- The quarter each gathered row gives, from the rows and the quarters' numbers. -/
def fiSel (rows : FVec F S16384x128 .f32) (off : IVec S16384x1 32) : FVec F S16384x32 .f32 :=
  k3_pay6 off (VecWindow.window rows ![0, 96] S16384x32.size inb_S16384x128_S16384x32_0_96)
    (VecWindow.window rows ![0, 64] S16384x32.size inb_S16384x128_S16384x32_0_64)
    (VecWindow.window rows ![0, 32] S16384x32.size inb_S16384x128_S16384x32_0_32)
    (VecWindow.window rows ![0, 0] S16384x32.size inb_S16384x128_S16384x32_0_0)

theorem fiPart1 (X2 : IVec S256x64 32) :
    (owns (c : Thread nD τ) arg2 fullShare X2 : sProp 𝕄) ⊢ wp frame (wpE (defs₀ (F := F)) 𝒱₀ (c : Thread nD τ) none) Set.univ
      (k3_part1 arg0 harg0 arg1 harg1 arg2 harg2 arg3 harg3 arg4 harg4 arg5 harg5 arg6 harg6)
      (fun r => (iprop(⌜r = ⟨k3_pay1 (F := F) X2, Scalar.select (Scalar.cmpi .eq 32#32 0#32) 1#32 32#32, k3_pay2, k3_pay3, k3_pay4⟩⌝
        ∗ owns (c : Thread nD τ) arg2 fullShare X2) : sProp 𝕄)) := by
  simp only [k3_part1_eq_skeleton]; unfold k3_part1_skel
  simp only [Prog.lift, Prog.bind_op, Prog.bind_ret, Prog.pure_eq_ret]
  iintro H
  iapply (wp_loadOwn (c : Thread nD τ) none) $$ H; iintro H
  rw [wp_ret]; imodintro
  isplitr; · ipureintro; rfl
  iexact H

theorem fiPart2 (X0 : FVec F S16384x128 .f32) (X1 : IVec S16384x1 32) (X2 : IVec S256x64 32) (Y5 : FVec F S256x2048 .f32) (Y6 : IVec S256x2048 32) :
    iprop(owns (c : Thread nD τ) arg0 fullShare X0 ∗ owns (c : Thread nD τ) arg1 fullShare X1 ∗ owns (c : Thread nD τ) arg5 fullShare Y5
        ∗ owns (c : Thread nD τ) arg6 fullShare Y6)
      ⊢ wp frame (wpE (defs₀ (F := F)) 𝒱₀ (c : Thread nD τ) none) Set.univ
      (k3_part2 arg0 harg0 arg1 harg1 arg2 harg2 arg3 harg3 arg4 harg4 arg5 harg5 arg6 harg6
        (k3_pay1 (F := F) X2) (Scalar.select (Scalar.cmpi .eq 32#32 0#32) 1#32 32#32) k3_pay2 k3_pay3 k3_pay4)
      (fun r => (iprop(⌜r = ⟨fiSel X0 X1, extractStridedSlice S256x32 ![0, 0] (fiSel X0 X1) slices_S16384x32_o0_0_S256x32⟩⌝
        ∗ owns (c : Thread nD τ) arg0 fullShare X0 ∗ owns (c : Thread nD τ) arg1 fullShare X1 ∗ owns (c : Thread nD τ) arg5 fullShare Y5
        ∗ owns (c : Thread nD τ) arg6 fullShare (fiOrig (F := F) X2)) : sProp 𝕄)) := by
  simp only [k3_part2_eq_skeleton]; unfold k3_part2_skel
  simp only [Prog.lift, Prog.bind_op, Prog.bind_ret, Prog.pure_eq_ret]
  iintro ⟨H0, H1, H5, H6⟩
  iapply (wp_loadOwn (c : Thread nD τ) none) $$ H6; iintro H6
  iapply (wp_storeOwn (c : Thread nD τ) none) $$ H6; iintro H6
  iapply (wp_loadOwn (c : Thread nD τ) none) $$ H1; iintro H1
  iapply (wp_loadWin (c : Thread nD τ) none) $$ H0; iintro H0
  iapply (wp_loadWin (c : Thread nD τ) none) $$ H0; iintro H0
  iapply (wp_loadWin (c : Thread nD τ) none) $$ H0; iintro H0
  iapply (wp_loadWin (c : Thread nD τ) none) $$ H0; iintro H0
  iapply (wp_loadWin (c : Thread nD τ) none) $$ H5; iintro H5
  rw [wp_ret]; imodintro
  isplitr; · ipureintro; rfl
  isplitl [H0]; · iexact H0
  isplitl [H1]; · iexact H1
  isplitl [H5]; · iexact H5
  iexact H6

/-! ## The loop -/

/-- What the scratch and the two carried lists hold before trip `k`, from the entries `V` and their original indices `N`. -/
def fiSt (V : FVec F S256x2048 .f32) (N : IVec S256x2048 32) : ℕ → FVec F S256x2048 .f32 × (FVec F S256x64 .f32 × IVec S256x64 32)
  | 0 => (V, k3_pay77, k3_pay78)
  | k + 1 => if h : k < k3_t1_loop.trips then
      (k3_pay82 (fiSt V N k).1 N, k3_pay83 ⟨k, h⟩ (fiSt V N k).2.1 (fiSt V N k).1, k3_pay84 ⟨k, h⟩ (fiSt V N k).2.2 (fiSt V N k).1 N)
    else fiSt V N k

theorem fiSt_succ (V : FVec F S256x2048 .f32) (N : IVec S256x2048 32) (k : Fin k3_t1_loop.trips) :
    fiSt V N (k.val + 1) = (k3_pay82 (fiSt V N k.val).1 N, k3_pay83 k (fiSt V N k.val).2.1 (fiSt V N k.val).1, k3_pay84 k (fiSt V N k.val).2.2 (fiSt V N k.val).1 N) := by
  rw [fiSt, dif_pos k.isLt]

/-- The values and the indices the loop ends with. -/
def fiVals (V : FVec F S256x2048 .f32) (N : IVec S256x2048 32) : FVec F S256x64 .f32 := (fiSt V N k3_t1_loop.trips).2.1
def fiIdx (V : FVec F S256x2048 .f32) (N : IVec S256x2048 32) : IVec S256x64 32 := (fiSt V N k3_t1_loop.trips).2.2

def fiInv (V : FVec F S256x2048 .f32) (N : IVec S256x2048 32) (k : ℕ) (acc : FVec F S256x64 .f32 × IVec S256x64 32) : sProp 𝕄 :=
  iprop(⌜acc = (fiSt V N k).2⌝ ∗ owns (c : Thread nD τ) arg5 fullShare (fiSt V N k).1 ∗ owns (c : Thread nD τ) arg6 fullShare N)

theorem fiTrip (V : FVec F S256x2048 .f32) (N : IVec S256x2048 32) (k : Fin k3_t1_loop.trips) (acc : FVec F S256x64 .f32 × IVec S256x64 32) :
    fiInv c arg5 arg6 V N k.val acc ⊢ wp frame (wpE (defs₀ (F := F)) 𝒱₀ (c : Thread nD τ) none) Set.univ
      (k3_t1_body arg0 harg0 arg1 harg1 arg2 harg2 arg3 harg3 arg4 harg4 arg5 harg5 arg6 harg6 k acc) (fiInv c arg5 arg6 V N (k.val + 1)) := by
  unfold k3_t1_body fiInv
  simp only [Prog.lift, Prog.bind_op, Prog.bind_ret, Prog.pure_eq_ret]
  iintro ⟨%hacc, H5, H6⟩
  subst hacc
  iapply (wp_loadOwn (c : Thread nD τ) none) $$ H5; iintro H5
  iapply (wp_loadOwn (c : Thread nD τ) none) $$ H6; iintro H6
  iapply (wp_loadOwn (c : Thread nD τ) none) $$ H5; iintro H5
  iapply (wp_storeOwn (c : Thread nD τ) none) $$ H5; iintro H5
  rw [wp_ret, fiSt_succ]; imodintro
  isplitr; · ipureintro; rfl
  isplitl [H5]; · iexact H5
  iexact H6

/-! ## The body -/

/-- The entries the loop starts from. -/
def fiV (X0 : FVec F S16384x128 .f32) (X1 : IVec S16384x1 32) : FVec F S256x2048 .f32 := spread (fiSel X0 X1)

/-- The two results, from the gathered rows, the quarters' numbers and the chunk numbers. -/
def fiProbs (X0 : FVec F S16384x128 .f32) (X1 : IVec S16384x1 32) (X2 : IVec S256x64 32) : FVec F S256x64 .f32 :=
  k3_pay85 (fiVals (fiV X0 X1) (fiOrig (F := F) X2))
def fiOut (X0 : FVec F S16384x128 .f32) (X1 : IVec S16384x1 32) (X2 : IVec S256x64 32) : IVec S256x64 32 :=
  fiIdx (fiV X0 X1) (fiOrig (F := F) X2)

theorem fiPart10 (X0 : FVec F S16384x128 .f32) (X1 : IVec S16384x1 32) (X2 : IVec S256x64 32) (Y3 : FVec F S256x64 .f32)
    (Y5 : FVec F S256x2048 .f32) (Y6 : IVec S256x2048 32) :
    iprop(owns (c : Thread nD τ) arg0 fullShare X0 ∗ owns (c : Thread nD τ) arg1 fullShare X1 ∗ owns (c : Thread nD τ) arg2 fullShare X2
        ∗ owns (c : Thread nD τ) arg3 fullShare Y3 ∗ owns (c : Thread nD τ) arg5 fullShare Y5 ∗ owns (c : Thread nD τ) arg6 fullShare Y6)
      ⊢ wp frame (wpE (defs₀ (F := F)) 𝒱₀ (c : Thread nD τ) none) Set.univ
      (k3_part10 arg0 harg0 arg1 harg1 arg2 harg2 arg3 harg3 arg4 harg4 arg5 harg5 arg6 harg6)
      (fun r => (iprop(⌜r = fiOut X0 X1 X2⌝ ∗ owns (c : Thread nD τ) arg0 fullShare X0 ∗ owns (c : Thread nD τ) arg1 fullShare X1
        ∗ owns (c : Thread nD τ) arg2 fullShare X2 ∗ owns (c : Thread nD τ) arg3 fullShare (fiProbs X0 X1 X2)
        ∗ (∃ Z, owns (c : Thread nD τ) arg5 fullShare Z) ∗ (∃ Z, owns (c : Thread nD τ) arg6 fullShare Z)) : sProp 𝕄)) := by
  simp only [k3_part10_eq_skeleton]; unfold k3_part10_skel
  iintro ⟨H0, H1, H2, H3, H5, H6⟩
  rw [wp_bind]
  ihave HW := (fiPart1 c arg0 harg0 arg1 harg1 arg2 harg2 arg3 harg3 arg4 harg4 arg5 harg5 arg6 harg6 X2) $$ H2
  iapply wp_wand $$ [$HW]
  iintro %r ⟨%hr, H2⟩; subst hr
  rw [wp_bind]
  ihave HW := (fiPart2 c arg0 harg0 arg1 harg1 arg2 harg2 arg3 harg3 arg4 harg4 arg5 harg5 arg6 harg6 X0 X1 X2 Y5 Y6) $$ [$H0 $H1 $H5 $H6]
  iapply wp_wand $$ [$HW]
  iintro %r ⟨%hr, H0, H1, H5, H6⟩; subst hr
  rw [wp_bind]
  ihave HW := (fiPart3 c arg0 harg0 arg1 harg1 arg2 harg2 arg3 harg3 arg4 harg4 arg5 harg5 arg6 harg6 (fiSel X0 X1)) $$ [H5]
  · unfold filled; iexists Y5; isplitr; · ipureintro; exact Filled.zero (fiSel X0 X1) Y5
    iexact H5
  iapply wp_wand $$ [$HW]
  iintro %r ⟨%hr, H5⟩; subst hr
  rw [wp_bind]
  ihave HW := (fiPart4 c arg0 harg0 arg1 harg1 arg2 harg2 arg3 harg3 arg4 harg4 arg5 harg5 arg6 harg6 (fiSel X0 X1)) $$ H5
  iapply wp_wand $$ [$HW]
  iintro %r ⟨%hr, H5⟩; subst hr
  rw [wp_bind]
  ihave HW := (fiPart5 c arg0 harg0 arg1 harg1 arg2 harg2 arg3 harg3 arg4 harg4 arg5 harg5 arg6 harg6 (fiSel X0 X1)) $$ H5
  iapply wp_wand $$ [$HW]
  iintro %r ⟨%hr, H5⟩; subst hr
  rw [wp_bind]
  ihave HW := (fiPart6 c arg0 harg0 arg1 harg1 arg2 harg2 arg3 harg3 arg4 harg4 arg5 harg5 arg6 harg6 (fiSel X0 X1)) $$ H5
  iapply wp_wand $$ [$HW]
  iintro %r ⟨%hr, H5⟩; subst hr
  rw [wp_bind]
  ihave HW := (fiPart7 c arg0 harg0 arg1 harg1 arg2 harg2 arg3 harg3 arg4 harg4 arg5 harg5 arg6 harg6 (fiSel X0 X1)) $$ H5
  iapply wp_wand $$ [$HW]
  iintro %r ⟨%hr, H5⟩
  obtain ⟨r1, r2⟩ := r; dsimp only at hr; subst hr
  rw [wp_bind]
  ihave HW := (fiPart8 c arg0 harg0 arg1 harg1 arg2 harg2 arg3 harg3 arg4 harg4 arg5 harg5 arg6 harg6 (fiSel X0 X1) r2) $$ H5
  iapply wp_wand $$ [$HW]
  iintro %r ⟨%hr, H5⟩; subst hr
  rw [wp_bind]
  ihave HW := (fiPart9 c arg0 harg0 arg1 harg1 arg2 harg2 arg3 harg3 arg4 harg4 arg5 harg5 arg6 harg6 (fiSel X0 X1)) $$ H5
  iapply wp_wand $$ [$HW]
  iintro %r ⟨%hr, H5⟩; subst hr
  unfold filled; icases H5 with ⟨%X, %hX, H5⟩
  simp only [Prog.lift, Prog.bind_op, Prog.bind_ret, Prog.pure_eq_ret]
  iapply (wp_storeWin (c : Thread nD τ) none) $$ H5; iintro H5
  iapply (wp_loadWin (c : Thread nD τ) none) $$ H5; iintro H5
  iapply (wp_storeWin (c : Thread nD τ) none) $$ H5; iintro H5
  iapply (wp_loadWin (c : Thread nD τ) none) $$ H5; iintro H5
  iapply (wp_storeWin (c : Thread nD τ) none) $$ H5; iintro H5
  iapply (wp_loadWin (c : Thread nD τ) none) $$ H5; iintro H5
  iapply (wp_storeWin (c : Thread nD τ) none) $$ H5; iintro H5
  replace hX := hX.put 60 slices_S16384x32_o15360_0_S256x32 rfl
  replace hX := hX.put 61 slices_S16384x32_o15616_0_S256x32 rfl
  replace hX := hX.put 62 slices_S16384x32_o15872_0_S256x32 rfl
  replace hX := hX.put 63 slices_S16384x32_o16128_0_S256x32 rfl
  have e := hX.full
  iapply (Scf.wp_for_bind frame (wpE (defs₀ (F := F)) 𝒱₀ (c : Thread nD τ) none) Set.univ k3_t1_loop.lb k3_t1_loop.ub k3_t1_loop.st k3_t1_ok _ _
    (fiInv c arg5 arg6 (fiV X0 X1) (fiOrig (F := F) X2))
    (fiTrip c arg0 harg0 arg1 harg1 arg2 harg2 arg3 harg3 arg4 harg4 arg5 harg5 arg6 harg6 (fiV X0 X1) (fiOrig (F := F) X2))) $$ [H5 H6]
  · unfold fiInv
    isplitr; · ipureintro; rfl
    isplitl [H5]
    · iapply (Entails.of_eq (congrArg (owns (c : Thread nD τ) arg5 fullShare) e)) $$ H5
    iexact H6
  iintro %acc HI
  unfold fiInv; icases HI with ⟨%hacc, H5, H6⟩
  subst hacc
  iapply (wp_loadOwn (c : Thread nD τ) none) $$ H3; iintro H3
  iapply (wp_storeOwn (c : Thread nD τ) none) $$ H3; iintro H3
  rw [wp_ret]; imodintro
  isplitr; · ipureintro; rfl
  isplitl [H0]; · iexact H0
  isplitl [H1]; · iexact H1
  isplitl [H2]; · iexact H2
  isplitl [H3]; · iexact H3
  isplitl [H5]; · iexists _; iexact H5
  iexists _; iexact H6

theorem fiBody (X0 : FVec F S16384x128 .f32) (X1 : IVec S16384x1 32) (X2 : IVec S256x64 32) (Y3 : FVec F S256x64 .f32) (Y4 : IVec S256x64 32)
    (Y5 : FVec F S256x2048 .f32) (Y6 : IVec S256x2048 32) :
    iprop(owns (c : Thread nD τ) arg0 fullShare X0 ∗ owns (c : Thread nD τ) arg1 fullShare X1 ∗ owns (c : Thread nD τ) arg2 fullShare X2
        ∗ owns (c : Thread nD τ) arg3 fullShare Y3 ∗ owns (c : Thread nD τ) arg4 fullShare Y4
        ∗ owns (c : Thread nD τ) arg5 fullShare Y5 ∗ owns (c : Thread nD τ) arg6 fullShare Y6)
      ⊢ wp frame (wpE (defs₀ (F := F)) 𝒱₀ (c : Thread nD τ) none) Set.univ
      (cc3__k4_body arg0 harg0 arg1 harg1 arg2 harg2 arg3 harg3 arg4 harg4 arg5 harg5 arg6 harg6)
      (fun _ => (iprop(owns (c : Thread nD τ) arg0 fullShare X0 ∗ owns (c : Thread nD τ) arg1 fullShare X1
        ∗ owns (c : Thread nD τ) arg2 fullShare X2 ∗ owns (c : Thread nD τ) arg3 fullShare (fiProbs X0 X1 X2)
        ∗ owns (c : Thread nD τ) arg4 fullShare (fiOut X0 X1 X2)
        ∗ (∃ Z, owns (c : Thread nD τ) arg5 fullShare Z) ∗ (∃ Z, owns (c : Thread nD τ) arg6 fullShare Z)) : sProp 𝕄)) := by
  simp only [cc3__k4_body_eq_skeleton]; unfold cc3__k4_body_skel
  iintro ⟨H0, H1, H2, H3, H4, H5, H6⟩
  rw [wp_bind]
  ihave HW := (fiPart10 c arg0 harg0 arg1 harg1 arg2 harg2 arg3 harg3 arg4 harg4 arg5 harg5 arg6 harg6 X0 X1 X2 Y3 Y5 Y6) $$ [$H0 $H1 $H2 $H3 $H5 $H6]
  iapply wp_wand $$ [$HW]
  iintro %r ⟨%hr, H0, H1, H2, H3, H5, H6⟩; subst hr
  simp only [Prog.lift, Prog.bind_op, Prog.bind_ret, Prog.pure_eq_ret]
  iapply (wp_loadOwn (c : Thread nD τ) none) $$ H4; iintro H4
  iapply (wp_storeOwn (c : Thread nD τ) none) $$ H4; iintro H4
  rw [wp_ret]; imodintro
  isplitl [H0]; · iexact H0
  isplitl [H1]; · iexact H1
  isplitl [H2]; · iexact H2
  isplitl [H3]; · iexact H3
  isplitl [H4]; · iexact H4
  isplitl [H5]; · iexact H5
  iexact H6

end

end Cert.KernelIdeal.Hand

end
-- ==== Proof.PipeFinalize.lean ====
module
public import proofs.«01_k».proof.Proof.BodyFinalize
public import Idealize.ShloMosaic.Lib.ValueIdx
public import Idealize.ShloMosaic.Lib.Pipeline.Value
public import Idealize.ShloMosaic.Lib.Pipeline.RegionArrays
@[expose] public section
noncomputable section

/-!
  The last kernel's pipeline: a single point over whole arrays.
-/

namespace Cert.KernelIdeal.Hand
open Cert.KernelIdeal Cert.KernelIdeal.Gen
open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

local notation "𝕄" => MT nD τ sig (HIx 1) (Elt Ideal) ℕ UU ℕ

variable (O : CellTallies nD τ sig (HIx 1)) (B : Set (SemLoc sig × HIx 1)) (c : Dev nD)
variable (X0 : Buf (Elt Ideal) ((c : Thread nD τ).loc main_v7)) (X1 : Buf (Elt Ideal) ((c : Thread nD τ).loc main_v9)) (X2 : Buf (Elt Ideal) ((c : Thread nD τ).loc main_v3_0)) (X3 : Buf (Elt Ideal) ((c : Thread nD τ).loc main_v10_0)) (X4 : Buf (Elt Ideal) ((c : Thread nD τ).loc main_v10_1))

/-- The proof data of this pipeline: one grid point, every window a whole array. -/
def dat3 : Dat τ (Elt Ideal) (HIx 1) ℕ UU ℕ cfg3 c where
  A w := match w with
    | ⟨0, _⟩ => X0
    | ⟨1, _⟩ => X1
    | ⟨2, _⟩ => X2
    | ⟨3, _⟩ => X3
    | ⟨4, _⟩ => X4
  after w _ := match w with
    | ⟨0, _⟩ => (X0 : S16384x128.Idx → Elt Ideal .f32)
    | ⟨1, _⟩ => (X1 : S16384x1.Idx → Elt Ideal .i32)
    | ⟨2, _⟩ => (X2 : S256x64.Idx → Elt Ideal .i32)
    | ⟨3, _⟩ => ((fiProbs (F := Ideal) X0 X1 X2) : S256x64.Idx → Elt Ideal .f32)
    | ⟨4, _⟩ => ((fiOut (F := Ideal) X0 X1 X2) : S256x64.Idx → Elt Ideal .i32)
  Φ _ := Pipeline.scopedRest (Ix := HIx 1) (Name := ℕ) (U := UU) (Lvl := ℕ) (Val := Elt Ideal) spec3 c
  q _ := fullShare
  owed _ := O
  recorded _ := B

theorem after3_0 (t : Fin cfg3.N) : (dat3 O B c X0 X1 X2 X3 X4).after 0 t = (X0 : S16384x128.Idx → Elt Ideal .f32) := by dsimp only [dat3]

theorem read3_0 (t : Fin cfg3.N) (f : S16384x128.Idx → Elt Ideal .f32) : (win3_0.blk t).view.read (Elt Ideal) f = f := by
  funext j
  show f ((win3_0.rect t).emb j) = f j
  congr 1
  funext a; apply Fin.ext
  show 0 * _ + 1 * (j a).val = (j a).val
  omega

theorem before3_0 (t : Fin cfg3.N) (d : (cfg3.win 0).block.Idx → Elt Ideal (cfg3.win 0).elt) :
    (dat3 O B c X0 X1 X2 X3 X4).before 0 t d = (X0 : S16384x128.Idx → Elt Ideal .f32) := by
  unfold Dat.before
  rw [if_pos (fetch3_0 t)]
  exact read3_0 t X0

theorem after3_1 (t : Fin cfg3.N) : (dat3 O B c X0 X1 X2 X3 X4).after 1 t = (X1 : S16384x1.Idx → Elt Ideal .i32) := by dsimp only [dat3]

theorem read3_1 (t : Fin cfg3.N) (f : S16384x1.Idx → Elt Ideal .i32) : (win3_1.blk t).view.read (Elt Ideal) f = f := by
  funext j
  show f ((win3_1.rect t).emb j) = f j
  congr 1
  funext a; apply Fin.ext
  show 0 * _ + 1 * (j a).val = (j a).val
  omega

theorem before3_1 (t : Fin cfg3.N) (d : (cfg3.win 1).block.Idx → Elt Ideal (cfg3.win 1).elt) :
    (dat3 O B c X0 X1 X2 X3 X4).before 1 t d = (X1 : S16384x1.Idx → Elt Ideal .i32) := by
  unfold Dat.before
  rw [if_pos (fetch3_1 t)]
  exact read3_1 t X1

theorem after3_2 (t : Fin cfg3.N) : (dat3 O B c X0 X1 X2 X3 X4).after 2 t = (X2 : S256x64.Idx → Elt Ideal .i32) := by dsimp only [dat3]

theorem read3_2 (t : Fin cfg3.N) (f : S256x64.Idx → Elt Ideal .i32) : (win3_2.blk t).view.read (Elt Ideal) f = f := by
  funext j
  show f ((win3_2.rect t).emb j) = f j
  congr 1
  funext a; apply Fin.ext
  show 0 * _ + 1 * (j a).val = (j a).val
  omega

theorem before3_2 (t : Fin cfg3.N) (d : (cfg3.win 2).block.Idx → Elt Ideal (cfg3.win 2).elt) :
    (dat3 O B c X0 X1 X2 X3 X4).before 2 t d = (X2 : S256x64.Idx → Elt Ideal .i32) := by
  unfold Dat.before
  rw [if_pos (fetch3_2 t)]
  exact read3_2 t X2

theorem after3_3 (t : Fin cfg3.N) : (dat3 O B c X0 X1 X2 X3 X4).after 3 t = ((fiProbs (F := Ideal) X0 X1 X2) : S256x64.Idx → Elt Ideal .f32) := by dsimp only [dat3]

theorem read3_3 (t : Fin cfg3.N) (f : S256x64.Idx → Elt Ideal .f32) : (win3_3.blk t).view.read (Elt Ideal) f = f := by
  funext j
  show f ((win3_3.rect t).emb j) = f j
  congr 1
  funext a; apply Fin.ext
  show 0 * _ + 1 * (j a).val = (j a).val
  omega

theorem final3_3 : (dat3 O B c X0 X1 X2 X3 X4).arrAt 3 cfg3.N = ((fiProbs (F := Ideal) X0 X1 X2) : S256x64.Idx → Elt Ideal .f32) := by
  refine (dat3 O B c X0 X1 X2 X3 X4).arrAt_eq_of_cover 3 _ (fun t _ => ?_) (fun (i : S256x64.Idx) => ?_)
  · exact (read3_3 t (fiProbs (F := Ideal) X0 X1 X2)).symm
  · refine ⟨t3_0, flush3_3 t3_0, ?_⟩
    show i ∈ ((View.whole main_v10_0).slice (win3_3.rect t3_0)).set
    rw [View.set_slice_whole, Rect.mem_set_unit]
    intro a
    show 0 * _ ≤ (i a).val ∧ (i a).val < 0 * _ + _
    have := (i a).isLt
    rw [Nat.zero_mul, Nat.zero_add]
    exact ⟨Nat.zero_le _, this⟩

theorem after3_4 (t : Fin cfg3.N) : (dat3 O B c X0 X1 X2 X3 X4).after 4 t = ((fiOut (F := Ideal) X0 X1 X2) : S256x64.Idx → Elt Ideal .i32) := by dsimp only [dat3]

theorem read3_4 (t : Fin cfg3.N) (f : S256x64.Idx → Elt Ideal .i32) : (win3_4.blk t).view.read (Elt Ideal) f = f := by
  funext j
  show f ((win3_4.rect t).emb j) = f j
  congr 1
  funext a; apply Fin.ext
  show 0 * _ + 1 * (j a).val = (j a).val
  omega

theorem final3_4 : (dat3 O B c X0 X1 X2 X3 X4).arrAt 4 cfg3.N = ((fiOut (F := Ideal) X0 X1 X2) : S256x64.Idx → Elt Ideal .i32) := by
  refine (dat3 O B c X0 X1 X2 X3 X4).arrAt_eq_of_cover 4 _ (fun t _ => ?_) (fun (i : S256x64.Idx) => ?_)
  · exact (read3_4 t (fiOut (F := Ideal) X0 X1 X2)).symm
  · refine ⟨t3_0, flush3_4 t3_0, ?_⟩
    show i ∈ ((View.whole main_v10_1).slice (win3_4.rect t3_0)).set
    rw [View.set_slice_whole, Rect.mem_set_unit]
    intro a
    show 0 * _ ≤ (i a).val ∧ (i a).val < 0 * _ + _
    have := (i a).isLt
    rw [Nat.zero_mul, Nat.zero_add]
    exact ⟨Nat.zero_le _, this⟩

/-- The kernel's own scratch taken out of the buffers the pipeline does not stage, to be put back. -/
theorem scratch3 : (Pipeline.scopedRest (Ix := HIx 1) (Name := ℕ) (U := UU) (Lvl := ℕ) (Val := Elt Ideal) spec3 c : sProp 𝕄)
    ⊢ iprop((∃ f : Buf (Elt Ideal) ((c : Thread nD τ).loc cc3_scratch0), ((c : Thread nD τ).loc cc3_scratch0) ↦{fullShare} f) ∗ (∃ f : Buf (Elt Ideal) ((c : Thread nD τ).loc cc3_scratch1), ((c : Thread nD τ).loc cc3_scratch1) ↦{fullShare} f) ∗ (((∃ f : Buf (Elt Ideal) ((c : Thread nD τ).loc cc3_scratch0), ((c : Thread nD τ).loc cc3_scratch0) ↦{fullShare} f) ∗ (∃ f : Buf (Elt Ideal) ((c : Thread nD τ).loc cc3_scratch1), ((c : Thread nD τ).loc cc3_scratch1) ↦{fullShare} f)) -∗ Pipeline.scopedRest (Ix := HIx 1) (Name := ℕ) (U := UU) (Lvl := ℕ) (Val := Elt Ideal) spec3 c)) := by
  rw [scopedRest3_eq]
  iintro ⟨H0, H1, H2, H3, H4, H5, H6, H7, H8, H9, H10, H11, H12, H13⟩
  isplitl [H12]; · iexact H12
  isplitl [H13]; · iexact H13
  iintro ⟨H12, H13⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body, from what the fetches left to what the write-backs take. -/
theorem obligation3 : BodyObligationLoose (dat3 O B c X0 X1 X2 X3 X4) (defs₀ (F := Ideal)) 𝒱₀ (none : HIx 1) Set.univ := fun t => by
  rw [bigSep_W3, bigSep_W3]
  show iprop((dat3 O B c X0 X1 X2 X3 X4).Φ t.castSucc ∗ (dat3 O B c X0 X1 X2 X3 X4).owesAt none t.castSucc
      ∗ (∃ d, owns (c : Thread nD τ) (st3_0 t) fullShare ((dat3 O B c X0 X1 X2 X3 X4).before 0 t d)) ∗ (∃ d, owns (c : Thread nD τ) (st3_1 t) fullShare ((dat3 O B c X0 X1 X2 X3 X4).before 1 t d)) ∗ (∃ d, owns (c : Thread nD τ) (st3_2 t) fullShare ((dat3 O B c X0 X1 X2 X3 X4).before 2 t d)) ∗ (∃ d, owns (c : Thread nD τ) (st3_3 t) fullShare ((dat3 O B c X0 X1 X2 X3 X4).before 3 t d)) ∗ (∃ d, owns (c : Thread nD τ) (st3_4 t) fullShare ((dat3 O B c X0 X1 X2 X3 X4).before 4 t d)))
    ⊢ wp frame (wpE (defs₀ (F := Ideal)) 𝒱₀ (c : Thread nD τ) none) Set.univ (bodyAt3 (F := Ideal) t) fun _ =>
      iprop((dat3 O B c X0 X1 X2 X3 X4).Φ t.castSucc ∗ (dat3 O B c X0 X1 X2 X3 X4).owesAt none t.castSucc
        ∗ owns (c : Thread nD τ) (st3_0 t) fullShare ((dat3 O B c X0 X1 X2 X3 X4).after 0 t) ∗ owns (c : Thread nD τ) (st3_1 t) fullShare ((dat3 O B c X0 X1 X2 X3 X4).after 1 t) ∗ owns (c : Thread nD τ) (st3_2 t) fullShare ((dat3 O B c X0 X1 X2 X3 X4).after 2 t) ∗ owns (c : Thread nD τ) (st3_3 t) fullShare ((dat3 O B c X0 X1 X2 X3 X4).after 3 t) ∗ owns (c : Thread nD τ) (st3_4 t) fullShare ((dat3 O B c X0 X1 X2 X3 X4).after 4 t))
  rw [show (dat3 O B c X0 X1 X2 X3 X4).Φ t.castSucc = Pipeline.scopedRest (Ix := HIx 1) (Name := ℕ) (U := UU) (Lvl := ℕ) (Val := Elt Ideal) spec3 c from rfl]
  iintro ⟨HΦ, Howes, ⟨%d0, H0⟩, ⟨%d1, H1⟩, ⟨%d2, H2⟩, ⟨%d3, H3⟩, ⟨%d4, H4⟩⟩
  ihave H0 := (Entails.of_eq (congrArg (owns (c : Thread nD τ) (st3_0 t) fullShare) (before3_0 O B c X0 X1 X2 X3 X4 t d0))) $$ H0
  ihave H1 := (Entails.of_eq (congrArg (owns (c : Thread nD τ) (st3_1 t) fullShare) (before3_1 O B c X0 X1 X2 X3 X4 t d1))) $$ H1
  ihave H2 := (Entails.of_eq (congrArg (owns (c : Thread nD τ) (st3_2 t) fullShare) (before3_2 O B c X0 X1 X2 X3 X4 t d2))) $$ H2
  ihave HS := (scratch3 c) $$ HΦ
  icases HS with ⟨⟨%z0, Z0⟩, ⟨%z1, Z1⟩, HΦ⟩
  ihave Z0 := (Entails.of_eq (owns_whole (c : Thread nD τ) cc3_scratch0 fullShare z0).symm) $$ Z0
  ihave Z1 := (Entails.of_eq (owns_whole (c : Thread nD τ) cc3_scratch1 fullShare z1).symm) $$ Z1
  ihave HW := (fiBody (F := Ideal) c (win3_0.stage (cfg3.slots t 0)) (hstage3_0 0) (win3_1.stage (cfg3.slots t 1)) (hstage3_1 0) (win3_2.stage (cfg3.slots t 2)) (hstage3_2 0) (win3_3.stage (cfg3.slots t 3)) (hstage3_3 0) (win3_4.stage (cfg3.slots t 4)) (hstage3_4 0) (Memref.whole cc3_scratch0) (Memref.isWhole_whole _) (Memref.whole cc3_scratch1) (Memref.isWhole_whole _)
    X0 X1 X2 _ _ _ _) $$ [H0 H1 H2 H3 H4 Z0 Z1]
  · isplitl [H0]; · iexact H0
    isplitl [H1]; · iexact H1
    isplitl [H2]; · iexact H2
    isplitl [H3]; · iexact H3
    isplitl [H4]; · iexact H4
    isplitl [Z0]; · iexact Z0
    iexact Z1
  iapply wp_wand $$ [$HW]
  iintro %r ⟨H0, H1, H2, H3, H4, ⟨%y0, Z0⟩, ⟨%y1, Z1⟩⟩
  ihave Z0 := (Entails.of_eq (owns_whole (c : Thread nD τ) cc3_scratch0 fullShare y0)) $$ Z0
  ihave Z1 := (Entails.of_eq (owns_whole (c : Thread nD τ) cc3_scratch1 fullShare y1)) $$ Z1
  isplitl [HΦ Z0 Z1]
  · iapply HΦ $$ [Z0 Z1]
    isplitl [Z0]; · iexists _; iexact Z0
    iexists _; iexact Z1
  isplitl [Howes]; · iexact Howes
  isplitl [H0]
  · iapply (Entails.of_eq (congrArg (owns (c : Thread nD τ) (st3_0 t) fullShare) (after3_0 O B c X0 X1 X2 X3 X4 t).symm)) $$ H0
  isplitl [H1]
  · iapply (Entails.of_eq (congrArg (owns (c : Thread nD τ) (st3_1 t) fullShare) (after3_1 O B c X0 X1 X2 X3 X4 t).symm)) $$ H1
  isplitl [H2]
  · iapply (Entails.of_eq (congrArg (owns (c : Thread nD τ) (st3_2 t) fullShare) (after3_2 O B c X0 X1 X2 X3 X4 t).symm)) $$ H2
  isplitl [H3]
  · iapply (Entails.of_eq (congrArg (owns (c : Thread nD τ) (st3_3 t) fullShare) (after3_3 O B c X0 X1 X2 X3 X4 t).symm)) $$ H3
  iapply (Entails.of_eq (congrArg (owns (c : Thread nD τ) (st3_4 t) fullShare) (after3_4 O B c X0 X1 X2 X3 X4 t).symm)) $$ H4

end Cert.KernelIdeal.Hand
end
-- ==== Proof.Regions.lean ====
module
public import proofs.«01_k».proof.Proof.PipeProject
public import proofs.«01_k».proof.Proof.PipeChunks
public import proofs.«01_k».proof.Proof.PipeFinalize
public import Idealize.ShloMosaic.Lib.Pipeline.Regions
@[expose] public section
noncomputable section

/-!
  The three TensorCore custom calls of @main, each as one rule: from its arrays and the TensorCore's debts to the arrays
  at the call's results and the same debts.
-/

namespace Cert.KernelIdeal.Hand
open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

local notation "𝕄" => MT nD τ sig (HIx 1) (Elt Ideal) ℕ UU ℕ

/-- The SparseCore call's levels over the ideal elements. -/
abbrev KI := K (F := Ideal)

/-- No pipeline prefetches a table. -/
abbrev adm : (p : Fin 3) → (pcfgs (F := Ideal) p).Adm := fun p => (cfgs p).toPCfg_adm

/-- Proof data for a pipeline an entry does not run. -/
def idleDat {cfg : Cfg sig Λ₀} (c : Dev nD) : Dat τ (Elt Ideal) (HIx 1) ℕ UU ℕ cfg c where
  A _ := fun _ => Classical.arbitrary _
  after _ _ := fun _ => Classical.arbitrary _
  Φ _ := BI.emp
  q _ := fullShare
  owed _ := 0

/-- The TensorCore's debts while `n` SparseCore calls are done, -/
abbrev owesTc (c : Dev nD) (n : ℕ) : sProp 𝕄 :=
  iprop(∃ W, ⌜KI.WBelow (T c) W (8 * n)⌝ ∗ owes (T c) (KI.Otc c n) W)

/-- and what its waits may have recorded by then. -/
def seen (c : Dev nD) (n : ℕ) : Set (SemLoc sig × HIx 1) := {p | KI.lev (T c, p.1) p.2 ≤ 8 * n}

/-- It owes nothing at the index the transfers use. -/
theorem owes_none (c : Dev nD) (n : ℕ) (g : GSem nD τ sig) : KI.Otc c n g (none : HIx 1) = 0 := by
  by_contra h
  have h1 : 8 * n + 1 ≤ KI.lev g (none : HIx 1) := KI.lev_of_Otc_pos (N := 1) (Nat.pos_of_ne_zero h)
  have h2 : KI.lev g (none : HIx 1) = 0 := rfl
  omega

/-! ## Custom call 0 -/

section Call0
variable (n : ℕ) (x : (c : Dev nD) → BufAt c main_arg0) (W : (c : Dev nD) → BufAt c main_arg1) (A2 : (c : Dev nD) → BufAt c main_v0_0) (A3 : (c : Dev nD) → BufAt c main_v0_1)

def dats0 : (p : Fin 3) → (c : Dev nD) → Dat τ (Elt Ideal) (HIx 1) ℕ UU ℕ (Pipeline.pin (pcfgs (F := Ideal)) adm p) c
  | ⟨0, _⟩ => fun c => dat0 (KI.Otc c n) (seen c n) c (x c) (W c) (A2 c) (A3 c)
  | ⟨1, _⟩ => fun c => idleDat c
  | ⟨2, _⟩ => fun c => idleDat c

/-- The arrays before the call, -/
def before0 (c : Dev nD) : sProp 𝕄 := iprop((((c : Thread nD τ).loc main_arg0) ↦{fullShare} x c) ∗ (((c : Thread nD τ).loc main_arg1) ↦{fullShare} W c) ∗ (((c : Thread nD τ).loc main_v0_0) ↦{fullShare} A2 c) ∗ (((c : Thread nD τ).loc main_v0_1) ↦{fullShare} A3 c))
/-- and after it. -/
def after0 (c : Dev nD) : sProp 𝕄 := iprop((((c : Thread nD τ).loc main_arg0) ↦{fullShare} x c) ∗ (((c : Thread nD τ).loc main_arg1) ↦{fullShare} W c) ∗ (((c : Thread nD τ).loc main_v0_0) ↦{fullShare} (logitsArr (x c) (W c) : Buf (Elt Ideal) ((c : Thread nD τ).loc main_v0_0))) ∗ (((c : Thread nD τ).loc main_v0_1) ↦{fullShare} (maxArr (x c) (W c) : Buf (Elt Ideal) ((c : Thread nD τ).loc main_v0_1))))

theorem arrays0 (c : Dev nD) (G : (w : Fin 4) → Buf (Elt Ideal) ((c : Thread nD τ).loc (Pipeline.arrRef spec0 w))) :
    ((dats0 n x W A2 A3 0 c).arrays G : sProp 𝕄) = iprop((((c : Thread nD τ).loc main_arg0) ↦{fullShare} G 0) ∗ (((c : Thread nD τ).loc main_arg1) ↦{fullShare} G 1) ∗ (((c : Thread nD τ).loc main_v0_0) ↦{fullShare} G 2) ∗ (((c : Thread nD τ).loc main_v0_1) ↦{fullShare} G 3)) := by
  rw [Pipeline.arrays_eq (Pipeline.pin (pcfgs (F := Ideal)) adm) (dats0 n x W A2 A3) 0 c arr_whole0 ((dats0 n x W A2 A3 0 c).share_full fun _ => rfl) G]
  exact bigSep_W0 _

set_option backward.isDefEq.respectTransparency.types false in
/-- The call as a region of @main. -/
def region0 : Pipeline.RegionSeg (pcfgs (F := Ideal)) adm (dats0 n x W A2 A3) (none : HIx 1) (defs₀ (F := Ideal)) 𝒱₀ KI.L KI.lev 0 where
  win := winFacts0.to₀
  block_pos := block_pos0
  stage_whole := stage_whole0
  K := PEmpty
  osem k := k.elim
  ho := Pipeline.OwnSemFacts.none _
  hbody c := obligation0 (KI.Otc c n) (seen c n) c (x c) (W c) (A2 c) (A3 c)
  hwaits c := Pipeline.cellsWaits_intro _ _ _ _ _ fun w s t => KI.mayWait_none _ (owes_none c n)
  pre c := iprop(owesTc c n ∗ before0 x W A2 A3 c)
  post c := iprop(owesTc c n ∗ after0 x W c)
  X _ := BI.emp
  Y _ := BI.emp
  Z _ := BI.emp
  hentry c := by
    rw [Pipeline.ownSems0_none, arrays0]
    unfold before0
    iintro ⟨⟨HO, H0, H1, H2, H3⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun q hq => Or.inl (hW q hq)
      iexact HO
    isplitr <;> iempintro
  hin c := by
    rw [show (dats0 n x W A2 A3 0 c).Φ 0 = Pipeline.scopedRest (Ix := HIx 1) (Name := ℕ) (U := UU) (Lvl := ℕ) (Val := Elt Ideal) spec0 c from rfl]
    iintro ⟨-, -, Hr⟩; iexact Hr
  hout c := by
    rw [Pipeline.ownSems0_none, show (dats0 n x W A2 A3 0 c).Φ (Fin.last _) = Pipeline.scopedRest (Ix := HIx 1) (Name := ℕ) (U := UU) (Lvl := ℕ) (Val := Elt Ideal) spec0 c from rfl]
    iintro Hr
    isplitr; · iempintro
    isplitr; · iempintro
    iexact Hr
  hexit c := by
    rw [arrays0]
    unfold after0
    iintro ⟨⟨H0, H1, H2, H3⟩, HO, -, -⟩
    imodintro
    isplitl [HO]
    · unfold Pipeline.Dat.owesAt Pipeline.owesWithin
      icases HO with ⟨%W, %hW, HO⟩; iexists W; isplitr
      · ipureintro
        intro q hq
        rcases hW hq with h | ⟨w, s, h⟩
        · exact h
        · rw [h]; exact Nat.zero_le _
      iexact HO
    isplitl [H0]
    · iapply (Entails.of_eq (congrArg (fun f => (((c : Thread nD τ).loc main_arg0) ↦{fullShare} f : sProp 𝕄)) (show (dats0 n x W A2 A3 0 c).arrAt 0 (Pipeline.pin (pcfgs (F := Ideal)) adm 0).N = x c from ((dat0 (KI.Otc c n) (seen c n) c (x c) (W c) (A2 c) (A3 c)).arrAt_in 0 rfl _)))) $$ H0
    isplitl [H1]
    · iapply (Entails.of_eq (congrArg (fun f => (((c : Thread nD τ).loc main_arg1) ↦{fullShare} f : sProp 𝕄)) (show (dats0 n x W A2 A3 0 c).arrAt 1 (Pipeline.pin (pcfgs (F := Ideal)) adm 0).N = W c from ((dat0 (KI.Otc c n) (seen c n) c (x c) (W c) (A2 c) (A3 c)).arrAt_in 1 rfl _)))) $$ H1
    isplitl [H2]
    · iapply (Entails.of_eq (congrArg (fun f => (((c : Thread nD τ).loc main_v0_0) ↦{fullShare} f : sProp 𝕄)) (show (dats0 n x W A2 A3 0 c).arrAt 2 (Pipeline.pin (pcfgs (F := Ideal)) adm 0).N = (logitsArr (x c) (W c) : Buf (Elt Ideal) ((c : Thread nD τ).loc main_v0_0)) from final0_2 (KI.Otc c n) (seen c n) c (x c) (W c) (A2 c) (A3 c)))) $$ H2
    iapply (Entails.of_eq (congrArg (fun f => (((c : Thread nD τ).loc main_v0_1) ↦{fullShare} f : sProp 𝕄)) (show (dats0 n x W A2 A3 0 c).arrAt 3 (Pipeline.pin (pcfgs (F := Ideal)) adm 0).N = (maxArr (x c) (W c) : Buf (Elt Ideal) ((c : Thread nD τ).loc main_v0_1)) from final0_3 (KI.Otc c n) (seen c n) c (x c) (W c) (A2 c) (A3 c)))) $$ H3

/-- The call's rule. -/
theorem wp_call0 (c : Dev nD) {α : Type} (k : PUnit → Prog (TpuEff nD τ sig (Elt Ideal) (ΛP (F := Ideal)) .tc) α) (Q : α → sProp 𝕄) :
    iprop((iprop(boundary (c : Thread nD τ) ∗ owesTc c n ∗ after0 x W c) -∗ wp frame (wpE (D (F := Ideal)) 𝒱 (c : Thread nD τ) none) Set.univ (k ⟨⟩) Q)
        ∗ boundary (c : Thread nD τ) ∗ (owesTc c n ∗ before0 x W A2 A3 c) ∗ levAts KI.L KI.lev
        ∗ Pipeline.cellsGhost (Pipeline.pin (pcfgs (F := Ideal)) adm) (EP (F := Ideal)) 0 c ∗ Pipeline.toksInit (Pipeline.pin (pcfgs (F := Ideal)) adm) (EP (F := Ideal)) 0 c)
      ⊢ wp frame (wpE (D (F := Ideal)) 𝒱 (c : Thread nD τ) none) Set.univ (.op (.customCall (Pipeline.entry 0) ()) k) Q :=
  Pipeline.RegionSeg.wp (pcfgs (F := Ideal)) adm (dats0 n x W A2 A3) none cellOf_inj (EP (F := Ideal)) (defs₀ (F := Ideal)) 𝒱₀ KI.L KI.lev (region0 n x W A2 A3) c none (fun _ h => nomatch h) k Q

end Call0

/-! ## Custom call 1 -/

section Call1
variable (n : ℕ) (X0 : (c : Dev nD) → BufAt c main_v2) (X1 : (c : Dev nD) → BufAt c main_v3_0) (X2 : (c : Dev nD) → BufAt c main_v3_1) (X3 : (c : Dev nD) → BufAt c main_v3_2)

def dats1 : (p : Fin 3) → (c : Dev nD) → Dat τ (Elt Ideal) (HIx 1) ℕ UU ℕ (Pipeline.pin (pcfgs (F := Ideal)) adm p) c
  | ⟨0, _⟩ => fun c => idleDat c
  | ⟨1, _⟩ => fun c => dat1 (KI.Otc c n) (seen c n) c (X0 c) (X1 c) (X2 c) (X3 c)
  | ⟨2, _⟩ => fun c => idleDat c

/-- The arrays before the call, -/
def before1 (c : Dev nD) : sProp 𝕄 := iprop((((c : Thread nD τ).loc main_v2) ↦{fullShare} X0 c) ∗ (((c : Thread nD τ).loc main_v3_0) ↦{fullShare} X1 c) ∗ (((c : Thread nD τ).loc main_v3_1) ↦{fullShare} X2 c) ∗ (((c : Thread nD τ).loc main_v3_2) ↦{fullShare} X3 c))
/-- and after it. -/
def after1 (c : Dev nD) : sProp 𝕄 := iprop((((c : Thread nD τ).loc main_v2) ↦{fullShare} X0 c) ∗ (((c : Thread nD τ).loc main_v3_0) ↦{fullShare} (chIds (F := Ideal) (X0 c) : Buf (Elt Ideal) ((c : Thread nD τ).loc main_v3_0))) ∗ (((c : Thread nD τ).loc main_v3_1) ↦{fullShare} (chFlat (X0 c) : Buf (Elt Ideal) ((c : Thread nD τ).loc main_v3_1))) ∗ (((c : Thread nD τ).loc main_v3_2) ↦{fullShare} (chOff (X0 c) : Buf (Elt Ideal) ((c : Thread nD τ).loc main_v3_2))))

theorem arrays1 (c : Dev nD) (G : (w : Fin 4) → Buf (Elt Ideal) ((c : Thread nD τ).loc (Pipeline.arrRef spec1 w))) :
    ((dats1 n X0 X1 X2 X3 1 c).arrays G : sProp 𝕄) = iprop((((c : Thread nD τ).loc main_v2) ↦{fullShare} G 0) ∗ (((c : Thread nD τ).loc main_v3_0) ↦{fullShare} G 1) ∗ (((c : Thread nD τ).loc main_v3_1) ↦{fullShare} G 2) ∗ (((c : Thread nD τ).loc main_v3_2) ↦{fullShare} G 3)) := by
  rw [Pipeline.arrays_eq (Pipeline.pin (pcfgs (F := Ideal)) adm) (dats1 n X0 X1 X2 X3) 1 c arr_whole1 ((dats1 n X0 X1 X2 X3 1 c).share_full fun _ => rfl) G]
  exact bigSep_W1 _

set_option backward.isDefEq.respectTransparency.types false in
/-- The call as a region of @main. -/
def region1 : Pipeline.RegionSeg (pcfgs (F := Ideal)) adm (dats1 n X0 X1 X2 X3) (none : HIx 1) (defs₀ (F := Ideal)) 𝒱₀ KI.L KI.lev 1 where
  win := winFacts1.to₀
  block_pos := block_pos1
  stage_whole := stage_whole1
  K := PEmpty
  osem k := k.elim
  ho := Pipeline.OwnSemFacts.none _
  hbody c := obligation1 (KI.Otc c n) (seen c n) c (X0 c) (X1 c) (X2 c) (X3 c)
  hwaits c := Pipeline.cellsWaits_intro _ _ _ _ _ fun w s t => KI.mayWait_none _ (owes_none c n)
  pre c := iprop(owesTc c n ∗ before1 X0 X1 X2 X3 c)
  post c := iprop(owesTc c n ∗ after1 X0 c)
  X _ := BI.emp
  Y _ := BI.emp
  Z _ := BI.emp
  hentry c := by
    rw [Pipeline.ownSems0_none, arrays1]
    unfold before1
    iintro ⟨⟨HO, H0, H1, H2, H3⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun q hq => Or.inl (hW q hq)
      iexact HO
    isplitr <;> iempintro
  hin c := by
    rw [show (dats1 n X0 X1 X2 X3 1 c).Φ 0 = Pipeline.scopedRest (Ix := HIx 1) (Name := ℕ) (U := UU) (Lvl := ℕ) (Val := Elt Ideal) spec1 c from rfl]
    iintro ⟨-, -, Hr⟩; iexact Hr
  hout c := by
    rw [Pipeline.ownSems0_none, show (dats1 n X0 X1 X2 X3 1 c).Φ (Fin.last _) = Pipeline.scopedRest (Ix := HIx 1) (Name := ℕ) (U := UU) (Lvl := ℕ) (Val := Elt Ideal) spec1 c from rfl]
    iintro Hr
    isplitr; · iempintro
    isplitr; · iempintro
    iexact Hr
  hexit c := by
    rw [arrays1]
    unfold after1
    iintro ⟨⟨H0, H1, H2, H3⟩, HO, -, -⟩
    imodintro
    isplitl [HO]
    · unfold Pipeline.Dat.owesAt Pipeline.owesWithin
      icases HO with ⟨%W, %hW, HO⟩; iexists W; isplitr
      · ipureintro
        intro q hq
        rcases hW hq with h | ⟨w, s, h⟩
        · exact h
        · rw [h]; exact Nat.zero_le _
      iexact HO
    isplitl [H0]
    · iapply (Entails.of_eq (congrArg (fun f => (((c : Thread nD τ).loc main_v2) ↦{fullShare} f : sProp 𝕄)) (show (dats1 n X0 X1 X2 X3 1 c).arrAt 0 (Pipeline.pin (pcfgs (F := Ideal)) adm 1).N = X0 c from ((dat1 (KI.Otc c n) (seen c n) c (X0 c) (X1 c) (X2 c) (X3 c)).arrAt_in 0 rfl _)))) $$ H0
    isplitl [H1]
    · iapply (Entails.of_eq (congrArg (fun f => (((c : Thread nD τ).loc main_v3_0) ↦{fullShare} f : sProp 𝕄)) (show (dats1 n X0 X1 X2 X3 1 c).arrAt 1 (Pipeline.pin (pcfgs (F := Ideal)) adm 1).N = (chIds (F := Ideal) (X0 c) : Buf (Elt Ideal) ((c : Thread nD τ).loc main_v3_0)) from final1_1 (KI.Otc c n) (seen c n) c (X0 c) (X1 c) (X2 c) (X3 c)))) $$ H1
    isplitl [H2]
    · iapply (Entails.of_eq (congrArg (fun f => (((c : Thread nD τ).loc main_v3_1) ↦{fullShare} f : sProp 𝕄)) (show (dats1 n X0 X1 X2 X3 1 c).arrAt 2 (Pipeline.pin (pcfgs (F := Ideal)) adm 1).N = (chFlat (X0 c) : Buf (Elt Ideal) ((c : Thread nD τ).loc main_v3_1)) from final1_2 (KI.Otc c n) (seen c n) c (X0 c) (X1 c) (X2 c) (X3 c)))) $$ H2
    iapply (Entails.of_eq (congrArg (fun f => (((c : Thread nD τ).loc main_v3_2) ↦{fullShare} f : sProp 𝕄)) (show (dats1 n X0 X1 X2 X3 1 c).arrAt 3 (Pipeline.pin (pcfgs (F := Ideal)) adm 1).N = (chOff (X0 c) : Buf (Elt Ideal) ((c : Thread nD τ).loc main_v3_2)) from final1_3 (KI.Otc c n) (seen c n) c (X0 c) (X1 c) (X2 c) (X3 c)))) $$ H3

/-- The call's rule. -/
theorem wp_call1 (c : Dev nD) {α : Type} (k : PUnit → Prog (TpuEff nD τ sig (Elt Ideal) (ΛP (F := Ideal)) .tc) α) (Q : α → sProp 𝕄) :
    iprop((iprop(boundary (c : Thread nD τ) ∗ owesTc c n ∗ after1 X0 c) -∗ wp frame (wpE (D (F := Ideal)) 𝒱 (c : Thread nD τ) none) Set.univ (k ⟨⟩) Q)
        ∗ boundary (c : Thread nD τ) ∗ (owesTc c n ∗ before1 X0 X1 X2 X3 c) ∗ levAts KI.L KI.lev
        ∗ Pipeline.cellsGhost (Pipeline.pin (pcfgs (F := Ideal)) adm) (EP (F := Ideal)) 1 c ∗ Pipeline.toksInit (Pipeline.pin (pcfgs (F := Ideal)) adm) (EP (F := Ideal)) 1 c)
      ⊢ wp frame (wpE (D (F := Ideal)) 𝒱 (c : Thread nD τ) none) Set.univ (.op (.customCall (Pipeline.entry 1) ()) k) Q :=
  Pipeline.RegionSeg.wp (pcfgs (F := Ideal)) adm (dats1 n X0 X1 X2 X3) none cellOf_inj (EP (F := Ideal)) (defs₀ (F := Ideal)) 𝒱₀ KI.L KI.lev (region1 n X0 X1 X2 X3) c none (fun _ h => nomatch h) k Q

end Call1

/-! ## Custom call 3 -/

section Call3
variable (n : ℕ) (X0 : (c : Dev nD) → BufAt c main_v7) (X1 : (c : Dev nD) → BufAt c main_v9) (X2 : (c : Dev nD) → BufAt c main_v3_0) (X3 : (c : Dev nD) → BufAt c main_v10_0) (X4 : (c : Dev nD) → BufAt c main_v10_1)

def dats3 : (p : Fin 3) → (c : Dev nD) → Dat τ (Elt Ideal) (HIx 1) ℕ UU ℕ (Pipeline.pin (pcfgs (F := Ideal)) adm p) c
  | ⟨0, _⟩ => fun c => idleDat c
  | ⟨1, _⟩ => fun c => idleDat c
  | ⟨2, _⟩ => fun c => dat3 (KI.Otc c n) (seen c n) c (X0 c) (X1 c) (X2 c) (X3 c) (X4 c)

/-- The arrays before the call, -/
def before3 (c : Dev nD) : sProp 𝕄 := iprop((((c : Thread nD τ).loc main_v7) ↦{fullShare} X0 c) ∗ (((c : Thread nD τ).loc main_v9) ↦{fullShare} X1 c) ∗ (((c : Thread nD τ).loc main_v3_0) ↦{fullShare} X2 c) ∗ (((c : Thread nD τ).loc main_v10_0) ↦{fullShare} X3 c) ∗ (((c : Thread nD τ).loc main_v10_1) ↦{fullShare} X4 c))
/-- and after it. -/
def after3 (c : Dev nD) : sProp 𝕄 := iprop((((c : Thread nD τ).loc main_v7) ↦{fullShare} X0 c) ∗ (((c : Thread nD τ).loc main_v9) ↦{fullShare} X1 c) ∗ (((c : Thread nD τ).loc main_v3_0) ↦{fullShare} X2 c) ∗ (((c : Thread nD τ).loc main_v10_0) ↦{fullShare} (fiProbs (F := Ideal) (X0 c) (X1 c) (X2 c) : Buf (Elt Ideal) ((c : Thread nD τ).loc main_v10_0))) ∗ (((c : Thread nD τ).loc main_v10_1) ↦{fullShare} (fiOut (F := Ideal) (X0 c) (X1 c) (X2 c) : Buf (Elt Ideal) ((c : Thread nD τ).loc main_v10_1))))

theorem arrays3 (c : Dev nD) (G : (w : Fin 5) → Buf (Elt Ideal) ((c : Thread nD τ).loc (Pipeline.arrRef spec3 w))) :
    ((dats3 n X0 X1 X2 X3 X4 2 c).arrays G : sProp 𝕄) = iprop((((c : Thread nD τ).loc main_v7) ↦{fullShare} G 0) ∗ (((c : Thread nD τ).loc main_v9) ↦{fullShare} G 1) ∗ (((c : Thread nD τ).loc main_v3_0) ↦{fullShare} G 2) ∗ (((c : Thread nD τ).loc main_v10_0) ↦{fullShare} G 3) ∗ (((c : Thread nD τ).loc main_v10_1) ↦{fullShare} G 4)) := by
  rw [Pipeline.arrays_eq (Pipeline.pin (pcfgs (F := Ideal)) adm) (dats3 n X0 X1 X2 X3 X4) 2 c arr_whole3 ((dats3 n X0 X1 X2 X3 X4 2 c).share_full fun _ => rfl) G]
  exact bigSep_W3 _

set_option backward.isDefEq.respectTransparency.types false in
/-- The call as a region of @main. -/
def region3 : Pipeline.RegionSeg (pcfgs (F := Ideal)) adm (dats3 n X0 X1 X2 X3 X4) (none : HIx 1) (defs₀ (F := Ideal)) 𝒱₀ KI.L KI.lev 2 where
  win := winFacts3.to₀
  block_pos := block_pos3
  stage_whole := stage_whole3
  K := PEmpty
  osem k := k.elim
  ho := Pipeline.OwnSemFacts.none _
  hbody c := obligation3 (KI.Otc c n) (seen c n) c (X0 c) (X1 c) (X2 c) (X3 c) (X4 c)
  hwaits c := Pipeline.cellsWaits_intro _ _ _ _ _ fun w s t => KI.mayWait_none _ (owes_none c n)
  pre c := iprop(owesTc c n ∗ before3 X0 X1 X2 X3 X4 c)
  post c := iprop(owesTc c n ∗ after3 X0 X1 X2 c)
  X _ := BI.emp
  Y _ := BI.emp
  Z _ := BI.emp
  hentry c := by
    rw [Pipeline.ownSems0_none, arrays3]
    unfold before3
    iintro ⟨⟨HO, H0, H1, H2, H3, H4⟩, -, -⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun q hq => Or.inl (hW q hq)
      iexact HO
    isplitr <;> iempintro
  hin c := by
    rw [show (dats3 n X0 X1 X2 X3 X4 2 c).Φ 0 = Pipeline.scopedRest (Ix := HIx 1) (Name := ℕ) (U := UU) (Lvl := ℕ) (Val := Elt Ideal) spec3 c from rfl]
    iintro ⟨-, -, Hr⟩; iexact Hr
  hout c := by
    rw [Pipeline.ownSems0_none, show (dats3 n X0 X1 X2 X3 X4 2 c).Φ (Fin.last _) = Pipeline.scopedRest (Ix := HIx 1) (Name := ℕ) (U := UU) (Lvl := ℕ) (Val := Elt Ideal) spec3 c from rfl]
    iintro Hr
    isplitr; · iempintro
    isplitr; · iempintro
    iexact Hr
  hexit c := by
    rw [arrays3]
    unfold after3
    iintro ⟨⟨H0, H1, H2, H3, H4⟩, HO, -, -⟩
    imodintro
    isplitl [HO]
    · unfold Pipeline.Dat.owesAt Pipeline.owesWithin
      icases HO with ⟨%W, %hW, HO⟩; iexists W; isplitr
      · ipureintro
        intro q hq
        rcases hW hq with h | ⟨w, s, h⟩
        · exact h
        · rw [h]; exact Nat.zero_le _
      iexact HO
    isplitl [H0]
    · iapply (Entails.of_eq (congrArg (fun f => (((c : Thread nD τ).loc main_v7) ↦{fullShare} f : sProp 𝕄)) (show (dats3 n X0 X1 X2 X3 X4 2 c).arrAt 0 (Pipeline.pin (pcfgs (F := Ideal)) adm 2).N = X0 c from ((dat3 (KI.Otc c n) (seen c n) c (X0 c) (X1 c) (X2 c) (X3 c) (X4 c)).arrAt_in 0 rfl _)))) $$ H0
    isplitl [H1]
    · iapply (Entails.of_eq (congrArg (fun f => (((c : Thread nD τ).loc main_v9) ↦{fullShare} f : sProp 𝕄)) (show (dats3 n X0 X1 X2 X3 X4 2 c).arrAt 1 (Pipeline.pin (pcfgs (F := Ideal)) adm 2).N = X1 c from ((dat3 (KI.Otc c n) (seen c n) c (X0 c) (X1 c) (X2 c) (X3 c) (X4 c)).arrAt_in 1 rfl _)))) $$ H1
    isplitl [H2]
    · iapply (Entails.of_eq (congrArg (fun f => (((c : Thread nD τ).loc main_v3_0) ↦{fullShare} f : sProp 𝕄)) (show (dats3 n X0 X1 X2 X3 X4 2 c).arrAt 2 (Pipeline.pin (pcfgs (F := Ideal)) adm 2).N = X2 c from ((dat3 (KI.Otc c n) (seen c n) c (X0 c) (X1 c) (X2 c) (X3 c) (X4 c)).arrAt_in 2 rfl _)))) $$ H2
    isplitl [H3]
    · iapply (Entails.of_eq (congrArg (fun f => (((c : Thread nD τ).loc main_v10_0) ↦{fullShare} f : sProp 𝕄)) (show (dats3 n X0 X1 X2 X3 X4 2 c).arrAt 3 (Pipeline.pin (pcfgs (F := Ideal)) adm 2).N = (fiProbs (F := Ideal) (X0 c) (X1 c) (X2 c) : Buf (Elt Ideal) ((c : Thread nD τ).loc main_v10_0)) from final3_3 (KI.Otc c n) (seen c n) c (X0 c) (X1 c) (X2 c) (X3 c) (X4 c)))) $$ H3
    iapply (Entails.of_eq (congrArg (fun f => (((c : Thread nD τ).loc main_v10_1) ↦{fullShare} f : sProp 𝕄)) (show (dats3 n X0 X1 X2 X3 X4 2 c).arrAt 4 (Pipeline.pin (pcfgs (F := Ideal)) adm 2).N = (fiOut (F := Ideal) (X0 c) (X1 c) (X2 c) : Buf (Elt Ideal) ((c : Thread nD τ).loc main_v10_1)) from final3_4 (KI.Otc c n) (seen c n) c (X0 c) (X1 c) (X2 c) (X3 c) (X4 c)))) $$ H4

/-- The call's rule. -/
theorem wp_call3 (c : Dev nD) {α : Type} (k : PUnit → Prog (TpuEff nD τ sig (Elt Ideal) (ΛP (F := Ideal)) .tc) α) (Q : α → sProp 𝕄) :
    iprop((iprop(boundary (c : Thread nD τ) ∗ owesTc c n ∗ after3 X0 X1 X2 c) -∗ wp frame (wpE (D (F := Ideal)) 𝒱 (c : Thread nD τ) none) Set.univ (k ⟨⟩) Q)
        ∗ boundary (c : Thread nD τ) ∗ (owesTc c n ∗ before3 X0 X1 X2 X3 X4 c) ∗ levAts KI.L KI.lev
        ∗ Pipeline.cellsGhost (Pipeline.pin (pcfgs (F := Ideal)) adm) (EP (F := Ideal)) 2 c ∗ Pipeline.toksInit (Pipeline.pin (pcfgs (F := Ideal)) adm) (EP (F := Ideal)) 2 c)
      ⊢ wp frame (wpE (D (F := Ideal)) 𝒱 (c : Thread nD τ) none) Set.univ (.op (.customCall (Pipeline.entry 2) ()) k) Q :=
  Pipeline.RegionSeg.wp (pcfgs (F := Ideal)) adm (dats3 n X0 X1 X2 X3 X4) none cellOf_inj (EP (F := Ideal)) (defs₀ (F := Ideal)) 𝒱₀ KI.L KI.lev (region3 n X0 X1 X2 X3 X4) c none (fun _ h => nomatch h) k Q

end Call3

end Cert.KernelIdeal.Hand
end
-- ==== Proof.ScRules.lean ====
/-
  The local copies of a tile over memrefs owned at known contents: a copy, an indirect gather, and their waits.
-/
module

public import proofs.«01_k».proof.Proof.Setup
public import Idealize.ShloMosaic.Lib.SparseCore.Ops
public import Idealize.ShloMosaic.Lib.SparseCore.Stream
public import Idealize.ShloMosaic.Lib.Pipeline.Value

@[expose] public section

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- What a tile holds of a copy it has issued on its cell `sm`, until it waits: at the wait it gets `D`. -/
abbrev InFlight (c : Thread nD τ) (sm : SemLoc sig) (N : ℕ) (D : sProp 𝕄) : sProp 𝕄 := Transfers.Flight countersEmb c sm (default : HIx 1) N D

section

variable (c : Thread nD τ) (bd : Option 𝒱₀.V) {α : Type}

/-- A copy between two memrefs, issued: in flight, it will leave the target holding the source's contents. -/
theorem wp_copyOwn {Q : α → sProp 𝕄} {sp sp' : Space} {s : Shape} {e : EltTy} {src src' : Memref sig c.2.kind sp s e} {dst dst' : Memref sig c.2.kind sp' s e} {sm sm' : SemLoc sig}
    {hsrc : src'.view.WordExact} {hdst : dst'.view.WordExact} {hsem : DmaTarget.Typed (nD := nD) sp sm' (.here dst')}
    {k : PUnit → Prog (TpuEff nD τ sig (Elt F) Λ₀ c.2) α} {q : PosShare TreeShare} {X Y : s.Idx → Elt F e}
    (es : src' = src) (ed : dst' = dst) (em : sm' = sm) (N : ℕ) (hN : dst.view.amount sm = N) (hN0 : 0 < N) :
    iprop(owns c src q X ∗ owns c dst fullShare Y ∗ semVal (c, sm) 0)
      ⊢ iprop((InFlight (F := F) c sm N iprop(owns c dst fullShare X ∗ owns c src q X) -∗ wp frame (wpE (defs₀ (F := F)) 𝒱₀ c bd) Set.univ (k ⟨⟩) Q)
          -∗ wp frame (wpE (defs₀ (F := F)) 𝒱₀ c bd) Set.univ (.op (.enqueueDma src' (.here dst') sm' hsrc hdst hsem) k) Q) := by
  subst es; subst ed; subst em
  unfold owns
  iintro ⟨⟨%f, %hf, Hs⟩, ⟨%g, %hg, Hd⟩, Hv⟩ HK
  iapply (Transfers.wp_dmaLocal countersEmb 𝒱₀ c bd (default : HIx 1) N hN hN0 (subset_refl _)) $$ [Hs Hd Hv]
  · isplitl [Hs]; · iexact Hs
    isplitl [Hd]; · iexact Hd
    iexact Hv
  iintro HF
  iapply HK
  unfold InFlight
  iapply (Transfers.Flight_mono countersEmb c ?_) $$ HF
  iintro ⟨Hd, Hs⟩
  isplitl [Hd]
  · iexists _; isplitr
    swap; · iexact Hd
    ipureintro
    rw [View.read_write_univ]; exact hf
  · iexists f; isplitr; · ipureintro; exact hf
    iexact Hs

/-- An indirect gather, issued, every word of its list naming a row of the source. -/
theorem wp_gatherOwn {Q : α → sProp 𝕄} {sp : Space} {s₀ s si : Shape} {e : EltTy} {a : ℕ} {src : Memref sig c.2.kind sp s₀ e} {dst dst' : Memref sig c.2.kind .vmem s e}
    {hg : s₀.Gathers a s} {offs offs' : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ₀ c.2) α}
    {q qo : PosShare TreeShare} {X : s₀.Idx → Elt F e} {Y : s.Idx → Elt F e} {J : si.Idx → Elt F .i32}
    (ed : dst' = dst) (eo : offs' = offs) (N : ℕ) (hN : ∑ j, (dst.slice (s.rowRect hg.axis' j) (s.stride_rowRect hg.axis' j)).view.dmaCredit = N)
    (hs : 0 < s.numel) (hin : ∀ x, (J x).toNat < s₀.size hg.axis) :
    iprop(owns c src q X ∗ owns c dst fullShare Y ∗ owns c offs qo J ∗ semVal (c, SemLoc.dma sem) 0)
      ⊢ iprop((InFlight (F := F) c (.dma sem) N
            iprop(owns c dst fullShare (SparseCore.gatherPayload hg X (SparseCore.rows J hn hin)) ∗ owns c src q X ∗ owns c offs qo J)
              -∗ wp frame (wpE (defs₀ (F := F)) 𝒱₀ c bd) Set.univ (k ⟨⟩) Q)
          -∗ wp frame (wpE (defs₀ (F := F)) 𝒱₀ c bd) Set.univ (SparseCore.enqueueIndirectGather hp src dst' hg offs' hn sem hsrc he hsp hr >>= k) Q) := by
  subst ed; subst eo
  unfold owns
  iintro ⟨⟨%f, %hf, Hs⟩, ⟨%g, %hg', Hd⟩, ⟨%o, %ho, Ho⟩, Hv⟩ HK
  subst hf; subst ho
  iapply (SparseCore.wp_indirectGatherLocal countersEmb 𝒱₀ c bd (hg := hg) (default : HIx 1) N hN hs hin) $$ [Hs Hd Ho Hv]
  · isplitl [Hs]; · iexact Hs
    isplitl [Hd]; · iexact Hd
    isplitl [Ho]; · iexact Ho
    iexact Hv
  iintro HF
  iapply HK
  unfold InFlight
  iapply (Transfers.Flight_mono countersEmb c ?_) $$ HF
  iintro ⟨Hd, Hs, Ho⟩
  isplitl [Hd]
  · iexists _; isplitr
    swap; · iexact Hd
    ipureintro
    exact View.read_write_univ _ _
  isplitl [Hs]
  · iexists f; isplitr; · ipureintro; rfl
    iexact Hs
  · iexists o; isplitr; · ipureintro; rfl
    iexact Ho

/-- The wait for a copy in flight. -/
theorem wp_waitOwn {Q : α → sProp 𝕄} {sp sp' : Space} {s s' : Shape} {e e' : EltTy} {κ' : Kind} {sem sem' : DmaSem sig}
    {srcw : Memref sig c.2.kind sp' s' e'} {dstw dstw' : Memref sig κ' sp s e} {hsrc : srcw.view.WordExact} {hdst : dstw'.view.WordExact}
    {k : PUnit → Prog (TpuEff nD τ sig (Elt F) Λ₀ c.2) α} (em : sem' = sem) (ew : dstw' = dstw) {N : ℕ} (hN : dstw.view.dmaCredit = N) {D : sProp 𝕄}
    {O : CellTallies nD τ sig (HIx 1)} {W : Waits sig (HIx 1)} :
    iprop(InFlight (F := F) c (.dma sem) N D ∗ owes c O W ∗ MayWait c (.dma sem) (default : HIx 1) O)
      ⊢ iprop((iprop(D ∗ semVal (c, .dma sem) 0 ∗ owes c O (insert (SemLoc.dma sem, default) W)) -∗ wp frame (wpE (defs₀ (F := F)) 𝒱₀ c bd) Set.univ (k ⟨⟩) Q)
          -∗ wp frame (wpE (defs₀ (F := F)) 𝒱₀ c bd) Set.univ (.op (.waitDma2 sem' srcw dstw' hsrc hdst) k) Q) := by
  subst em; subst ew
  exact Transfers.wp_waitLocalO countersEmb 𝒱₀ c bd (default : HIx 1) hN

end

end Cert.KernelIdeal.Hand

end
-- ==== Proof.GatherBody.lean ====
/-
  One tile's run of the SparseCore kernel: two blocks of 256 rows, each fetched as a list of row numbers, gathered, and copied out.
-/
module

public import proofs.«01_k».proof.Proof.ScRules
public import Idealize.ShloMosaic.Lib.VecWindow

@[expose] public section

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The memrefs the tile names -/

/-- A slot of the two of row numbers, and of the two of gathered rows. -/
abbrev aS (off : Fin 3 → ℕ) (h : ∀ a, off a + S1x1x256.size a ≤ S2x1x256.size a) : Memref sig .scVector .vmem S1x256 .i32 :=
  ((Memref.whole cc2_scoped0 : Memref sig .scVector .vmem S2x1x256 .i32).slice (Rect.unit (s := S2x1x256) off S1x1x256.size h) (fun _ => rfl)).squeeze S1x256
    squeezes_S1x1x256_S1x256

abbrev bS (off : Fin 3 → ℕ) (h : ∀ a, off a + S1x256x128.size a ≤ S2x256x128.size a) : Memref sig .scVector .vmem S256x128 .f32 :=
  ((Memref.whole cc2_scoped2 : Memref sig .scVector .vmem S2x256x128 .f32).slice (Rect.unit (s := S2x256x128) off S1x256x128.size h) (fun _ => rfl)).squeeze S256x128
    squeezes_S1x256x128_S256x128

/-- A stretch of the row numbers in the shared array, and one of the output's rows. -/
abbrev xS (off : Fin 2 → ℕ) (h : ∀ a, off a + S1x256.size a ≤ S1x16384.size a) : Memref sig .scVector .hbm S1x256 .i32 :=
  (Memref.whole main_v6_scv : Memref sig .scVector .hbm S1x16384 .i32).slice (Rect.unit (s := S1x16384) off S1x256.size h) (fun _ => rfl)

abbrev oS (off : Fin 2 → ℕ) (h : ∀ a, off a + S256x128.size a ≤ S16384x128.size a) : Memref sig .scVector .hbm S256x128 .f32 :=
  (Memref.whole main_v7_scv : Memref sig .scVector .hbm S16384x128 .f32).slice (Rect.unit (s := S16384x128) off S256x128.size h) (fun _ => rfl)

/-- A semaphore of a pair. -/
abbrev sS (v : DmaSems sig S2) (off : Fin 1 → ℕ) (h : ∀ a, off a + S1.size a ≤ S2.size a) : DmaSem sig :=
  ((v.slice (Rect.unit (s := S2) off S1.size h)).squeeze S_ squeezes_S1_S_).sem

/-- Where the tile at `i` finds its first block and its second. -/
abbrev at0 (i : grid2.Coords) : ℕ := 512 * (i 1).val + 8192 * (i 0).val
abbrev at1 (i : grid2.Coords) : ℕ := 512 * (i 1).val + 8192 * (i 0).val + 256

theorem at0_in (i : grid2.Coords) : at0 i + 512 ≤ 16384 := by
  have h0 : (i 0).val < 2 := (i 0).isLt
  have h1 : (i 1).val < 16 := (i 1).isLt
  unfold at0; omega

theorem x_in (i : grid2.Coords) (n : ℕ) (h : n + 256 ≤ 16384) : ∀ a, (![0, n] : Fin 2 → ℕ) a + S1x256.size a ≤ S1x16384.size a := by
  intro a; match a with
  | 0 => exact le_rfl
  | 1 => exact h

theorem o_in (i : grid2.Coords) (n : ℕ) (h : n + 256 ≤ 16384) : ∀ a, (![n, 0] : Fin 2 → ℕ) a + S256x128.size a ≤ S16384x128.size a := by
  intro a; match a with
  | 0 => exact h
  | 1 => exact le_rfl

abbrev A0 : Memref sig .scVector .vmem S1x256 .i32 := aS ![0, 0, 0] (by decide)
abbrev A1 : Memref sig .scVector .vmem S1x256 .i32 := aS ![1, 0, 0] (by decide)
abbrev B0 : Memref sig .scVector .vmem S256x128 .f32 := bS ![0, 0, 0] (by decide)
abbrev B1 : Memref sig .scVector .vmem S256x128 .f32 := bS ![1, 0, 0] (by decide)
abbrev X0 (i : grid2.Coords) : Memref sig .scVector .hbm S1x256 .i32 := xS ![0, at0 i] (x_in i _ (by have := at0_in i; omega))
abbrev X1 (i : grid2.Coords) : Memref sig .scVector .hbm S1x256 .i32 := xS ![0, at1 i] (x_in i _ (by have := at0_in i; unfold at0 at this; unfold at1; omega))
abbrev O0 (i : grid2.Coords) : Memref sig .scVector .hbm S256x128 .f32 := oS ![at0 i, 0] (o_in i _ (by have := at0_in i; omega))
abbrev O1 (i : grid2.Coords) : Memref sig .scVector .hbm S256x128 .f32 := oS ![at1 i, 0] (o_in i _ (by have := at0_in i; unfold at0 at this; unfold at1; omega))
abbrev s50 : DmaSem sig := sS cc2_scoped1 ![0] (by decide)
abbrev s51 : DmaSem sig := sS cc2_scoped1 ![1] (by decide)
abbrev s60 : DmaSem sig := sS cc2_scoped3 ![0] (by decide)
abbrev s61 : DmaSem sig := sS cc2_scoped3 ![1] (by decide)
abbrev s7 : DmaSem sig := cc2_scoped4.sem

/-- The table as the gather names it. -/
abbrev TB : Memref sig .scVector .hbm S202752x128 .f32 :=
  (Memref.whole main_v4_scv : Memref sig .scVector .hbm S202752x128 .f32).slice (Rect.unit (s := S202752x128) ![0, 0] S202752x128.size inb_S202752x128_S202752x128_0_0) (fun _ => rfl)

/-- A slot of row numbers as the gather names it. -/
abbrev listOf (A : Memref sig .scVector .vmem S1x256 .i32) : Memref sig .scVector .vmem S256 .i32 :=
  (A.slice (Rect.unit (s := S1x256) ![0, 0] S1x256.size inb_S1x256_S1x256_0_0) (fun _ => rfl)).squeeze S256 squeezes_S1x256_S256

/-! ## The rows gathered -/

/-- The rows of the table that a list of row numbers names. -/
def rowsAt (tb : S202752x128.Idx → Elt F .f32) (J : S1x256.Idx → Elt F .i32) : S256x128.Idx → Elt F .f32 := fun x =>
  tb fun | 0 => ⟨(J fun | 0 => ⟨0, by decide⟩ | 1 => ⟨(x 0).val, (x 0).isLt⟩).toNat % 202752, Nat.mod_lt _ (by decide)⟩ | 1 => ⟨(x 1).val, (x 1).isLt⟩

section

variable (d : Dev nD) (i : grid2.Coords)

/-- The tile's thread. -/
abbrev tile : Thread nD τ := (d, .scVector ((i 0).castLE hcore2) ((i 1).castLE hsub2))

theorem listOf_set (A : Memref sig .scVector .vmem S1x256 .i32) : (listOf A).view.set = A.view.set := by
  show ((A.view.slice _).reshape _ _).set = _
  rw [View.set_reshape, View.set_slice]
  have : (Rect.unit (s := S1x256) ![0, 0] S1x256.size inb_S1x256_S1x256_0_0).set = Finset.univ := by
    ext z; simp only [Finset.mem_univ, iff_true, Rect.mem_set_unit]; intro a
    have := (z a).isLt
    match a with
    | 0 => exact ⟨Nat.zero_le _, by simpa using this⟩
    | 1 => exact ⟨Nat.zero_le _, by simpa using this⟩
  rw [this]; rfl

theorem listOf_owns (A : Memref sig .scVector .vmem S1x256 .i32) (q : PosShare TreeShare) (J : S1x256.Idx → Elt F .i32) :
    (owns (tile d i) A q J : sProp 𝕄) ⊢ owns (tile d i) (listOf A) q fun y => J (Shape.reshapeEquiv squeezes_S1x256_S256.numel_eq y) := by
  have hs := listOf_set A
  unfold owns
  iintro ⟨%f, %hf, H⟩
  iexists f; isplitr
  · ipureintro
    rw [← hf]
    exact Memref.read_squeeze_full A inb_S1x256_S1x256_0_0 squeezes_S1x256_S256 f
  · rw [hs]; iexact H

theorem listOf_back (A : Memref sig .scVector .vmem S1x256 .i32) (q : PosShare TreeShare) (J : S1x256.Idx → Elt F .i32) :
    (owns (tile d i) (listOf A) q fun y => J (Shape.reshapeEquiv squeezes_S1x256_S256.numel_eq y) : sProp 𝕄) ⊢ owns (tile d i) A q J := by
  have hs := listOf_set A
  unfold owns
  iintro ⟨%f, %hf, H⟩
  iexists f; isplitr
  · ipureintro
    funext z
    have h := congrFun hf ((Shape.reshapeEquiv squeezes_S1x256_S256.numel_eq).symm z)
    rw [Memref.read_squeeze_full A inb_S1x256_S1x256_0_0 squeezes_S1x256_S256 f] at h
    simpa using h
  · rw [← hs]; iexact H

theorem payload_eq (tb : S202752x128.Idx → Elt F .f32) (J : S1x256.Idx → Elt F .i32) (hJ : ∀ z, (J z).toNat < 202752)
    (hin : ∀ x, ((fun y => J (Shape.reshapeEquiv squeezes_S1x256_S256.numel_eq y)) x).toNat < S202752x128.size gathers_S202752x128_S256x128.axis) :
    SparseCore.gatherPayload gathers_S202752x128_S256x128 tb (SparseCore.rows (fun y => J (Shape.reshapeEquiv squeezes_S1x256_S256.numel_eq y)) rfl hin) = rowsAt (F := F) tb J := by
  funext x
  unfold SparseCore.gatherPayload rowsAt
  congr 1
  funext b
  match b with
  | 0 =>
    refine (Shape.Gathers.idx_axis gathers_S202752x128_S256x128 _ x).trans ?_
    apply Fin.ext
    show (J _).toNat = _ % _
    rw [Nat.mod_eq_of_lt (hJ _)]
    congr 2
    refine Shape.reshapeEquiv_eq_of_rowMajor _ ?_
    rw [Equiv.apply_symm_apply, Shape.rowMajor_val_two]
    show 0 * 256 + (x 0).val = (x 0).val
    omega
  | 1 => exact Fin.ext (Shape.Gathers.idx_of_ne gathers_S202752x128_S256x128 _ x 1 (by decide))

/-! ## The trips -/

theorem creditB0 : ∀ h : S202752x128.Gathers 0 S256x128,
    ∑ j, (B0.slice (S256x128.rowRect h.axis' j) (S256x128.stride_rowRect h.axis' j)).view.dmaCredit = B0.view.dmaCredit := by decide +kernel
theorem creditB1 : ∀ h : S202752x128.Gathers 0 S256x128,
    ∑ j, (B1.slice (S256x128.rowRect h.axis' j) (S256x128.stride_rowRect h.axis' j)).view.dmaCredit = B1.view.dmaCredit := by decide +kernel

/-- The first block the tile at `i` takes, times 256. -/
abbrev firstBlock (i : grid2.Coords) : BitVec 32 :=
  Scalar.muli (Scalar.addi (Scalar.addi 0#32 (Scalar.muli (BitVec.ofNat 32 (i 1).val) 1#32)) (Scalar.muli (BitVec.ofNat 32 (i 0).val) 16#32)) 2#32

abbrev tripBody (t : Fin k2_t1_loop.trips) (acc : BitVec 32 × BitVec 32 × BitVec 32 × BitVec 32 × BitVec 32) :
    Prog (TpuEff nD τ sig (Elt F) Λ₀ (tile d i).2) (BitVec 32 × BitVec 32 × BitVec 32 × BitVec 32 × BitVec 32) :=
  k2_t1_body i (Memref.whole main_v4_scv) (Memref.isWhole_whole _) (Memref.whole main_v6_scv) (Memref.isWhole_whole _) (Memref.whole main_v7_scv) (Memref.isWhole_whole _)
    (Memref.whole cc2_scoped0) (Memref.isWhole_whole _) cc2_scoped1 (Memref.whole cc2_scoped2) (Memref.isWhole_whole _) cc2_scoped3 cc2_scoped4 (firstBlock i) t acc

/-- The loop's two trips. -/
abbrev t₀ : Fin k2_t1_loop.trips := ⟨0, by decide⟩
abbrev t₁ : Fin k2_t1_loop.trips := ⟨1, by decide⟩

theorem aS_congr {off off' : Fin 3 → ℕ} (e : off = off') {h h'} : aS off h = aS off' h' := by subst e; rfl
theorem bS_congr {off off' : Fin 3 → ℕ} (e : off = off') {h h'} : bS off h = bS off' h' := by subst e; rfl
theorem xS_congr {off off' : Fin 2 → ℕ} (e : off = off') {h h'} : xS off h = xS off' h' := by subst e; rfl
theorem oS_congr {off off' : Fin 2 → ℕ} (e : off = off') {h h'} : oS off h = oS off' h' := by subst e; rfl
theorem sS_congr (v : DmaSems sig S2) {off off' : Fin 1 → ℕ} (e : off = off') {h h'} : sS v off h = sS v off' h' := by subst e; rfl

theorem chk1_0 : ∀ i : grid2.Coords, k2_chk1 i t₀ 1#32 0#32 0#32 0#32 0#32 := by decide +kernel
theorem chk1_1 : ∀ i : grid2.Coords, k2_chk1 i t₁ 2#32 1#32 1#32 0#32 1#32 := by decide +kernel
theorem cond1_0 : ∀ i : grid2.Coords, k2_cond1 i t₀ 0#32 = 1#1 := by decide +kernel
theorem cond1_1 : ∀ i : grid2.Coords, ¬ k2_cond1 i t₁ 1#32 = 1#1 := by decide +kernel
theorem cond2_0 : ∀ i : grid2.Coords, k2_cond2 i t₀ 0#32 = 1#1 := by decide +kernel
theorem cond2_1 : ∀ i : grid2.Coords, k2_cond2 i t₁ 1#32 = 1#1 := by decide +kernel
theorem cond5_0 : ∀ i : grid2.Coords, k2_cond5 i t₀ 0#32 = 1#1 := by decide +kernel
theorem cond5_1 : ∀ i : grid2.Coords, k2_cond5 i t₁ 1#32 = 1#1 := by decide +kernel
theorem cond7_0 : ∀ i : grid2.Coords, ¬ k2_cond7 i t₀ 0#32 = 1#1 := by decide +kernel
theorem cond7_1 : ∀ i : grid2.Coords, k2_cond7 i t₁ 1#32 = 1#1 := by decide +kernel
theorem off5_0 : ∀ i : grid2.Coords, k2_off5 i 0#32 = ![0, at1 i] := by decide +kernel
theorem off13_0 : ∀ i : grid2.Coords, k2_off13 i 0#32 = ![at0 i, 0] := by decide +kernel
theorem off13_1 : ∀ i : grid2.Coords, k2_off13 i 1#32 = ![at1 i, 0] := by decide +kernel
theorem off4_1 : k2_off4 1#32 = ![1, 0, 0] := by decide +kernel
theorem off6_1 : k2_off6 1#32 = ![1] := by decide +kernel
theorem off7_0 : k2_off7 0#32 = ![0, 0, 0] := by decide +kernel
theorem off7_1 : k2_off7 1#32 = ![1, 0, 0] := by decide +kernel
theorem off9_0 : k2_off9 0#32 = ![0] := by decide +kernel
theorem off9_1 : k2_off9 1#32 = ![1] := by decide +kernel
theorem off10_0 : k2_off10 0#32 = ![0, 0, 0] := by decide +kernel
theorem off10_1 : k2_off10 1#32 = ![1, 0, 0] := by decide +kernel
theorem off11_0 : k2_off11 0#32 = ![0, 0, 0] := by decide +kernel
theorem off11_1 : k2_off11 1#32 = ![1, 0, 0] := by decide +kernel
theorem off12_0 : k2_off12 0#32 = ![0, 0, 0] := by decide +kernel
theorem off12_1 : k2_off12 1#32 = ![1, 0, 0] := by decide +kernel
theorem off14_0 : k2_off14 0#32 = ![0] := by decide +kernel
theorem off14_1 : k2_off14 1#32 = ![1] := by decide +kernel
theorem off15_0 : k2_off15 0#32 = ![0, 0, 0] := by decide +kernel
theorem chk5_1 : ∀ i : grid2.Coords, k2_chk5 i 0#32 := by decide +kernel
theorem off16_1 : ∀ i : grid2.Coords, k2_off16 i 1#32 = ![at0 i, 0] := by decide +kernel
theorem off19_0 : ∀ i : grid2.Coords, k2_off19 i 0#32 = ![at1 i, 0] := by decide +kernel
theorem off20_1 : k2_off20 1#32 = ![1] := by decide +kernel
theorem off17_0 : k2_off17 0#32 = ![0] := by decide +kernel

variable (q q0 q1 : PosShare TreeShare) (tb : S202752x128.Idx → Elt F .f32) (J0 J1 : S1x256.Idx → Elt F .i32)

/-- What a block of row numbers, and a block of rows, counts on its cell. -/
def creditA : ℕ := A0.view.dmaCredit
def creditO : ℕ := sig.dmaCredit .scVector (Kind.scVector.table .hbm) (main_v7_scv).idx S256x128 .f32

/-- The waits recorded grow by waits at the local index alone. -/
abbrev owesFrom (O : CellTallies nD τ sig (HIx 1)) (W : Waits sig (HIx 1)) : sProp 𝕄 :=
  iprop(∃ W', ⌜∀ p ∈ W', p ∈ W ∨ p.2 = none⌝ ∗ owes (tile d i) O W')

theorem trip0 (hJ0 : ∀ z, (J0 z).toNat < 202752) (O : CellTallies nD τ sig (HIx 1)) (W : Waits sig (HIx 1))
    (Ya : S1x256.Idx → Elt F .i32) (Yb Yo : S256x128.Idx → Elt F .f32) :
    iprop(Transfers.MayWaits (tile d i) none O
        ∗ InFlight (F := F) (tile d i) (.dma s50) creditA iprop(owns (tile d i) A0 fullShare J0 ∗ owns (tile d i) (X0 i) q0 J0)
        ∗ owns (tile d i) (X1 i) q1 J1 ∗ owns (tile d i) A1 fullShare Ya ∗ semVal (tile d i, .dma s51) 0
        ∗ owns (tile d i) TB q tb ∗ owns (tile d i) B0 fullShare Yb ∗ semVal (tile d i, .dma s7) 0
        ∗ owns (tile d i) (O0 i) fullShare Yo ∗ semVal (tile d i, .dma s60) 0 ∗ owesFrom (F := F) d i O W)
      ⊢ wp frame (wpE (defs₀ (F := F)) 𝒱₀ (tile d i) none) Set.univ (tripBody (F := F) d i t₀ (1#32, 0#32, 0#32, 0#32, 0#32))
          fun r => (iprop(⌜r = (2#32, 1#32, 1#32, 0#32, 1#32)⌝ ∗ owns (tile d i) A0 fullShare J0 ∗ owns (tile d i) (X0 i) q0 J0 ∗ semVal (tile d i, .dma s50) 0
            ∗ InFlight (F := F) (tile d i) (.dma s51) creditA iprop(owns (tile d i) A1 fullShare J1 ∗ owns (tile d i) (X1 i) q1 J1)
            ∗ owns (tile d i) TB q tb ∗ semVal (tile d i, .dma s7) 0
            ∗ InFlight (F := F) (tile d i) (.dma s60) creditO
                iprop(owns (tile d i) (O0 i) fullShare (rowsAt (F := F) tb J0) ∗ owns (tile d i) B0 fullShare (rowsAt (F := F) tb J0))
            ∗ owesFrom (F := F) d i O W) : sProp 𝕄) := by
  unfold tripBody k2_t1_body
  simp only [k2_part1_eq_skeleton, k2_part2_eq_skeleton]
  unfold k2_part1_skel k2_part2_skel
  simp only [Prog.lift, Prog.bind_op, Prog.bind_ret, Prog.pure_eq_ret, Prog.bind_assoc, dif_pos (cond1_0 i), dif_pos (cond2_0 i), dif_pos (cond5_0 i), dif_neg (cond7_0 i), ite_self]
  rw [wp_assume_of _ _ _ _ (by decide +kernel : k2_chk3 0#32), wp_assume_of _ _ _ _ (by decide +kernel : k2_chk2 0#32), wp_assume_of _ _ _ _ (chk1_0 i)]
  iintro ⟨#HM, HF, HX, HA, Hs, HT, HB, Hg, HO, Hs6, ⟨%W1, %hW1, Ho⟩⟩
  iapply (wp_copyOwn (tile d i) none (src := X1 i) (dst := A1) (sm := .dma s51) (xS_congr (off5_0 i)) (aS_congr off4_1) (congrArg SemLoc.dma (sS_congr _ off6_1)) creditA rfl (by decide +kernel)) $$ [HX HA Hs]
  · isplitl [HX]; · iexact HX
    isplitl [HA]; · iexact HA
    iexact Hs
  iintro HF1
  iapply (wp_waitOwn (tile d i) none (sem := s50) (dstw := A0) (sS_congr _ off9_0) (aS_congr off7_0) (N := creditA) rfl) $$ [HF Ho]
  · isplitl [HF]; · iexact HF
    isplitl [Ho]; · iexact Ho
    iapply (Transfers.MayWaits.elim _) $$ HM
  iintro ⟨⟨HA0, HX0⟩, Hs5, Ho⟩
  ihave HL := (listOf_owns d i A0 fullShare J0) $$ HA0
  iapply (wp_gatherOwn (tile d i) none (dst := B0) (offs := listOf A0) (bS_congr off10_0) (congrArg listOf (aS_congr off11_0)) B0.view.dmaCredit (creditB0 _) (by decide +kernel) (fun x => hJ0 _)) $$ [HT HB HL Hg]
  · isplitl [HT]; · iexact HT
    isplitl [HB]; · iexact HB
    isplitl [HL]; · iexact HL
    iexact Hg
  iintro HG
  unfold SparseCore.waitIndirectGather
  simp only [Prog.bind_op, Prog.bind_ret]
  iapply (wp_waitOwn (tile d i) none (sem := s7) (dstw := B0) rfl (bS_congr off10_0) (N := B0.view.dmaCredit) rfl) $$ [HG Ho]
  · isplitl [HG]; · iexact HG
    isplitl [Ho]; · iexact Ho
    iapply (Transfers.MayWaits.elim _) $$ HM
  iintro ⟨⟨HB, HT, HL⟩, Hg, Ho⟩
  ihave HA0 := (listOf_back d i A0 fullShare J0) $$ HL
  ihave HB := (Entails.of_eq (congrArg (owns (tile d i) B0 fullShare) (payload_eq tb J0 hJ0 (fun x => hJ0 _)))) $$ HB
  iapply (wp_copyOwn (tile d i) none (src := B0) (dst := O0 i) (sm := .dma s60) (bS_congr off12_0) (oS_congr (off13_0 i)) (congrArg SemLoc.dma (sS_congr _ off14_0)) creditO rfl (by decide +kernel)) $$ [HB HO Hs6]
  · isplitl [HB]; · iexact HB
    isplitl [HO]; · iexact HO
    iexact Hs6
  iintro HF6
  rw [wp_ret]; imodintro
  isplitr
  · ipureintro
    clear * - i
    revert i
    decide +kernel
  isplitl [HA0]; · iexact HA0
  isplitl [HX0]; · iexact HX0
  isplitl [Hs5]; · iexact Hs5
  isplitl [HF1]; · iexact HF1
  isplitl [HT]; · iexact HT
  isplitl [Hg]; · iexact Hg
  isplitl [HF6]; · iexact HF6
  iexists _; isplitr
  swap; · iexact Ho
  ipureintro; intro p hp
  rcases Finset.mem_insert.mp hp with rfl | hp
  · exact .inr rfl
  rcases Finset.mem_insert.mp hp with rfl | hp
  · exact .inr rfl
  exact hW1 p hp

theorem trip1 (hJ1 : ∀ z, (J1 z).toNat < 202752) (O : CellTallies nD τ sig (HIx 1)) (W : Waits sig (HIx 1))
    (Yb Yo : S256x128.Idx → Elt F .f32) :
    iprop(Transfers.MayWaits (tile d i) none O
        ∗ InFlight (F := F) (tile d i) (.dma s51) creditA iprop(owns (tile d i) A1 fullShare J1 ∗ owns (tile d i) (X1 i) q1 J1)
        ∗ owns (tile d i) TB q tb ∗ owns (tile d i) B1 fullShare Yb ∗ semVal (tile d i, .dma s7) 0
        ∗ InFlight (F := F) (tile d i) (.dma s60) creditO
            iprop(owns (tile d i) (O0 i) fullShare (rowsAt (F := F) tb J0) ∗ owns (tile d i) B0 fullShare (rowsAt (F := F) tb J0))
        ∗ owns (tile d i) (O1 i) fullShare Yo ∗ semVal (tile d i, .dma s61) 0 ∗ owesFrom (F := F) d i O W)
      ⊢ wp frame (wpE (defs₀ (F := F)) 𝒱₀ (tile d i) none) Set.univ (tripBody (F := F) d i t₁ (2#32, 1#32, 1#32, 0#32, 1#32))
          fun r => (iprop(⌜r = (2#32, 2#32, 2#32, 1#32, 0#32)⌝ ∗ owns (tile d i) A1 fullShare J1 ∗ owns (tile d i) (X1 i) q1 J1 ∗ semVal (tile d i, .dma s51) 0
            ∗ owns (tile d i) TB q tb ∗ semVal (tile d i, .dma s7) 0
            ∗ owns (tile d i) (O0 i) fullShare (rowsAt (F := F) tb J0) ∗ owns (tile d i) B0 fullShare (rowsAt (F := F) tb J0) ∗ semVal (tile d i, .dma s60) 0
            ∗ InFlight (F := F) (tile d i) (.dma s61) creditO
                iprop(owns (tile d i) (O1 i) fullShare (rowsAt (F := F) tb J1) ∗ owns (tile d i) B1 fullShare (rowsAt (F := F) tb J1))
            ∗ owesFrom (F := F) d i O W) : sProp 𝕄) := by
  unfold tripBody k2_t1_body
  simp only [k2_part1_eq_skeleton, k2_part2_eq_skeleton]
  unfold k2_part1_skel k2_part2_skel
  simp only [Prog.lift, Prog.bind_op, Prog.bind_ret, Prog.pure_eq_ret, Prog.bind_assoc, dif_neg (cond1_1 i), dif_pos (cond2_1 i), dif_pos (cond5_1 i), dif_pos (cond7_1 i), ite_self]
  rw [wp_assume_of _ _ _ _ (by decide +kernel : k2_chk3 1#32), wp_assume_of _ _ _ _ (by decide +kernel : k2_chk2 1#32), wp_assume_of _ _ _ _ (chk1_1 i)]
  iintro ⟨#HM, HF, HT, HB, Hg, HF0, HO, Hs6, ⟨%W1, %hW1, Ho⟩⟩
  iapply (wp_waitOwn (tile d i) none (sem := s51) (dstw := A1) (sS_congr _ off9_1) (aS_congr off7_1) (N := creditA) rfl) $$ [HF Ho]
  · isplitl [HF]; · iexact HF
    isplitl [Ho]; · iexact Ho
    iapply (Transfers.MayWaits.elim _) $$ HM
  iintro ⟨⟨HA0, HX0⟩, Hs5, Ho⟩
  ihave HL := (listOf_owns d i A1 fullShare J1) $$ HA0
  iapply (wp_gatherOwn (tile d i) none (dst := B1) (offs := listOf A1) (bS_congr off10_1) (congrArg listOf (aS_congr off11_1)) B1.view.dmaCredit (creditB1 _) (by decide +kernel) (fun x => hJ1 _)) $$ [HT HB HL Hg]
  · isplitl [HT]; · iexact HT
    isplitl [HB]; · iexact HB
    isplitl [HL]; · iexact HL
    iexact Hg
  iintro HG
  unfold SparseCore.waitIndirectGather
  simp only [Prog.bind_op, Prog.bind_ret]
  iapply (wp_waitOwn (tile d i) none (sem := s7) (dstw := B1) rfl (bS_congr off10_1) (N := B1.view.dmaCredit) rfl) $$ [HG Ho]
  · isplitl [HG]; · iexact HG
    isplitl [Ho]; · iexact Ho
    iapply (Transfers.MayWaits.elim _) $$ HM
  iintro ⟨⟨HB, HT, HL⟩, Hg, Ho⟩
  ihave HA0 := (listOf_back d i A1 fullShare J1) $$ HL
  ihave HB := (Entails.of_eq (congrArg (owns (tile d i) B1 fullShare) (payload_eq tb J1 hJ1 (fun x => hJ1 _)))) $$ HB
  iapply (wp_copyOwn (tile d i) none (src := B1) (dst := O1 i) (sm := .dma s61) (bS_congr off12_1) (oS_congr (off13_1 i)) (congrArg SemLoc.dma (sS_congr _ off14_1)) creditO rfl (by decide +kernel)) $$ [HB HO Hs6]
  · isplitl [HB]; · iexact HB
    isplitl [HO]; · iexact HO
    iexact Hs6
  iintro HF6
  iapply (wp_waitOwn (tile d i) none (sem := s60) (dstw := O0 i) (sS_congr _ off17_0) (oS_congr (off16_1 i)) (N := creditO) rfl) $$ [HF0 Ho]
  · isplitl [HF0]; · iexact HF0
    isplitl [Ho]; · iexact Ho
    iapply (Transfers.MayWaits.elim _) $$ HM
  iintro ⟨⟨HO0, HB0⟩, Hs60, Ho⟩
  rw [wp_ret]; imodintro
  isplitr
  · ipureintro
    clear * - i
    revert i
    decide +kernel
  isplitl [HA0]; · iexact HA0
  isplitl [HX0]; · iexact HX0
  isplitl [Hs5]; · iexact Hs5
  isplitl [HT]; · iexact HT
  isplitl [Hg]; · iexact Hg
  isplitl [HO0]; · iexact HO0
  isplitl [HB0]; · iexact HB0
  isplitl [Hs60]; · iexact Hs60
  isplitl [HF6]; · iexact HF6
  iexists _; isplitr
  swap; · iexact Ho
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  exact hW1 p hp

/-- What the tile holds before the first trip, before the second, and after it. -/
def gI0 (O : CellTallies nD τ sig (HIx 1)) (W : Waits sig (HIx 1)) (acc : BitVec 32 × BitVec 32 × BitVec 32 × BitVec 32 × BitVec 32) : sProp 𝕄 :=
  iprop(⌜acc = (1#32, 0#32, 0#32, 0#32, 0#32)⌝
      ∗ InFlight (F := F) (tile d i) (.dma s50) creditA iprop(owns (tile d i) A0 fullShare J0 ∗ owns (tile d i) (X0 i) q0 J0)
      ∗ owns (tile d i) (X1 i) q1 J1 ∗ (∃ Y, owns (tile d i) A1 fullShare Y) ∗ semVal (tile d i, .dma s51) 0
      ∗ owns (tile d i) TB q tb ∗ (∃ Y, owns (tile d i) B0 fullShare Y) ∗ (∃ Y, owns (tile d i) B1 fullShare Y) ∗ semVal (tile d i, .dma s7) 0
      ∗ (∃ Y, owns (tile d i) (O0 i) fullShare Y) ∗ (∃ Y, owns (tile d i) (O1 i) fullShare Y)
      ∗ semVal (tile d i, .dma s60) 0 ∗ semVal (tile d i, .dma s61) 0 ∗ owesFrom (F := F) d i O W)

def gI1 (O : CellTallies nD τ sig (HIx 1)) (W : Waits sig (HIx 1)) (acc : BitVec 32 × BitVec 32 × BitVec 32 × BitVec 32 × BitVec 32) : sProp 𝕄 :=
  iprop(⌜acc = (2#32, 1#32, 1#32, 0#32, 1#32)⌝ ∗ owns (tile d i) A0 fullShare J0 ∗ owns (tile d i) (X0 i) q0 J0 ∗ semVal (tile d i, .dma s50) 0
      ∗ InFlight (F := F) (tile d i) (.dma s51) creditA iprop(owns (tile d i) A1 fullShare J1 ∗ owns (tile d i) (X1 i) q1 J1)
      ∗ owns (tile d i) TB q tb ∗ (∃ Y, owns (tile d i) B1 fullShare Y) ∗ semVal (tile d i, .dma s7) 0
      ∗ InFlight (F := F) (tile d i) (.dma s60) creditO
          iprop(owns (tile d i) (O0 i) fullShare (rowsAt (F := F) tb J0) ∗ owns (tile d i) B0 fullShare (rowsAt (F := F) tb J0))
      ∗ (∃ Y, owns (tile d i) (O1 i) fullShare Y) ∗ semVal (tile d i, .dma s61) 0 ∗ owesFrom (F := F) d i O W)

def gI2 (O : CellTallies nD τ sig (HIx 1)) (W : Waits sig (HIx 1)) (acc : BitVec 32 × BitVec 32 × BitVec 32 × BitVec 32 × BitVec 32) : sProp 𝕄 :=
  iprop(⌜acc = (2#32, 2#32, 2#32, 1#32, 0#32)⌝ ∗ owns (tile d i) A0 fullShare J0 ∗ owns (tile d i) (X0 i) q0 J0 ∗ semVal (tile d i, .dma s50) 0
      ∗ owns (tile d i) A1 fullShare J1 ∗ owns (tile d i) (X1 i) q1 J1 ∗ semVal (tile d i, .dma s51) 0
      ∗ owns (tile d i) TB q tb ∗ semVal (tile d i, .dma s7) 0
      ∗ owns (tile d i) (O0 i) fullShare (rowsAt (F := F) tb J0) ∗ owns (tile d i) B0 fullShare (rowsAt (F := F) tb J0) ∗ semVal (tile d i, .dma s60) 0
      ∗ InFlight (F := F) (tile d i) (.dma s61) creditO
          iprop(owns (tile d i) (O1 i) fullShare (rowsAt (F := F) tb J1) ∗ owns (tile d i) B1 fullShare (rowsAt (F := F) tb J1))
      ∗ owesFrom (F := F) d i O W)

/-- What the tile holds before trip `k`. -/
def gInv (O : CellTallies nD τ sig (HIx 1)) (W : Waits sig (HIx 1)) (k : ℕ) (acc : BitVec 32 × BitVec 32 × BitVec 32 × BitVec 32 × BitVec 32) : sProp 𝕄 :=
  match k with
  | 0 => gI0 (F := F) d i q q0 q1 tb J0 J1 O W acc
  | 1 => gI1 (F := F) d i q q0 q1 tb J0 J1 O W acc
  | _ => gI2 (F := F) d i q q0 q1 tb J0 J1 O W acc

theorem gStep (hJ0 : ∀ z, (J0 z).toNat < 202752) (hJ1 : ∀ z, (J1 z).toNat < 202752) (O : CellTallies nD τ sig (HIx 1)) (W : Waits sig (HIx 1))
    (t : Fin k2_t1_loop.trips) (acc : BitVec 32 × BitVec 32 × BitVec 32 × BitVec 32 × BitVec 32) :
    iprop(Transfers.MayWaits (tile d i) none O ∗ gInv (F := F) d i q q0 q1 tb J0 J1 O W t.val acc)
      ⊢ wp frame (wpE (defs₀ (F := F)) 𝒱₀ (tile d i) none) Set.univ (tripBody (F := F) d i t acc)
          fun r => iprop(Transfers.MayWaits (tile d i) none O ∗ gInv (F := F) d i q q0 q1 tb J0 J1 O W (t.val + 1) r) := by
  have ht : t = t₀ ∨ t = t₁ := by
    have : t.val < 2 := t.isLt
    rcases Nat.lt_or_ge t.val 1 with h | h
    · exact .inl (Fin.ext (by show t.val = 0; omega))
    · exact .inr (Fin.ext (by show t.val = 1; omega))
  rcases ht with rfl | rfl
  · show iprop(Transfers.MayWaits (tile d i) none O ∗ gI0 (F := F) d i q q0 q1 tb J0 J1 O W acc)
      ⊢ wp frame (wpE (defs₀ (F := F)) 𝒱₀ (tile d i) none) Set.univ (tripBody (F := F) d i t₀ acc)
          fun r => iprop(Transfers.MayWaits (tile d i) none O ∗ gI1 (F := F) d i q q0 q1 tb J0 J1 O W r)
    unfold gI0 gI1
    iintro ⟨#HM, %ha, HF, HX1, ⟨%Ya, HA1⟩, Hs51, HT, ⟨%Yb, HB0⟩, HB1, Hs7, ⟨%Yo, HO0⟩, HO1, Hs60, Hs61, Ho⟩
    subst ha
    ihave HW := (trip0 d i q q0 q1 tb J0 J1 hJ0 O W Ya Yb Yo) $$ [HF HX1 HA1 Hs51 HT HB0 Hs7 HO0 Hs60 Ho]
    · isplitr; · iexact HM
      isplitl [HF]; · iexact HF
      isplitl [HX1]; · iexact HX1
      isplitl [HA1]; · iexact HA1
      isplitl [Hs51]; · iexact Hs51
      isplitl [HT]; · iexact HT
      isplitl [HB0]; · iexact HB0
      isplitl [Hs7]; · iexact Hs7
      isplitl [HO0]; · iexact HO0
      isplitl [Hs60]; · iexact Hs60
      iexact Ho
    iapply wp_wand $$ [$HW]
    iintro %r ⟨%hr, HA0, HX0, Hs50, HF1, HT, Hs7, HF6, Ho⟩
    isplitr; · iexact HM
    isplitr; · ipureintro; exact hr
    isplitl [HA0]; · iexact HA0
    isplitl [HX0]; · iexact HX0
    isplitl [Hs50]; · iexact Hs50
    isplitl [HF1]; · iexact HF1
    isplitl [HT]; · iexact HT
    isplitl [HB1]; · iexact HB1
    isplitl [Hs7]; · iexact Hs7
    isplitl [HF6]; · iexact HF6
    isplitl [HO1]; · iexact HO1
    isplitl [Hs61]; · iexact Hs61
    iexact Ho
  · show iprop(Transfers.MayWaits (tile d i) none O ∗ gI1 (F := F) d i q q0 q1 tb J0 J1 O W acc)
      ⊢ wp frame (wpE (defs₀ (F := F)) 𝒱₀ (tile d i) none) Set.univ (tripBody (F := F) d i t₁ acc)
          fun r => iprop(Transfers.MayWaits (tile d i) none O ∗ gI2 (F := F) d i q q0 q1 tb J0 J1 O W r)
    unfold gI1 gI2
    iintro ⟨#HM, %ha, HA0, HX0, Hs50, HF1, HT, ⟨%Yb, HB1⟩, Hs7, HF6, ⟨%Yo, HO1⟩, Hs61, Ho⟩
    subst ha
    ihave HW := (trip1 d i q q1 tb J0 J1 hJ1 O W Yb Yo) $$ [HF1 HT HB1 Hs7 HF6 HO1 Hs61 Ho]
    · isplitr; · iexact HM
      isplitl [HF1]; · iexact HF1
      isplitl [HT]; · iexact HT
      isplitl [HB1]; · iexact HB1
      isplitl [Hs7]; · iexact Hs7
      isplitl [HF6]; · iexact HF6
      isplitl [HO1]; · iexact HO1
      isplitl [Hs61]; · iexact Hs61
      iexact Ho
    iapply wp_wand $$ [$HW]
    iintro %r ⟨%hr, HA1, HX1, Hs51, HT, Hs7, HO0, HB0, Hs60, HF6, Ho⟩
    isplitr; · iexact HM
    isplitr; · ipureintro; exact hr
    isplitl [HA0]; · iexact HA0
    isplitl [HX0]; · iexact HX0
    isplitl [Hs50]; · iexact Hs50
    isplitl [HA1]; · iexact HA1
    isplitl [HX1]; · iexact HX1
    isplitl [Hs51]; · iexact Hs51
    isplitl [HT]; · iexact HT
    isplitl [Hs7]; · iexact Hs7
    isplitl [HO0]; · iexact HO0
    isplitl [HB0]; · iexact HB0
    isplitl [Hs60]; · iexact Hs60
    isplitl [HF6]; · iexact HF6
    iexact Ho

/-- The kernel as the tile at `i` runs it. -/
abbrev tileProg : Prog (TpuEff nD τ sig (Elt F) Λ₀ (tile d i).2) PUnit :=
  cc2_gk i (Memref.whole main_v4_scv) (Memref.isWhole_whole _) (Memref.whole main_v6_scv) (Memref.isWhole_whole _) (Memref.whole main_v7_scv) (Memref.isWhole_whole _)
    (Memref.whole cc2_scoped0) (Memref.isWhole_whole _) cc2_scoped1 (Memref.whole cc2_scoped2) (Memref.isWhole_whole _) cc2_scoped3 cc2_scoped4

/-- One tile's run: from a share of the table, its two stretches of row numbers, its two blocks of the output and its scratch, the blocks
    hold the table's rows. -/
theorem tileRun (hJ0 : ∀ z, (J0 z).toNat < 202752) (hJ1 : ∀ z, (J1 z).toNat < 202752) (O : CellTallies nD τ sig (HIx 1)) (W : Waits sig (HIx 1)) :
    iprop(Transfers.MayWaits (tile d i) none O ∗ owns (tile d i) TB q tb ∗ owns (tile d i) (X0 i) q0 J0 ∗ owns (tile d i) (X1 i) q1 J1
        ∗ (∃ Y, owns (tile d i) (O0 i) fullShare Y) ∗ (∃ Y, owns (tile d i) (O1 i) fullShare Y)
        ∗ (∃ Y, owns (tile d i) A0 fullShare Y) ∗ (∃ Y, owns (tile d i) A1 fullShare Y) ∗ (∃ Y, owns (tile d i) B0 fullShare Y) ∗ (∃ Y, owns (tile d i) B1 fullShare Y)
        ∗ semVal (tile d i, .dma s50) 0 ∗ semVal (tile d i, .dma s51) 0 ∗ semVal (tile d i, .dma s60) 0 ∗ semVal (tile d i, .dma s61) 0 ∗ semVal (tile d i, .dma s7) 0
        ∗ owes (tile d i) O W)
      ⊢ wp frame (wpE (defs₀ (F := F)) 𝒱₀ (tile d i) none) Set.univ (tileProg (F := F) d i)
          fun _ => (iprop(owns (tile d i) TB q tb ∗ owns (tile d i) (X0 i) q0 J0 ∗ owns (tile d i) (X1 i) q1 J1
            ∗ owns (tile d i) (O0 i) fullShare (rowsAt (F := F) tb J0) ∗ owns (tile d i) (O1 i) fullShare (rowsAt (F := F) tb J1)
            ∗ (∃ Y, owns (tile d i) A0 fullShare Y) ∗ (∃ Y, owns (tile d i) A1 fullShare Y) ∗ (∃ Y, owns (tile d i) B0 fullShare Y) ∗ (∃ Y, owns (tile d i) B1 fullShare Y)
            ∗ semVal (tile d i, .dma s50) 0 ∗ semVal (tile d i, .dma s51) 0 ∗ semVal (tile d i, .dma s60) 0 ∗ semVal (tile d i, .dma s61) 0 ∗ semVal (tile d i, .dma s7) 0
            ∗ owesFrom (F := F) d i O W) : sProp 𝕄) := by
  unfold tileProg
  rw [cc2_gk_eq_skeleton]; unfold cc2_gk_skel
  simp only [k2_part3_eq_skeleton, k2_part4_eq_skeleton]
  unfold k2_part3_skel k2_part4_skel
  simp only [Prog.lift, Prog.bind_op, Prog.bind_ret, Prog.pure_eq_ret, Prog.bind_assoc]
  iintro ⟨#HM, HT, HX0, HX1, HO0, HO1, ⟨%Ya, HA0⟩, HA1, HB0, HB1, Hs50, Hs51, Hs60, Hs61, Hs7, Ho⟩
  iapply (wp_copyOwn (tile d i) none (src := X0 i) (dst := A0) (sm := .dma s50) (xS_congr (k2_off2_eq i)) (aS_congr k2_off1_eq) (congrArg SemLoc.dma (sS_congr _ k2_off3_eq)) creditA rfl (by decide +kernel)) $$ [HX0 HA0 Hs50]
  · isplitl [HX0]; · iexact HX0
    isplitl [HA0]; · iexact HA0
    iexact Hs50
  iintro HF
  iapply (Scf.wp_for_bind _ _ _ _ _ _ _ _ _ (fun k acc => iprop(Transfers.MayWaits (tile d i) none O ∗ gInv (F := F) d i q q0 q1 tb J0 J1 O W k acc)) (gStep d i q q0 q1 tb J0 J1 hJ0 hJ1 O W)) $$ [HF HX1 HA1 Hs51 HT HB0 HB1 Hs7 HO0 HO1 Hs60 Hs61 Ho]
  · isplitr; · iexact HM
    iapply (Entails.of_eq (show gI0 (F := F) d i q q0 q1 tb J0 J1 O W (1#32, 0#32, 0#32, 0#32, 0#32) = gInv (F := F) d i q q0 q1 tb J0 J1 O W 0 _ from rfl))
    unfold gI0
    isplitr; · ipureintro; rfl
    isplitl [HF]; · iexact HF
    isplitl [HX1]; · iexact HX1
    isplitl [HA1]; · iexact HA1
    isplitl [Hs51]; · iexact Hs51
    isplitl [HT]; · iexact HT
    isplitl [HB0]; · iexact HB0
    isplitl [HB1]; · iexact HB1
    isplitl [Hs7]; · iexact Hs7
    isplitl [HO0]; · iexact HO0
    isplitl [HO1]; · iexact HO1
    isplitl [Hs60]; · iexact Hs60
    isplitl [Hs61]; · iexact Hs61
    iexists W; isplitr
    · ipureintro; exact fun p hp => .inl hp
    iexact Ho
  iintro %acc ⟨-, HI⟩
  ihave HI := (Entails.of_eq (show gInv (F := F) d i q q0 q1 tb J0 J1 O W (Scf.trips k2_t1_loop.lb k2_t1_loop.ub k2_t1_loop.st) acc
    = gI2 (F := F) d i q q0 q1 tb J0 J1 O W acc from by rw [show Scf.trips k2_t1_loop.lb k2_t1_loop.ub k2_t1_loop.st = 2 by decide]; rfl)) $$ HI
  unfold gI2
  icases HI with ⟨%ha, HA0, HX0, Hs50, HA1, HX1, Hs51, HT, Hs7, HO0, HB0, Hs60, HF6, ⟨%W1, %hW1, Ho⟩⟩
  subst ha
  dsimp only
  rw [wp_assume_of _ _ _ _ (chk5_1 i), wp_assume_of _ _ _ _ (by decide +kernel : k2_chk4 1#32)]
  iapply (wp_waitOwn (tile d i) none (sem := s61) (dstw := O1 i) (sS_congr _ off20_1) (oS_congr (off19_0 i)) (N := creditO) rfl) $$ [HF6 Ho]
  · isplitl [HF6]; · iexact HF6
    isplitl [Ho]; · iexact Ho
    iapply (Transfers.MayWaits.elim _) $$ HM
  iintro ⟨⟨HO1, HB1⟩, Hs61, Ho⟩
  rw [wp_ret]; imodintro
  isplitl [HT]; · iexact HT
  isplitl [HX0]; · iexact HX0
  isplitl [HX1]; · iexact HX1
  isplitl [HO0]; · iexact HO0
  isplitl [HO1]; · iexact HO1
  isplitl [HA0]; · iexists _; iexact HA0
  isplitl [HA1]; · iexists _; iexact HA1
  isplitl [HB0]; · iexists _; iexact HB0
  isplitl [HB1]; · iexists _; iexact HB1
  isplitl [Hs50]; · iexact Hs50
  isplitl [Hs51]; · iexact Hs51
  isplitl [Hs60]; · iexact Hs60
  isplitl [Hs61]; · iexact Hs61
  isplitl [Hs7]; · iexact Hs7
  iexists _; isplitr
  swap; · iexact Ho
  ipureintro; intro p hp
  rcases Finset.mem_insert.mp hp with rfl | hp
  · exact .inr rfl
  exact hW1 p hp

end

end Cert.KernelIdeal.Hand

end
-- ==== Proof.Gather.lean ====
/-
  What the SparseCore call is handed and hands back: a share of the table and of the row numbers to each tile, and to each
  its own 512 rows of the output; and one tile's task at those resources.
-/
module

public import proofs.«01_k».proof.Proof.GatherBody

@[expose] public section

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The shared arrays and how they are dealt -/

/-- The table, the row numbers and the output, as the TensorCore names them. -/
abbrev tLoc (d : Dev nD) : Loc nD τ sig := (SparseCore.T d).loc main_v4
abbrev xLoc (d : Dev nD) : Loc nD τ sig := (SparseCore.T d).loc main_v6
abbrev oLoc (d : Dev nD) : Loc nD τ sig := (SparseCore.T d).loc main_v7

/-- The share of a table that tile `(c, s)` reads under. -/
abbrev shareOf (c : Fin 2) (s : Fin 16) : PosShare TreeShare :=
  Transfers.dealOf (Transfers.dealOf fullShare Finset.univ c) Finset.univ s

/-- The 512 rows of the output that tile `(c, s)` writes. -/
def rowsOf (c : Fin 2) (s : Fin 16) : Finset S16384x128.Idx := Finset.univ.filter fun z => (z 0).val / 512 = s.val + 16 * c.val

theorem mem_rowsOf {c : Fin 2} {s : Fin 16} {z : S16384x128.Idx} : z ∈ rowsOf c s ↔ (z 0).val / 512 = s.val + 16 * c.val := by
  unfold rowsOf; rw [Finset.mem_filter]; simp

/-- The gathered array: its row `k` is the table's row that the `k`-th row number names. -/
def gathered (tb : S202752x128.Idx → Elt F .f32) (ix : S1x16384.Idx → Elt F .i32) : S16384x128.Idx → Elt F .f32 := fun z =>
  tb fun | 0 => ⟨(ix fun | 0 => ⟨0, by decide⟩ | 1 => ⟨(z 0).val, (z 0).isLt⟩).toNat % 202752, Nat.mod_lt _ (by decide)⟩ | 1 => ⟨(z 1).val, (z 1).isLt⟩

section Pay

variable (tb : (d : Dev nD) → S202752x128.Idx → Elt F .f32) (ix : (d : Dev nD) → S1x16384.Idx → Elt F .i32) (o0 : (d : Dev nD) → S16384x128.Idx → Elt F .f32)

/-- What tile `(c, s)` of device `d` holds of the shared arrays, the output's rows at `o`. -/
abbrev tileHas (d : Dev nD) (c : Fin 2) (s : Fin 16) (o : S16384x128.Idx → Elt F .f32) : sProp 𝕄 :=
  iprop((tLoc d ↦{shareOf c s} (tb d : Buf (Elt F) (tLoc d))) ∗ (xLoc d ↦{shareOf c s} (ix d : Buf (Elt F) (xLoc d)))
    ∗ (oLoc d ↦[rowsOf c s]{fullShare} (o : Buf (Elt F) (oLoc d))))

abbrev coreHas (d : Dev nD) (c : Fin 2) (o : S16384x128.Idx → Elt F .f32) : sProp 𝕄 :=
  bigSep Finset.univ fun s : Fin 16 => tileHas tb ix d c s o

/-- The payloads of the one call. -/
def P : (K (F := F)).Pay (nD := nD) (Val := Elt F) (Name := ℕ) (U := UU) where
  st := fun q d c => match q with | 0 => coreHas tb ix d (Fin.cast nCore_zero c) (o0 d)
  dn := fun q d c => match q with | 0 => coreHas tb ix d (Fin.cast nCore_zero c) (gathered (tb d) (ix d))
  go := fun q d c i => match q with | 0 => tileHas tb ix d (Fin.cast nCore_zero c) (Fin.cast nSub_zero i) (o0 d)
  td := fun q d c i => match q with | 0 => tileHas tb ix d (Fin.cast nCore_zero c) (Fin.cast nSub_zero i) (gathered (tb d) (ix d))
  x := fun _ _ => iprop(emp)

instance P_storable : (P (F := F) tb ix o0).IsStorable where
  st q d c := match q with
    | 0 => (inferInstance : BI.Storable (upEmb : UEmb _ 𝕄) (coreHas tb ix d (Fin.cast nCore_zero c) (o0 d)))
  dn q d c := match q with
    | 0 => (inferInstance : BI.Storable (upEmb : UEmb _ 𝕄) (coreHas tb ix d (Fin.cast nCore_zero c) (gathered (tb d) (ix d))))
  go q d c i := match q with
    | 0 => (inferInstance : BI.Storable (upEmb : UEmb _ 𝕄) (tileHas tb ix d (Fin.cast nCore_zero c) (Fin.cast nSub_zero i) (o0 d)))
  td q d c i := match q with
    | 0 => (inferInstance : BI.Storable (upEmb : UEmb _ 𝕄) (tileHas tb ix d (Fin.cast nCore_zero c) (Fin.cast nSub_zero i) (gathered (tb d) (ix d))))

theorem vecSplit : (K (F := F)).VecSplit' (P tb ix o0) 0 := by
  intro d c
  show (coreHas tb ix d (Fin.cast nCore_zero c) (o0 d) : sProp 𝕄)
    ⊢ |={Set.univ}=> iprop((bigSep Finset.univ fun i : Fin ((K (F := F)).nSub 0) => tileHas tb ix d (Fin.cast nCore_zero c) (Fin.cast nSub_zero i) (o0 d))
        ∗ ((bigSep Finset.univ fun i : Fin ((K (F := F)).nSub 0) => tileHas tb ix d (Fin.cast nCore_zero c) (Fin.cast nSub_zero i) (gathered (tb d) (ix d)))
            -∗ coreHas tb ix d (Fin.cast nCore_zero c) (gathered (tb d) (ix d))))
  iintro H
  imodintro
  isplitl [H]; · iexact H
  iintro H; iexact H

/-! ## The whole arrays, dealt out and gathered back -/

theorem rowsOf_disjoint (c : Fin 2) : ∀ s ∈ (Finset.univ : Finset (Fin 16)), ∀ s' ∈ (Finset.univ : Finset (Fin 16)), s ≠ s' → Disjoint (rowsOf c s) (rowsOf c s') := by
  intro s _ s' _ h
  refine Finset.disjoint_left.mpr fun z hz hz' => h ?_
  rw [mem_rowsOf] at hz hz'
  exact Fin.ext (by omega)

theorem coreRows_disjoint : ∀ c ∈ (Finset.univ : Finset (Fin 2)), ∀ c' ∈ (Finset.univ : Finset (Fin 2)), c ≠ c' →
    Disjoint ((Finset.univ : Finset (Fin 16)).biUnion (rowsOf c)) ((Finset.univ : Finset (Fin 16)).biUnion (rowsOf c')) := by
  intro c _ c' _ h
  refine Finset.disjoint_left.mpr fun z hz hz' => h ?_
  obtain ⟨s, -, hz⟩ := Finset.mem_biUnion.mp hz
  obtain ⟨s', -, hz'⟩ := Finset.mem_biUnion.mp hz'
  rw [mem_rowsOf] at hz hz'
  exact Fin.ext (by omega)

theorem rowsOf_cover : ((Finset.univ : Finset (Fin 2)).biUnion fun c => (Finset.univ : Finset (Fin 16)).biUnion (rowsOf c)) = Finset.univ := by
  ext z
  simp only [Finset.mem_biUnion, Finset.mem_univ, true_and, iff_true]
  have hz : (z 0).val < 16384 := (z 0).isLt
  refine ⟨⟨(z 0).val / 8192, by omega⟩, ⟨(z 0).val / 512 % 16, by omega⟩, ?_⟩
  rw [mem_rowsOf]; show _ = (z 0).val / 512 % 16 + 16 * ((z 0).val / 8192); omega

theorem dealt {ℓ : Loc nD τ sig} (I : Finset (Idx ℓ)) (f : Buf (Elt F) ℓ) :
    (ℓ ↦[I]{fullShare} f : sProp 𝕄) = bigSep Finset.univ fun c : Fin 2 => bigSep Finset.univ fun s : Fin 16 => ℓ ↦[I]{shareOf c s} f := by
  rw [Transfers.pointsTo_deal Finset.univ Finset.univ_nonempty fullShare (ι := Fin 2)]
  refine bigSep_congr fun c _ => ?_
  exact Transfers.pointsTo_deal Finset.univ Finset.univ_nonempty _ (ι := Fin 16)

theorem outDealt (d : Dev nD) (o : S16384x128.Idx → Elt F .f32) :
    (oLoc d ↦{fullShare} (o : Buf (Elt F) (oLoc d)) : sProp 𝕄)
      = bigSep Finset.univ fun c : Fin 2 => bigSep Finset.univ fun s : Fin 16 => oLoc d ↦[rowsOf c s]{fullShare} (o : Buf (Elt F) (oLoc d)) := by
  have h : (oLoc d ↦{fullShare} (o : Buf (Elt F) (oLoc d)) : sProp 𝕄)
      = oLoc d ↦[(Finset.univ : Finset (Fin 2)).biUnion fun c => (Finset.univ : Finset (Fin 16)).biUnion (rowsOf c)]{fullShare} (o : Buf (Elt F) (oLoc d)) := by
    rw [rowsOf_cover]
  rw [h, pointsTo_biUnion _ _ coreRows_disjoint]
  refine bigSep_congr fun c _ => ?_
  exact pointsTo_biUnion _ _ (rowsOf_disjoint c)

/-- The three arrays whole are what the two cores hold between them. -/
theorem dealtAll (d : Dev nD) (o : S16384x128.Idx → Elt F .f32) :
    (iprop((tLoc d ↦{fullShare} (tb d : Buf (Elt F) (tLoc d))) ∗ (xLoc d ↦{fullShare} (ix d : Buf (Elt F) (xLoc d)))
        ∗ (oLoc d ↦{fullShare} (o : Buf (Elt F) (oLoc d)))) : sProp 𝕄)
      = bigSep Finset.univ fun c : Fin 2 => coreHas tb ix d c o := by
  rw [outDealt, dealt (ℓ := tLoc d), dealt (ℓ := xLoc d)]
  rw [← bigSep_sep', ← bigSep_sep']
  refine bigSep_congr fun c _ => ?_
  unfold coreHas
  rw [← bigSep_sep', ← bigSep_sep']

end Pay

end Cert.KernelIdeal.Hand
end
-- ==== Proof.GatherTask.lean ====
/-
  One tile's task from its scratch, its semaphores and its part of the shared arrays, and the SparseCore call's obligation.
-/
module

public import proofs.«01_k».proof.Proof.Gather

@[expose] public section

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The two slots of a scratch buffer -/

theorem slotA_set (k : Fin 2) (h : ∀ a, (![k.val, 0, 0] : Fin 3 → ℕ) a + S1x1x256.size a ≤ S2x1x256.size a) :
    (aS ![k.val, 0, 0] h).view.set = Finset.univ.filter fun z : S2x1x256.Idx => (z 0).val = k.val := by
  show ((((View.whole cc2_scoped0).slice (Rect.unit (s := S2x1x256) ![k.val, 0, 0] S1x1x256.size h))).reshape _ _).set = _
  rw [View.set_reshape, View.set_slice_whole]
  ext z
  rw [Rect.mem_set_unit, Finset.mem_filter]
  have h1 : (z 1).val < 1 := (z 1).isLt
  have h2 : (z 2).val < 256 := (z 2).isLt
  constructor
  · intro H; have := H 0; refine ⟨Finset.mem_univ _, ?_⟩
    have e : k.val ≤ (z 0).val ∧ (z 0).val < k.val + 1 := this
    omega
  · rintro ⟨-, H⟩ a
    match a with
    | 0 => exact (show k.val ≤ (z 0).val ∧ (z 0).val < k.val + 1 by omega)
    | 1 => exact (show 0 ≤ (z 1).val ∧ (z 1).val < 0 + 1 by omega)
    | 2 => exact (show 0 ≤ (z 2).val ∧ (z 2).val < 0 + 256 by omega)

theorem slotB_set (k : Fin 2) (h : ∀ a, (![k.val, 0, 0] : Fin 3 → ℕ) a + S1x256x128.size a ≤ S2x256x128.size a) :
    (bS ![k.val, 0, 0] h).view.set = Finset.univ.filter fun z : S2x256x128.Idx => (z 0).val = k.val := by
  show ((((View.whole cc2_scoped2).slice (Rect.unit (s := S2x256x128) ![k.val, 0, 0] S1x256x128.size h))).reshape _ _).set = _
  rw [View.set_reshape, View.set_slice_whole]
  ext z
  rw [Rect.mem_set_unit, Finset.mem_filter]
  have h1 : (z 1).val < 256 := (z 1).isLt
  have h2 : (z 2).val < 128 := (z 2).isLt
  constructor
  · intro H; have := H 0; refine ⟨Finset.mem_univ _, ?_⟩
    have e : k.val ≤ (z 0).val ∧ (z 0).val < k.val + 1 := this
    omega
  · rintro ⟨-, H⟩ a
    match a with
    | 0 => exact (show k.val ≤ (z 0).val ∧ (z 0).val < k.val + 1 by omega)
    | 1 => exact (show 0 ≤ (z 1).val ∧ (z 1).val < 0 + 256 by omega)
    | 2 => exact (show 0 ≤ (z 2).val ∧ (z 2).val < 0 + 128 by omega)

theorem A_halves : A0.view.set ∪ A1.view.set = (Finset.univ : Finset S2x1x256.Idx) ∧ Disjoint A0.view.set A1.view.set := by
  rw [show A0.view.set = _ from slotA_set 0 (by decide), show A1.view.set = _ from slotA_set 1 (by decide)]
  constructor
  · ext z; simp only [Finset.mem_union, Finset.mem_filter, Finset.mem_univ, true_and, iff_true]
    have h : (z 0).val < 2 := (z 0).isLt
    show (z 0).val = 0 ∨ (z 0).val = 1; omega
  · refine Finset.disjoint_left.mpr fun z hz hz' => ?_
    have e := (Finset.mem_filter.mp hz).2; have e' := (Finset.mem_filter.mp hz').2
    rw [e] at e'; exact absurd e' (by decide)

theorem B_halves : B0.view.set ∪ B1.view.set = (Finset.univ : Finset S2x256x128.Idx) ∧ Disjoint B0.view.set B1.view.set := by
  rw [show B0.view.set = _ from slotB_set 0 (by decide), show B1.view.set = _ from slotB_set 1 (by decide)]
  constructor
  · ext z; simp only [Finset.mem_union, Finset.mem_filter, Finset.mem_univ, true_and, iff_true]
    have h : (z 0).val < 2 := (z 0).isLt
    show (z 0).val = 0 ∨ (z 0).val = 1; omega
  · refine Finset.disjoint_left.mpr fun z hz hz' => ?_
    have e := (Finset.mem_filter.mp hz).2; have e' := (Finset.mem_filter.mp hz').2
    rw [e] at e'; exact absurd e' (by decide)

section

variable (d : Dev nD) (i : grid2.Coords)

abbrev scr0 : Loc nD τ sig := (tile d i).loc cc2_scoped0
abbrev scr2 : Loc nD τ sig := (tile d i).loc cc2_scoped2

theorem A_out : (iprop(∃ f, scr0 d i ↦{fullShare} f) : sProp 𝕄)
    ⊢ iprop((∃ Y, owns (tile d i) A0 fullShare Y) ∗ (∃ Y, owns (tile d i) A1 fullShare Y)) := by
  unfold owns
  iintro ⟨%f, H⟩
  ihave H := (Entails.of_eq (show (scr0 d i ↦{fullShare} f : sProp 𝕄) = scr0 d i ↦[A0.view.set ∪ A1.view.set]{fullShare} f by rw [A_halves.1])) $$ H
  ihave H := (pointsTo_union A_halves.2).1 $$ H
  icases H with ⟨H0, H1⟩
  isplitl [H0]
  · iexists _; iexists f; isplitr; · ipureintro; rfl
    iexact H0
  · iexists _; iexists f; isplitr; · ipureintro; rfl
    iexact H1

theorem A_back : (iprop((∃ Y, owns (tile d i) A0 fullShare Y) ∗ (∃ Y, owns (tile d i) A1 fullShare Y)) : sProp 𝕄)
    ⊢ iprop(∃ f, scr0 d i ↦{fullShare} f) := by
  unfold owns
  iintro ⟨⟨%Y, %f, -, H0⟩, %Y', %g, -, H1⟩
  ihave H := (pointsTo_join (ℓ := scr0 d i) (f := f) (g := g) A_halves.2) $$ [H0 H1]
  · isplitl [H0]; · iexact H0
    iexact H1
  iexists _
  ihave H := (Entails.of_eq (show (scr0 d i ↦[A0.view.set ∪ A1.view.set]{fullShare} _ : sProp 𝕄) = scr0 d i ↦{fullShare} _ by rw [A_halves.1])) $$ H
  iexact H

theorem B_out : (iprop(∃ f, scr2 d i ↦{fullShare} f) : sProp 𝕄)
    ⊢ iprop((∃ Y, owns (tile d i) B0 fullShare Y) ∗ (∃ Y, owns (tile d i) B1 fullShare Y)) := by
  unfold owns
  iintro ⟨%f, H⟩
  ihave H := (Entails.of_eq (show (scr2 d i ↦{fullShare} f : sProp 𝕄) = scr2 d i ↦[B0.view.set ∪ B1.view.set]{fullShare} f by rw [B_halves.1])) $$ H
  ihave H := (pointsTo_union B_halves.2).1 $$ H
  icases H with ⟨H0, H1⟩
  isplitl [H0]
  · iexists _; iexists f; isplitr; · ipureintro; rfl
    iexact H0
  · iexists _; iexists f; isplitr; · ipureintro; rfl
    iexact H1

theorem B_back : (iprop((∃ Y, owns (tile d i) B0 fullShare Y) ∗ (∃ Y, owns (tile d i) B1 fullShare Y)) : sProp 𝕄)
    ⊢ iprop(∃ f, scr2 d i ↦{fullShare} f) := by
  unfold owns
  iintro ⟨⟨%Y, %f, -, H0⟩, %Y', %g, -, H1⟩
  ihave H := (pointsTo_join (ℓ := scr2 d i) (f := f) (g := g) B_halves.2) $$ [H0 H1]
  · isplitl [H0]; · iexact H0
    iexact H1
  iexists _
  ihave H := (Entails.of_eq (show (scr2 d i ↦[B0.view.set ∪ B1.view.set]{fullShare} _ : sProp 𝕄) = scr2 d i ↦{fullShare} _ by rw [B_halves.1])) $$ H
  iexact H

/-! ## The tile's own semaphores and buffers -/

abbrev cellOf (s : DmaSem sig) : GSem nD τ sig := (tile d i, .dma s)

theorem cell_mem (s : DmaSem sig) (h : (SemLoc.dma s : SemLoc sig).isScoped .scVector = true) : cellOf d i s ∈ ownCells (tile d i) :=
  mem_ownCells.mpr ⟨rfl, h⟩

theorem cell_ne {s s' : DmaSem sig} (h : s ≠ s') : cellOf d i s ≠ cellOf d i s' := by
  intro e; exact h (SemLoc.dma.inj (congrArg Prod.snd e))

abbrev restCells : Finset (GSem nD τ sig) :=
  (((((ownCells (tile d i)).erase (cellOf d i s50)).erase (cellOf d i s51)).erase (cellOf d i s60)).erase (cellOf d i s61)).erase (cellOf d i s7)

theorem ownSems0_tile :
    (ownSems0 (tile d i) : sProp 𝕄)
      = iprop(semVal (cellOf d i s50) 0 ∗ semVal (cellOf d i s51) 0 ∗ semVal (cellOf d i s60) 0 ∗ semVal (cellOf d i s61) 0 ∗ semVal (cellOf d i s7) 0
          ∗ bigSep (restCells d i) fun g => semVal g 0) := by
  unfold SparseCore.Cfg.ownSems0
  rw [SparseCore.bigSep_erase' (cell_mem d i s50 (by decide)),
    SparseCore.bigSep_erase' (Finset.mem_erase.mpr ⟨cell_ne d i (by decide), cell_mem d i s51 (by decide)⟩),
    SparseCore.bigSep_erase' (Finset.mem_erase.mpr ⟨cell_ne d i (by decide), Finset.mem_erase.mpr ⟨cell_ne d i (by decide), cell_mem d i s60 (by decide)⟩⟩),
    SparseCore.bigSep_erase' (Finset.mem_erase.mpr ⟨cell_ne d i (by decide), Finset.mem_erase.mpr ⟨cell_ne d i (by decide), Finset.mem_erase.mpr ⟨cell_ne d i (by decide),
      cell_mem d i s61 (by decide)⟩⟩⟩),
    SparseCore.bigSep_erase' (Finset.mem_erase.mpr ⟨cell_ne d i (by decide), Finset.mem_erase.mpr ⟨cell_ne d i (by decide), Finset.mem_erase.mpr ⟨cell_ne d i (by decide),
      Finset.mem_erase.mpr ⟨cell_ne d i (by decide), cell_mem d i s7 (by decide)⟩⟩⟩⟩)]

abbrev prc : Proc τ := .scVector ((i 0).castLE hcore2) ((i 1).castLE hsub2)

abbrev restBufs : Finset (DevRef τ sig) :=
  ((ownRefs (τ := τ) (prc i)).erase ((prc i).devRef cc2_scoped0)).erase ((prc i).devRef cc2_scoped2)

theorem ownBufs_tile :
    (ownBufs (tile d i) : sProp 𝕄)
      = iprop((∃ f, scr0 d i ↦{fullShare} f) ∗ (∃ f, scr2 d i ↦{fullShare} f)
          ∗ bigSep (restBufs i) fun b => iprop(∃ f, ((d, b) : Loc nD τ sig) ↦{fullShare} f)) := by
  unfold SparseCore.Cfg.ownBufs
  refine (SparseCore.bigSep_erase' (SparseCore.Cfg.mem_ownRefs_of_owner (p := prc i) (b := (prc i).devRef cc2_scoped0) rfl)).trans ?_
  rw [SparseCore.bigSep_erase' (Finset.mem_erase.mpr ⟨fun e => absurd (Proc.devRef_injective _ e) (show (cc2_scoped2 : Ref sig .scVector) ≠ cc2_scoped0 by decide),
    SparseCore.Cfg.mem_ownRefs_of_owner (p := prc i) (b := (prc i).devRef cc2_scoped2) rfl⟩)]

/-! ## The tile's part of the shared arrays -/

abbrev coreOf : Fin 2 := ⟨(i 0).val, (i 0).isLt⟩
abbrev subOf : Fin 16 := ⟨(i 1).val, (i 1).isLt⟩

theorem TB_set : TB.view.set = (Finset.univ : Finset S202752x128.Idx) := by
  show ((View.whole main_v4_scv).slice (Rect.unit (s := S202752x128) ![0, 0] S202752x128.size inb_S202752x128_S202752x128_0_0)).set = _
  rw [View.set_slice_whole]
  ext z; simp only [Finset.mem_univ, iff_true, Rect.mem_set_unit]; intro a
  have h0 : (z 0).val < 202752 := (z 0).isLt
  have h1 : (z 1).val < 128 := (z 1).isLt
  match a with
  | 0 => exact (show 0 ≤ (z 0).val ∧ (z 0).val < 0 + 202752 by omega)
  | 1 => exact (show 0 ≤ (z 1).val ∧ (z 1).val < 0 + 128 by omega)

theorem oS_set (n : ℕ) (h : ∀ a, (![n, 0] : Fin 2 → ℕ) a + S256x128.size a ≤ S16384x128.size a) (z : S16384x128.Idx) :
    z ∈ (oS ![n, 0] h).view.set ↔ n ≤ (z 0).val ∧ (z 0).val < n + 256 := by
  show z ∈ ((View.whole main_v7_scv).slice (Rect.unit (s := S16384x128) ![n, 0] S256x128.size h)).set ↔ _
  rw [View.set_slice_whole, Rect.mem_set_unit]
  have h1 : (z 1).val < 128 := (z 1).isLt
  constructor
  · intro H; exact H 0
  · intro H a
    match a with
    | 0 => exact H
    | 1 => exact (show 0 ≤ (z 1).val ∧ (z 1).val < 0 + 128 by omega)

theorem O_halves : (O0 i).view.set ∪ (O1 i).view.set = rowsOf (coreOf i) (subOf i) ∧ Disjoint (O0 i).view.set (O1 i).view.set := by
  constructor
  · ext z
    rw [Finset.mem_union, mem_rowsOf]
    rw [show z ∈ (O0 i).view.set ↔ _ from oS_set _ _ z, show z ∈ (O1 i).view.set ↔ _ from oS_set _ _ z]
    unfold at0 at1
    show _ ↔ (z 0).val / 512 = (i 1).val + 16 * (i 0).val
    omega
  · refine Finset.disjoint_left.mpr fun z hz hz' => ?_
    have e := (oS_set _ _ z).mp hz
    have e' := (oS_set _ _ z).mp hz'
    unfold at0 at e; unfold at1 at e'
    omega

/-- What a stretch of the row numbers reads. -/
theorem xS_read (n : ℕ) (h : ∀ a, (![0, n] : Fin 2 → ℕ) a + S1x256.size a ≤ S1x16384.size a) (ix : S1x16384.Idx → Elt F .i32) (z : S1x256.Idx) :
    (xS ![0, n] h).view.read (Elt F) ix z = ix ((Rect.unit (s := S1x16384) ![0, n] S1x256.size h).emb z) := rfl

/-- What was written of the output is the gathered array there. -/
theorem out_value (n : ℕ) (ho : ∀ a, (![n, 0] : Fin 2 → ℕ) a + S256x128.size a ≤ S16384x128.size a)
    (hx : ∀ a, (![0, n] : Fin 2 → ℕ) a + S1x256.size a ≤ S1x16384.size a) (tb : S202752x128.Idx → Elt F .f32) (ix : S1x16384.Idx → Elt F .i32)
    (f : S16384x128.Idx → Elt F .f32) (hf : (oS ![n, 0] ho).view.read (Elt F) f = rowsAt (F := F) tb ((xS ![0, n] hx).view.read (Elt F) ix)) :
    ∀ z ∈ (oS ![n, 0] ho).view.set, f z = gathered tb ix z := by
  intro z hz
  have hz' := (oS_set n ho z).mp hz
  have h1 : (z 1).val < 128 := (z 1).isLt
  have e := congrFun hf (fun | 0 => ⟨(z 0).val - n, (show _ < 256 by omega)⟩ | 1 => ⟨(z 1).val, h1⟩)
  have e1 : (oS ![n, 0] ho).view.read (Elt F) f (fun | 0 => ⟨(z 0).val - n, (show _ < 256 by omega)⟩ | 1 => ⟨(z 1).val, h1⟩) = f z := by
    show f ((Rect.unit (s := S16384x128) ![n, 0] S256x128.size ho).emb _) = f z
    congr 1; funext a; apply Fin.ext
    match a with
    | 0 => show n + 1 * ((z 0).val - n) = (z 0).val; omega
    | 1 => show 0 + 1 * (z 1).val = (z 1).val; omega
  rw [← e1, e]
  unfold rowsAt gathered
  congr 1; funext a
  match a with
  | 1 => rfl
  | 0 =>
    apply Fin.ext
    show ((xS ![0, n] hx).view.read (Elt F) ix _).toNat % _ = (ix _).toNat % _
    rw [xS_read]
    congr 3; funext a; apply Fin.ext
    match a with
    | 0 => rfl
    | 1 => show n + 1 * ((z 0).val - n) = (z 0).val; omega

variable (tb : S202752x128.Idx → Elt F .f32) (ix : S1x16384.Idx → Elt F .i32)

set_option maxHeartbeats 4000000 in
/-- One tile's task: its rows of the output come back as the gathered array's. -/
theorem tile_body (hF : (K (F := F)).Facts) (tb : (d : Dev nD) → S202752x128.Idx → Elt F .f32) (ix : (d : Dev nD) → S1x16384.Idx → Elt F .i32)
    (o0 : (d : Dev nD) → S16384x128.Idx → Elt F .f32) (hix : ∀ d z, (ix d z).toNat < 202752)
    (O : CellTallies nD τ sig (HIx 1)) (W : Waits sig (HIx 1)) (hO : ∀ g, O g none = 0) :
    iprop(levAts (K (F := F)).L (K (F := F)).lev ∗ emp ∗ tileHas tb ix d (coreOf i) (subOf i) (o0 d)
        ∗ scopedBufs (tile d i) ∗ scopedSems0 (tile d i) ∗ owes (tile d i) O W)
      ⊢ wp frame (wpE (defs₀ (F := F)) 𝒱₀ (tile d i) none) Set.univ (tileProg (F := F) d i)
          fun _ => iprop(tileHas tb ix d (coreOf i) (subOf i) (gathered (tb d) (ix d))
            ∗ scopedBufs (tile d i) ∗ scopedSems0 (tile d i)
            ∗ ∃ W', ⌜∀ p ∈ W', p ∈ W ∨ p.2 = none⌝ ∗ owes (tile d i) O W') := by
  rw [(K (F := F)).scopedBufs_V hF d ((i 0).castLE hcore2) ((i 1).castLE hsub2), SparseCore.Cfg.scopedSems0_V (Val := Elt F) d ((i 0).castLE hcore2) ((i 1).castLE hsub2)]
  rw [ownSems0_tile, ownBufs_tile]
  unfold tileHas
  iintro ⟨#Hlv, -, ⟨Ht, Hx, Ho⟩, ⟨Hs0, Hs2, Hbufs⟩, ⟨H50, H51, H60, H61, H7, Hsems⟩, HO⟩
  ihave Hmw := (show levAts (K (F := F)).L (K (F := F)).lev ⊢ Transfers.MayWaits (tile d i) (default : HIx 1) O from
    (K (F := F)).mayWaits_none (thr := tile d i) hO) $$ Hlv
  ihave HA := (A_out (F := F) d i) $$ Hs0
  icases HA with ⟨HA0, HA1⟩
  ihave HB := (B_out (F := F) d i) $$ Hs2
  icases HB with ⟨HB0, HB1⟩
  -- the row numbers: one half of the share per block
  ihave Hx := (pointsTo_share (PosShare.mem_left_op_right (shareOf (coreOf i) (subOf i)))).1 $$ Hx
  icases Hx with ⟨Hx0, Hx1⟩
  ihave Hx0 := (pointsTo_split_subset (S := Finset.univ) (Finset.subset_univ (X0 i).view.set)).1 $$ Hx0
  icases Hx0 with ⟨Hx0, Hx0r⟩
  ihave Hx1 := (pointsTo_split_subset (S := Finset.univ) (Finset.subset_univ (X1 i).view.set)).1 $$ Hx1
  icases Hx1 with ⟨Hx1, Hx1r⟩
  -- the output's two blocks
  ihave Ho := (Entails.of_eq (congrArg (fun I => (oLoc d ↦[I]{fullShare} (o0 d : Buf (Elt F) (oLoc d)) : sProp 𝕄)) (O_halves i).1.symm)) $$ Ho
  ihave Ho := (pointsTo_union (O_halves i).2).1 $$ Ho
  icases Ho with ⟨Ho0, Ho1⟩
  ihave Ht := (Entails.of_eq (show (tLoc d ↦{shareOf (coreOf i) (subOf i)} (tb d : Buf (Elt F) (tLoc d)) : sProp 𝕄)
    = tLoc d ↦[TB.view.set]{shareOf (coreOf i) (subOf i)} (tb d : Buf (Elt F) (tLoc d)) by rw [TB_set])) $$ Ht
  have hTB : TB.view.read (Elt F) (tb d) = tb d := by
    funext z
    show tb d ((Rect.unit (s := S202752x128) ![0, 0] S202752x128.size inb_S202752x128_S202752x128_0_0).emb z) = _
    congr 1; funext a; apply Fin.ext
    match a with
    | 0 => show 0 + 1 * (z 0).val = _; omega
    | 1 => show 0 + 1 * (z 1).val = _; omega
  ihave HW := (tileRun (F := F) d i (shareOf (coreOf i) (subOf i)) (shareOf (coreOf i) (subOf i)).left (shareOf (coreOf i) (subOf i)).right (tb d)
    ((X0 i).view.read (Elt F) (ix d)) ((X1 i).view.read (Elt F) (ix d)) (fun z => hix d _) (fun z => hix d _) O W)
    $$ [Ht Hx0 Hx1 Ho0 Ho1 HA0 HA1 HB0 HB1 H50 H51 H60 H61 H7 HO Hmw]
  · isplitl [Hmw]; · iexact Hmw
    isplitl [Ht]
    · unfold owns; iexists (tb d); isplitr; · ipureintro; exact hTB
      iexact Ht
    isplitl [Hx0]
    · unfold owns; iexists (ix d); isplitr; · ipureintro; rfl
      iexact Hx0
    isplitl [Hx1]
    · unfold owns; iexists (ix d); isplitr; · ipureintro; rfl
      iexact Hx1
    isplitl [Ho0]
    · iexists _; unfold owns; iexists (o0 d); isplitr; · ipureintro; rfl
      iexact Ho0
    isplitl [Ho1]
    · iexists _; unfold owns; iexists (o0 d); isplitr; · ipureintro; rfl
      iexact Ho1
    isplitl [HA0]; · iexact HA0
    isplitl [HA1]; · iexact HA1
    isplitl [HB0]; · iexact HB0
    isplitl [HB1]; · iexact HB1
    isplitl [H50]; · iexact H50
    isplitl [H51]; · iexact H51
    isplitl [H60]; · iexact H60
    isplitl [H61]; · iexact H61
    isplitl [H7]; · iexact H7
    iexact HO
  iapply wp_wand $$ [$HW]
  iintro %r ⟨Ht, Hx0, Hx1, Ho0, Ho1, HA0, HA1, HB0, HB1, H50, H51, H60, H61, H7, HO⟩
  ihave HA := (A_back (F := F) d i) $$ [HA0 HA1]
  · isplitl [HA0]; · iexact HA0
    iexact HA1
  ihave HB := (B_back (F := F) d i) $$ [HB0 HB1]
  · isplitl [HB0]; · iexact HB0
    iexact HB1
  isplitl [Ht Hx0 Hx1 Ho0 Ho1 Hx0r Hx1r]
  · unfold owns
    icases Ht with ⟨%ft, %eft, Ht⟩
    icases Hx0 with ⟨%f0, %ef0, Hx0⟩
    icases Hx1 with ⟨%f1, %ef1, Hx1⟩
    icases Ho0 with ⟨%g0, %eg0, Ho0⟩
    icases Ho1 with ⟨%g1, %eg1, Ho1⟩
    have et : ∀ z ∈ TB.view.set, ft z = tb d z := by
      intro z _
      have e := congrFun eft z
      have e1 : TB.view.read (Elt F) ft z = ft z := by
        show ft ((Rect.unit (s := S202752x128) ![0, 0] S202752x128.size inb_S202752x128_S202752x128_0_0).emb z) = _
        congr 1; funext a; apply Fin.ext
        match a with
        | 0 => show 0 + 1 * (z 0).val = _; omega
        | 1 => show 0 + 1 * (z 1).val = _; omega
      exact e1.symm.trans e
    have ex0 : ∀ z ∈ (X0 i).view.set, f0 z = ix d z := by
      intro z hz
      obtain ⟨y, -, rfl⟩ := Finset.mem_map.mp hz
      exact congrFun ef0 y
    have ex1 : ∀ z ∈ (X1 i).view.set, f1 z = ix d z := by
      intro z hz
      obtain ⟨y, -, rfl⟩ := Finset.mem_map.mp hz
      exact congrFun ef1 y
    isplitl [Ht]
    · ihave Ht := (Entails.of_eq (pointsTo_congr (ℓ := tLoc d) (q := shareOf (coreOf i) (subOf i)) et)) $$ Ht
      iapply (Entails.of_eq (show (tLoc d ↦[TB.view.set]{shareOf (coreOf i) (subOf i)} (tb d : Buf (Elt F) (tLoc d)) : sProp 𝕄)
        = tLoc d ↦{shareOf (coreOf i) (subOf i)} (tb d : Buf (Elt F) (tLoc d)) by rw [TB_set]))
      iexact Ht
    isplitl [Hx0 Hx1 Hx0r Hx1r]
    · ihave Hx0 := (Entails.of_eq (pointsTo_congr (ℓ := xLoc d) (q := (shareOf (coreOf i) (subOf i)).left) ex0)) $$ Hx0
      ihave Hx1 := (Entails.of_eq (pointsTo_congr (ℓ := xLoc d) (q := (shareOf (coreOf i) (subOf i)).right) ex1)) $$ Hx1
      iapply (pointsTo_share (PosShare.mem_left_op_right (shareOf (coreOf i) (subOf i)))).2
      isplitl [Hx0 Hx0r]
      · iapply (pointsTo_split_subset (S := Finset.univ) (Finset.subset_univ (X0 i).view.set)).2
        isplitl [Hx0]; · iexact Hx0
        iexact Hx0r
      · iapply (pointsTo_split_subset (S := Finset.univ) (Finset.subset_univ (X1 i).view.set)).2
        isplitl [Hx1]; · iexact Hx1
        iexact Hx1r
    · ihave Ho0 := (Entails.of_eq (pointsTo_congr (ℓ := oLoc d) (q := fullShare) (out_value _ _ _ (tb d) (ix d) g0 eg0))) $$ Ho0
      ihave Ho1 := (Entails.of_eq (pointsTo_congr (ℓ := oLoc d) (q := fullShare) (out_value _ _ _ (tb d) (ix d) g1 eg1))) $$ Ho1
      iapply (Entails.of_eq (congrArg (fun I => (oLoc d ↦[I]{fullShare} (gathered (tb d) (ix d) : Buf (Elt F) (oLoc d)) : sProp 𝕄)) (O_halves i).1))
      iapply (pointsTo_union (O_halves i).2).2
      isplitl [Ho0]; · iexact Ho0
      iexact Ho1
  isplitl [HA HB Hbufs]
  · isplitl [HA]; · iexact HA
    isplitl [HB]; · iexact HB
    iexact Hbufs
  isplitl [H50 H51 H60 H61 H7 Hsems]
  · isplitl [H50]; · iexact H50
    isplitl [H51]; · iexact H51
    isplitl [H60]; · iexact H60
    isplitl [H61]; · iexact H61
    isplitl [H7]; · iexact H7
    iexact Hsems
  unfold owesFrom
  iexact HO

end

/-! ## The call's obligation -/

/-- The task's coordinates. -/
def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gk (coordsV c s) (Memref.whole main_v4_scv) (Memref.isWhole_whole _) (Memref.whole main_v6_scv) (Memref.isWhole_whole _)
          (Memref.whole main_v7_scv) (Memref.isWhole_whole _) (Memref.whole cc2_scoped0) (Memref.isWhole_whole _) cc2_scoped1 (Memref.whole cc2_scoped2) (Memref.isWhole_whole _)
          cc2_scoped3 cc2_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (tb : (d : Dev nD) → S202752x128.Idx → Elt F .f32) (ix : (d : Dev nD) → S1x16384.Idx → Elt F .i32)
    (o0 : (d : Dev nD) → S16384x128.Idx → Elt F .f32) (hix : ∀ d z, (ix d z).toNat < 202752) :
    (K (F := F)).TileObl (D (F := F)) 𝒱 (P tb ix o0) v₀ 0 := by
  intro d c i O W hO _ _
  simp only [show (P tb ix o0).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) scFacts tb ix o0 hix O W hO).trans (wp_mono frame _ _ fun _ => obl_post)

end Cert.KernelIdeal.Hand
end
-- ==== Proof.Host.lean ====
/-
  What the host's code between the calls computes, as functions of the two matrices; and the rule of a host
  operation that reads one array and writes another.
-/
module
public import proofs.«01_k».proof.Proof.Regions
public import proofs.«01_k».proof.Proof.GatherTask
public import Idealize.ShloMosaic.Lib.StableHlo.Run
@[expose] public section
noncomputable section
namespace Cert.KernelIdeal.Hand
open Cert.KernelIdeal Cert.KernelIdeal.Gen
open Idealize.ShloMosaic Idealize.ShloMosaic.TcCoe Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
local notation "𝕄" => MT nD τ sig (HIx 1) (Elt Ideal) ℕ UU ℕ

/-! ## The arrays of the run -/

section Arrays
variable (x : S256x1024.Idx → Elt Ideal .f32) (W : S100000x1024.Idx → Elt Ideal .f32)

/-- The chunk maxima, a row of the input beside a row. -/
def kMaxT : S256x33x96.Idx → Elt Ideal .f32 := transpose S256x33x96 [1, 0, 2] (maxArr x W) transposes_S33x256x96_S256x33x96_1_0_2
def kMax : S256x3168.Idx → Elt Ideal .f32 := shapeCast S256x3168 (kMaxT x W) shapeCasts_S256x33x96_S256x3168

/-- The scores as rows of 128: the table the SparseCore gathers from. -/
def kTab : S202752x128.Idx → Elt Ideal .f32 := shapeCast S202752x128 (logitsArr x W) shapeCasts_S256x101376_S202752x128

/-- The rows it is asked for. -/
def kIxT : S64x256.Idx → Elt Ideal .i32 := transpose S64x256 [1, 0] (chFlat (kMax x W)) transposes_S256x64_S64x256_1_0
def kIx : S1x16384.Idx → Elt Ideal .i32 := shapeCast S1x16384 (kIxT x W) shapeCasts_S64x256_S1x16384

/-- The rows it brings. -/
def kRows : S16384x128.Idx → Elt Ideal .f32 := gathered (F := Ideal) (kTab x W) (kIx x W)

/-- Which quarter of a row the chunk is. -/
def kSelT : S64x256.Idx → Elt Ideal .i32 := transpose S64x256 [1, 0] (chOff (kMax x W)) transposes_S256x64_S64x256_1_0
def kSel : S16384x1.Idx → Elt Ideal .i32 := shapeCast S16384x1 (kSelT x W) shapeCasts_S64x256_S16384x1

def kIds : S256x64.Idx → Elt Ideal .i32 := chIds (F := Ideal) (kMax x W)

/-- The two results. -/
def kProbs : S256x64.Idx → Elt Ideal .f32 := fiProbs (F := Ideal) (kRows x W) (kSel x W) (kIds x W)
def kOut : S256x64.Idx → Elt Ideal .i32 := fiOut (F := Ideal) (kRows x W) (kSel x W) (kIds x W)

end Arrays

/-! ## A host operation of one operand -/

section Rule

variable {a b : Ref sig .tc} (hab : a ≠ b)

/-- Contents of the device's arrays with those of `a` and `b` given. -/
def two (A : (Proc.tc.devRef a : DevRef τ sig).ty.Contents (Elt Ideal)) (B : (Proc.tc.devRef b : DevRef τ sig).ty.Contents (Elt Ideal)) : Valuation τ sig (Elt Ideal) :=
  Function.update (Function.update (fun _ => Classical.choice inferInstance) (Proc.devRef .tc a) A) (Proc.devRef .tc b) B

include hab in
theorem two_left (A : (Proc.tc.devRef a : DevRef τ sig).ty.Contents (Elt Ideal)) (B : (Proc.tc.devRef b : DevRef τ sig).ty.Contents (Elt Ideal)) :
    two A B (Proc.devRef .tc a) = A := by
  unfold two
  rw [Function.update_of_ne (StableHlo.devRef_ne_of_ne hab), Function.update_self]

theorem two_right (A : (Proc.tc.devRef a : DevRef τ sig).ty.Contents (Elt Ideal)) (B : (Proc.tc.devRef b : DevRef τ sig).ty.Contents (Elt Ideal)) :
    two A B (Proc.devRef .tc b) = B := Function.update_self ..

include hab in
/-- An operation that reads `a` and writes `b`, from `a` at `A`: `b` comes back at what it computes of `A`. -/
theorem wp_one (d : Dev nD) {op : HloOp τ sig (Elt Ideal)} (hf : op.fresh = ∅)
    (hb : op.bufs = {Proc.devRef .tc a, Proc.devRef .tc b}) (hne : ∀ V : Valuation τ sig (Elt Ideal), op.result V (Proc.devRef .tc a) = V (Proc.devRef .tc a))
    (A : Buf (Elt Ideal) ((SparseCore.T d : Thread nD τ).loc a)) (B C : Buf (Elt Ideal) ((SparseCore.T d : Thread nD τ).loc b))
    (hC : ∀ V : Valuation τ sig (Elt Ideal), V (Proc.devRef .tc a) = A → op.result V (Proc.devRef .tc b) = C)
    {hp : (SparseCore.T d : Thread nD τ).2.kind.runsHlo = true} {Q : PUnit → sProp 𝕄} :
    iprop((boundary (SparseCore.T d) ∗ ((SparseCore.T d : Thread nD τ).loc a ↦{fullShare} A) ∗ ((SparseCore.T d : Thread nD τ).loc b ↦{fullShare} B))
        ∗ ((boundary (SparseCore.T d) ∗ ((SparseCore.T d : Thread nD τ).loc a ↦{fullShare} A) ∗ ((SparseCore.T d : Thread nD τ).loc b ↦{fullShare} C)) -∗ Q ⟨⟩))
      ⊢ wp frame (wpE (KI.defs (D (F := Ideal))) 𝒱 (SparseCore.T d) none) Set.univ (hlo hp op fun _ => .ret ⟨⟩) Q := by
  have hne' : (Proc.devRef .tc a : DevRef τ sig) ≠ Proc.devRef .tc b := StableHlo.devRef_ne_of_ne hab
  have e1 (V : Valuation τ sig (Elt Ideal)) : (bigSep op.bufs (fun r => (((SparseCore.T d : Thread nD τ).1, r) ↦{fullShare} V r)) : sProp 𝕄)
      = iprop(((SparseCore.T d : Thread nD τ).loc a ↦{fullShare} V (Proc.devRef .tc a)) ∗ ((SparseCore.T d : Thread nD τ).loc b ↦{fullShare} V (Proc.devRef .tc b))) := by
    rw [hb, SparseCore.bigSep_insert' (by simpa using hne'), bigSep_singleton]
  have H := wp_hlo (defs := KI.defs (D (F := Ideal))) 𝒱 (SparseCore.T d) none Set.univ (Γ := .empty) (hp := hp) (op := op) (k := fun _ => (.ret ⟨⟩ : Prog (TpuEff nD τ sig (Elt Ideal) (SparseCore.Sig (ΛP (F := Ideal)) 1) .tc) PUnit)) (q := fun _ => fullShare) (F := two A B) (Q := Q) (fun _ _ => rfl) hf
  rw [e1, e1, two_left hab, two_right, hne, two_left hab, hC _ (two_left hab A B)] at H
  iintro ⟨Hb, Hk⟩
  iapply H $$ Hb
  iintro Hb
  rw [wp_ret]
  imodintro
  iapply Hk $$ Hb

end Rule

end Cert.KernelIdeal.Hand
end
-- ==== Proof.Main.lean ====
/-
  `@main` on the TensorCore, from the launch's memory to the two results; the launch; the program's run.
-/
module
public import proofs.«01_k».proof.Proof.Host
@[expose] public section
noncomputable section
namespace Cert.KernelIdeal.Hand
open Cert.KernelIdeal Cert.KernelIdeal.Gen
open Idealize.ShloMosaic Idealize.ShloMosaic.TcCoe Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
local notation "𝕄" => MT nD τ sig (HIx 1) (Elt Ideal) ℕ UU ℕ

variable (m : (ℓ : Loc nD τ sig) → Buf (Elt Ideal) ℓ) (ρ : Dev nD → PrngReg)

/-! ## The launch memory's arrays -/

/-- The two matrices on device `d`. -/
abbrev mX (d : Dev nD) : S256x1024.Idx → Elt Ideal .f32 := m ((SparseCore.T d : Thread nD τ).loc main_arg0)
abbrev mW (d : Dev nD) : S100000x1024.Idx → Elt Ideal .f32 := m ((SparseCore.T d : Thread nD τ).loc main_arg1)

/-- The payloads of the gather's dispatch in this run. -/
abbrev Pm : KI.Pay (nD := nD) (Val := Elt Ideal) (Name := ℕ) (U := UU) :=
  P (F := Ideal) (fun d => kTab (mX m d) (mW m d)) (fun d => kIx (mX m d) (mW m d)) (fun d => m ((SparseCore.T d : Thread nD τ).loc main_v7))

/-! ## The TensorCore's buffers -/

/-- Array `b` of device `d` at `f`. -/
abbrev at' (d : Dev nD) (b : Ref sig .tc) (f : Buf (Elt Ideal) ((SparseCore.T d : Thread nD τ).loc b)) : sProp 𝕄 :=
  ((SparseCore.T d : Thread nD τ).loc b) ↦{fullShare} f

set_option maxHeartbeats 4000000 in
theorem unscopedBufs_eq (d : Dev nD) (f : (b : Ref sig .tc) → Buf (Elt Ideal) ((d.tc : Thread nD τ).loc b)) :
    (unscopedBufs d f : sProp 𝕄) = iprop(at' d main_arg0 (f main_arg0) ∗ at' d main_arg1 (f main_arg1) ∗ at' d main_arg2 (f main_arg2)
      ∗ at' d main_v0_0 (f main_v0_0) ∗ at' d main_v0_1 (f main_v0_1) ∗ at' d main_v1 (f main_v1) ∗ at' d main_v2 (f main_v2)
      ∗ at' d main_v3_0 (f main_v3_0) ∗ at' d main_v3_1 (f main_v3_1) ∗ at' d main_v3_2 (f main_v3_2)
      ∗ at' d main_v4 (f main_v4) ∗ at' d main_v5 (f main_v5) ∗ at' d main_v6 (f main_v6) ∗ at' d main_v7 (f main_v7)
      ∗ at' d main_v8 (f main_v8) ∗ at' d main_v9 (f main_v9) ∗ at' d main_v10_0 (f main_v10_0) ∗ at' d main_v10_1 (f main_v10_1)) := by
  unfold unscopedBufs
  rw [show (Finset.univ.filter fun b : Ref sig .tc => ¬ b.isScoped) = {main_arg0, main_arg1, main_arg2, main_v0_0, main_v0_1, main_v1, main_v2,
      main_v3_0, main_v3_1, main_v3_2, main_v4, main_v5, main_v6, main_v7, main_v8, main_v9, main_v10_0, main_v10_1} by decide]
  iterate 17 rw [SparseCore.bigSep_insert' (by decide)]
  rw [bigSep_singleton]

/-! ## The pipelines' ghost state -/

/-- What the launch deals device `d`'s TensorCore for its three pipelines. -/
def G (d : Dev nD) : sProp 𝕄 :=
  iprop((bigSep Finset.univ fun p : Fin 3 => Pipeline.cellsGhost (Pipeline.pin (pcfgs (F := Ideal)) adm) (EP (F := Ideal)) p d)
    ∗ (bigSep Finset.univ fun p : Fin 3 => Pipeline.toksInit (Pipeline.pin (pcfgs (F := Ideal)) adm) (EP (F := Ideal)) p d))

theorem three (Φ : Fin 3 → sProp 𝕄) : (bigSep Finset.univ Φ : sProp 𝕄) = iprop(Φ 0 ∗ Φ 1 ∗ Φ 2) := by
  rw [show (Finset.univ : Finset (Fin 3)) = {0, 1, 2} by decide, SparseCore.bigSep_insert' (by decide), SparseCore.bigSep_insert' (by decide), bigSep_singleton]

def u₀ : UU := (initOf (KI).hsCells (KI).hsToks,
  (initOf (Pipeline.cells (Pipeline.pin (pcfgs (F := Ideal)) adm) cellOf_inj) (Pipeline.launchToks (Pipeline.pin (pcfgs (F := Ideal)) adm) cellOf_inj), 1))

theorem hu₀ : (ownU u₀ : sProp 𝕄)
    ⊢ |={Set.univ}=> iprop(BI.own (EH (F := Ideal) (initOf (KI).hsCells (KI).hsToks)) ∗ (bigSep Finset.univ fun d : Dev nD => G d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave H := (own_pair_emb (embR (A := UH) (B := UP × Counters)) _ _) $$ HR
  icases H with ⟨HP, -⟩
  ihave HP := (Entails.of_eq (show (BI.own (((Emb.inl : Emb UP (UP × Counters)).trans (embR (A := UH) (B := UP × Counters)))
      (initOf (Pipeline.cells (Pipeline.pin (pcfgs (F := Ideal)) adm) cellOf_inj) (Pipeline.launchToks (Pipeline.pin (pcfgs (F := Ideal)) adm) cellOf_inj))) : sProp 𝕄)
      = BI.own (EP (F := Ideal) (initOf (Pipeline.cells (Pipeline.pin (pcfgs (F := Ideal)) adm) cellOf_inj) (Pipeline.launchToks (Pipeline.pin (pcfgs (F := Ideal)) adm) cellOf_inj))) from rfl)) $$ HP
  ihave HP := (Pipeline.fund_ghost (Pipeline.pin (pcfgs (F := Ideal)) adm) (EP (F := Ideal)) cellOf_inj) $$ HP
  imod HP
  icases HP with ⟨Hc, Ht⟩
  imodintro
  isplitl [HH]; · iexact HH
  isplitl [Hc Ht]
  · unfold G
    rw [bigSep_sep']
    isplitl [Hc]; · iexact Hc
    iexact Ht
  rw [show (bigSep Finset.univ fun thr : Thread nD τ => bigSep Finset.univ fun q : Fin 1 => (Pm m).x q thr) = bigSep Finset.univ fun _ => (iprop(emp) : sProp 𝕄) from
    bigSep_congr fun _ _ => bigSep_univ_of_subsingleton (0 : Fin 1),
    show (bigSep Finset.univ fun _ : Thread nD τ => (iprop(emp) : sProp 𝕄)) = iprop(emp) from bigSep_emp_const Finset.univ]
  iempintro

/-! ## `@main` -/

/-- The first conjunct of the TensorCore's state, and the rest of it. -/
theorem tcSt_open (d : Dev nD) (n : ℕ) : ∃ R : sProp 𝕄, KI.tcSt (EH (F := Ideal)) d n = iprop(owesTc d n ∗ R) := ⟨_, rfl⟩

theorem st0_eq (d : Dev nD) : (bigSep Finset.univ fun c : Fin (KI.nCore 0) => (Pm m).st 0 d c)
    = iprop((tLoc d ↦{fullShare} (kTab (mX m d) (mW m d) : Buf (Elt Ideal) (tLoc d))) ∗ (xLoc d ↦{fullShare} (kIx (mX m d) (mW m d) : Buf (Elt Ideal) (xLoc d)))
        ∗ (oLoc d ↦{fullShare} (m ((SparseCore.T d : Thread nD τ).loc main_v7) : Buf (Elt Ideal) (oLoc d)))) :=
  (dealtAll (F := Ideal) (fun d => kTab (mX m d) (mW m d)) (fun d => kIx (mX m d) (mW m d)) d (m ((SparseCore.T d : Thread nD τ).loc main_v7))).symm

theorem dn0_eq (d : Dev nD) : (bigSep Finset.univ fun c : Fin (KI.nCore 0) => (Pm m).dn 0 d c)
    = iprop((tLoc d ↦{fullShare} (kTab (mX m d) (mW m d) : Buf (Elt Ideal) (tLoc d))) ∗ (xLoc d ↦{fullShare} (kIx (mX m d) (mW m d) : Buf (Elt Ideal) (xLoc d)))
        ∗ (oLoc d ↦{fullShare} (kRows (mX m d) (mW m d) : Buf (Elt Ideal) (oLoc d)))) :=
  (dealtAll (F := Ideal) (fun d => kTab (mX m d) (mW m d)) (fun d => kIx (mX m d) (mW m d)) d (kRows (mX m d) (mW m d))).symm

/-- A call's rule where `@main` makes it: the lifted program. -/
theorem wp_entry (d : Dev nD) (p : Fin 3) (Q : PUnit → sProp 𝕄) {A H : sProp 𝕄}
    (h : iprop((A -∗ wp frame (wpE (D (F := Ideal)) 𝒱 (SparseCore.T d) none) Set.univ (.ret ⟨⟩) Q) ∗ H)
      ⊢ wp frame (wpE (D (F := Ideal)) 𝒱 (SparseCore.T d) none) Set.univ (.op (.customCall (Pipeline.entry p) ()) fun r => .ret r) Q) :
    iprop((A -∗ Q ⟨⟩) ∗ H) ⊢ wp frame (wpE (KI.defs (D (F := Ideal))) 𝒱 (SparseCore.T d) none) Set.univ (Prog.lift (.customCall (SparseCore.inner (Pipeline.entry p)) ())) Q := by
  refine BIBase.Entails.trans ?_ (h.trans (KI.wp_liftProg (D (F := Ideal)) 𝒱 (SparseCore.T d) Set.univ none (.op (.customCall (Pipeline.entry p) ()) fun r => .ret r) Q))
  iintro ⟨Hk, H⟩
  isplitl [Hk]
  · iintro HA
    rw [wp_ret]
    imodintro
    iapply Hk $$ HA
  iexact H

/-- What `@main` leaves: the two results' contents, and its arguments as they were. -/
abbrev FIN (d : Dev nD) : sProp 𝕄 :=
  iprop(at' d main_v10_0 (kProbs (mX m d) (mW m d)) ∗ at' d main_v10_1 (kOut (mX m d) (mW m d))
    ∗ at' d main_arg0 (m ((SparseCore.T d : Thread nD τ).loc main_arg0)) ∗ at' d main_arg1 (m ((SparseCore.T d : Thread nD τ).loc main_arg1))
    ∗ at' d main_arg2 (m ((SparseCore.T d : Thread nD τ).loc main_arg2)))

set_option maxHeartbeats 8000000 in
theorem hmain (κ : GSem nD τ sig → ℕ) (d : Dev nD) :
    iprop(KI.ctx (EH (F := Ideal)) (Pm m) κ ∗ KI.tcSt (EH (F := Ideal)) d 0 ∗ KI.tcRes m ρ d ∗ G d)
      ⊢ wp frame (wpE (KI.defs (D (F := Ideal))) 𝒱 (SparseCore.T d) none) Set.univ (main (F := Ideal) d)
          fun _ => iprop(KI.tcSt (EH (F := Ideal)) d 1 ∗ FIN m d ∗ KI.tcEnd d) := by
  obtain ⟨R0, hR0⟩ := tcSt_open d 0
  obtain ⟨R1, hR1⟩ := tcSt_open d 1
  unfold SparseCore.Cfg.tcRes SparseCore.Cfg.tcEnd G
  rw [unscopedBufs_eq, three, three]
  simp only [main, wp_bind, wp_pure]
  iintro ⟨#Hctx, Hst, ⟨Hb, ⟨A0, A1, A2, B0, B1, C1, C2, D0, D1, D2, E4, E5, E6, E7, E8, E9, Z0, Z1⟩, Hts, -⟩, ⟨Gc0, Gc1, Gc2⟩, ⟨Gt0, Gt1, Gt2⟩⟩
  ihave #Hlev := (SparseCore.Cfg.ctx_levAts (K := KI) κ) $$ Hctx
  ihave Hst := (Entails.of_eq hR0) $$ Hst
  icases Hst with ⟨Hw, HR⟩
  -- the projection
  iapply (wp_entry d 0 _ (wp_call0 0 (mX m) (mW m) (fun d => m ((SparseCore.T d : Thread nD τ).loc main_v0_0)) (fun d => m ((SparseCore.T d : Thread nD τ).loc main_v0_1)) d _ _))
  isplitr [Hb Hw A0 A1 B0 B1 Gc0 Gt0]
  swap
  · isplitl [Hb]; · iexact Hb
    isplitl [Hw A0 A1 B0 B1]
    · isplitl [Hw]; · iexact Hw
      unfold before0
      isplitl [A0]; · iexact A0
      isplitl [A1]; · iexact A1
      isplitl [B0]; · iexact B0
      iexact B1
    isplitr; · iexact Hlev
    isplitl [Gc0]; · iexact Gc0
    iexact Gt0
  iintro ⟨Hb, Hw, H⟩
  ihave H := (Entails.of_eq (show (after0 (mX m) (mW m) d : sProp 𝕄) = iprop(at' d main_arg0 (mX m d) ∗ at' d main_arg1 (mW m d) ∗ at' d main_v0_0 (logitsArr (mX m d) (mW m d)) ∗ at' d main_v0_1 (maxArr (mX m d) (mW m d))) from rfl)) $$ H
  icases H with ⟨A0, A1, B0, B1⟩
  -- the maxima, row by row
  iapply (wp_one (a := main_v0_1) (b := main_v1) (by decide) d rfl rfl ?hnB1C1 (maxArr (mX m d) (mW m d)) (m ((SparseCore.T d : Thread nD τ).loc main_v1)) (kMaxT (mX m d) (mW m d)) ?hvB1C1)
  case hnB1C1 =>
    intro V
    apply StableHlo.unary_result_ne
    decide
  case hvB1C1 =>
    intro V hV
    rw [StableHlo.unary_result, hV]; rfl
  isplitl [Hb B1 C1]
  · isplitl [Hb]; · iexact Hb
    isplitl [B1]; · iexact B1
    iexact C1
  iintro ⟨Hb, B1, C1⟩
  -- and flat
  iapply (wp_one (a := main_v1) (b := main_v2) (by decide) d rfl rfl ?hnC1C2 (kMaxT (mX m d) (mW m d)) (m ((SparseCore.T d : Thread nD τ).loc main_v2)) (kMax (mX m d) (mW m d)) ?hvC1C2)
  case hnC1C2 =>
    intro V
    apply StableHlo.reshape_result_ne
    decide
  case hvC1C2 =>
    intro V hV
    rw [StableHlo.reshape_result, hV]; rfl
  isplitl [Hb C1 C2]
  · isplitl [Hb]; · iexact Hb
    isplitl [C1]; · iexact C1
    iexact C2
  iintro ⟨Hb, C1, C2⟩
  -- the chunks
  iapply (wp_entry d 1 _ (wp_call1 0 (fun d => kMax (mX m d) (mW m d)) (fun d => m ((SparseCore.T d : Thread nD τ).loc main_v3_0)) (fun d => m ((SparseCore.T d : Thread nD τ).loc main_v3_1)) (fun d => m ((SparseCore.T d : Thread nD τ).loc main_v3_2)) d _ _))
  isplitr [Hb Hw C2 D0 D1 D2 Gc1 Gt1]
  swap
  · isplitl [Hb]; · iexact Hb
    isplitl [Hw C2 D0 D1 D2]
    · isplitl [Hw]; · iexact Hw
      unfold before1
      isplitl [C2]; · iexact C2
      isplitl [D0]; · iexact D0
      isplitl [D1]; · iexact D1
      iexact D2
    isplitr; · iexact Hlev
    isplitl [Gc1]; · iexact Gc1
    iexact Gt1
  iintro ⟨Hb, Hw, H⟩
  ihave H := (Entails.of_eq (show (after1 (fun d => kMax (mX m d) (mW m d)) d : sProp 𝕄) = iprop(at' d main_v2 (kMax (mX m d) (mW m d)) ∗ at' d main_v3_0 (kIds (mX m d) (mW m d)) ∗ at' d main_v3_1 (chFlat (kMax (mX m d) (mW m d))) ∗ at' d main_v3_2 (chOff (kMax (mX m d) (mW m d)))) from rfl)) $$ H
  icases H with ⟨C2, D0, D1, D2⟩
  -- the table
  iapply (wp_one (a := main_v0_0) (b := main_v4) (by decide) d rfl rfl ?hnB0E4 (logitsArr (mX m d) (mW m d)) (m ((SparseCore.T d : Thread nD τ).loc main_v4)) (kTab (mX m d) (mW m d)) ?hvB0E4)
  case hnB0E4 =>
    intro V
    apply StableHlo.reshape_result_ne
    decide
  case hvB0E4 =>
    intro V hV
    rw [StableHlo.reshape_result, hV]; rfl
  isplitl [Hb B0 E4]
  · isplitl [Hb]; · iexact Hb
    isplitl [B0]; · iexact B0
    iexact E4
  iintro ⟨Hb, B0, E4⟩
  -- the rows asked for
  iapply (wp_one (a := main_v3_1) (b := main_v5) (by decide) d rfl rfl ?hnD1E5 (chFlat (kMax (mX m d) (mW m d))) (m ((SparseCore.T d : Thread nD τ).loc main_v5)) (kIxT (mX m d) (mW m d)) ?hvD1E5)
  case hnD1E5 =>
    intro V
    apply StableHlo.unary_result_ne
    decide
  case hvD1E5 =>
    intro V hV
    rw [StableHlo.unary_result, hV]; rfl
  isplitl [Hb D1 E5]
  · isplitl [Hb]; · iexact Hb
    isplitl [D1]; · iexact D1
    iexact E5
  iintro ⟨Hb, D1, E5⟩
  -- and flat
  iapply (wp_one (a := main_v5) (b := main_v6) (by decide) d rfl rfl ?hnE5E6 (kIxT (mX m d) (mW m d)) (m ((SparseCore.T d : Thread nD τ).loc main_v6)) (kIx (mX m d) (mW m d)) ?hvE5E6)
  case hnE5E6 =>
    intro V
    apply StableHlo.reshape_result_ne
    decide
  case hvE5E6 =>
    intro V hV
    rw [StableHlo.reshape_result, hV]; rfl
  isplitl [Hb E5 E6]
  · isplitl [Hb]; · iexact Hb
    isplitl [E5]; · iexact E5
    iexact E6
  iintro ⟨Hb, E5, E6⟩
  -- the gather
  ihave Hst := (Entails.of_eq hR0.symm) $$ [Hw HR]
  · isplitl [Hw]; · iexact Hw
    iexact HR
  iapply (KI.wp_run (D (F := Ideal)) 𝒱 (EH := EH (F := Ideal)) (P := Pm m) κ d 0)
  isplitr; · iexact Hctx
  isplitl [Hst]; · iexact Hst
  isplitl [E4 E6 E7]
  · iapply (Entails.of_eq (st0_eq m d).symm)
    isplitl [E4]; · iexact E4
    isplitl [E6]; · iexact E6
    iexact E7
  iintro ⟨Hst, Hdn⟩
  ihave Hdn := (Entails.of_eq (dn0_eq m d)) $$ Hdn
  icases Hdn with ⟨E4, E6, E7⟩
  ihave Hst := (Entails.of_eq (show KI.tcSt (EH (F := Ideal)) d ((0 : Fin 1).val + 1) = iprop(owesTc d 1 ∗ R1) from hR1)) $$ Hst
  icases Hst with ⟨Hw, HR⟩
  -- the quarters
  iapply (wp_one (a := main_v3_2) (b := main_v8) (by decide) d rfl rfl ?hnD2E8 (chOff (kMax (mX m d) (mW m d))) (m ((SparseCore.T d : Thread nD τ).loc main_v8)) (kSelT (mX m d) (mW m d)) ?hvD2E8)
  case hnD2E8 =>
    intro V
    apply StableHlo.unary_result_ne
    decide
  case hvD2E8 =>
    intro V hV
    rw [StableHlo.unary_result, hV]; rfl
  isplitl [Hb D2 E8]
  · isplitl [Hb]; · iexact Hb
    isplitl [D2]; · iexact D2
    iexact E8
  iintro ⟨Hb, D2, E8⟩
  -- and flat
  iapply (wp_one (a := main_v8) (b := main_v9) (by decide) d rfl rfl ?hnE8E9 (kSelT (mX m d) (mW m d)) (m ((SparseCore.T d : Thread nD τ).loc main_v9)) (kSel (mX m d) (mW m d)) ?hvE8E9)
  case hnE8E9 =>
    intro V
    apply StableHlo.reshape_result_ne
    decide
  case hvE8E9 =>
    intro V hV
    rw [StableHlo.reshape_result, hV]; rfl
  isplitl [Hb E8 E9]
  · isplitl [Hb]; · iexact Hb
    isplitl [E8]; · iexact E8
    iexact E9
  iintro ⟨Hb, E8, E9⟩
  -- the selection and the softmax
  iapply (wp_entry d 2 _ (wp_call3 1 (fun d => kRows (mX m d) (mW m d)) (fun d => kSel (mX m d) (mW m d)) (fun d => kIds (mX m d) (mW m d)) (fun d => m ((SparseCore.T d : Thread nD τ).loc main_v10_0)) (fun d => m ((SparseCore.T d : Thread nD τ).loc main_v10_1)) d _ _))
  isplitr [Hb Hw E7 E9 D0 Z0 Z1 Gc2 Gt2]
  swap
  · isplitl [Hb]; · iexact Hb
    isplitl [Hw E7 E9 D0 Z0 Z1]
    · isplitl [Hw]; · iexact Hw
      unfold before3
      isplitl [E7]; · iexact E7
      isplitl [E9]; · iexact E9
      isplitl [D0]; · iexact D0
      isplitl [Z0]; · iexact Z0
      iexact Z1
    isplitr; · iexact Hlev
    isplitl [Gc2]; · iexact Gc2
    iexact Gt2
  iintro ⟨Hb, Hw, H⟩
  ihave H := (Entails.of_eq (show (after3 (fun d => kRows (mX m d) (mW m d)) (fun d => kSel (mX m d) (mW m d)) (fun d => kIds (mX m d) (mW m d)) d : sProp 𝕄) = iprop(at' d main_v7 (kRows (mX m d) (mW m d)) ∗ at' d main_v9 (kSel (mX m d) (mW m d)) ∗ at' d main_v3_0 (kIds (mX m d) (mW m d)) ∗ at' d main_v10_0 (kProbs (mX m d) (mW m d)) ∗ at' d main_v10_1 (kOut (mX m d) (mW m d))) from rfl)) $$ H
  icases H with ⟨E7, E9, D0, Z0, Z1⟩
  imodintro
  isplitl [Hw HR]
  · iapply (Entails.of_eq hR1.symm)
    isplitl [Hw]; · iexact Hw
    iexact HR
  isplitl [Z0 Z1 A0 A1 A2]
  · isplitl [Z0]; · iexact Z0
    isplitl [Z1]; · iexact Z1
    isplitl [A0]; · iexact A0
    isplitl [A1]; · iexact A1
    iexact A2
  isplitl [Hb]; · iexact Hb
  iexact Hts

/-! ## The launch -/

/-- What the launch tells of device `d`'s final memory. -/
def fq (d : Dev nD) (s' : Phys nD τ sig (Elt Ideal)) : Prop :=
  (s'.mem.mem ((SparseCore.T d : Thread nD τ).loc main_v10_0) = kProbs (mX m d) (mW m d)
    ∧ s'.mem.mem ((SparseCore.T d : Thread nD τ).loc main_v10_1) = kOut (mX m d) (mW m d))
  ∧ s'.mem.mem ((SparseCore.T d : Thread nD τ).loc main_arg0) = m ((SparseCore.T d : Thread nD τ).loc main_arg0)
  ∧ s'.mem.mem ((SparseCore.T d : Thread nD τ).loc main_arg1) = m ((SparseCore.T d : Thread nD τ).loc main_arg1)
  ∧ s'.mem.mem ((SparseCore.T d : Thread nD τ).loc main_arg2) = m ((SparseCore.T d : Thread nD τ).loc main_arg2)

/-- An array held is the memory's. -/
theorem read_at (d : Dev nD) (b : Ref sig .tc) (f : Buf (Elt Ideal) ((SparseCore.T d : Thread nD τ).loc b)) (s' : Phys nD τ sig (Elt Ideal)) :
    iprop(at' d b f ∗ SI s') ⊢ iprop(⌜s'.mem.mem ((SparseCore.T d : Thread nD τ).loc b) = f⌝ ∗ SI s' : sProp 𝕄) := by
  iintro ⟨H, HSI⟩
  ihave H := (persistent_entails_right (SI_pointsTo_agree (st := s') (ℓ := (SparseCore.T d : Thread nD τ).loc b) (I := Finset.univ) (q := fullShare) (f := f))) $$ [HSI H]
  · isplitl [HSI] <;> iassumption
  icases H with ⟨%h1, HSI, -⟩
  isplitr
  · ipureintro; exact funext fun i => h1 i (Finset.mem_univ i)
  iexact HSI

set_option maxRecDepth 16384 in
theorem hfin (d : Dev nD) (s' : Phys nD τ sig (Elt Ideal)) : iprop(FIN m d ∗ SI s') ⊢ (⌜fq m d s'⌝ : sProp 𝕄) := by
  iintro ⟨⟨Z0, Z1, A0, A1, A2⟩, HSI⟩
  ihave H := (read_at d main_v10_0 _ s') $$ [Z0 HSI]
  · isplitl [Z0] <;> iassumption
  icases H with ⟨%h0, HSI⟩
  ihave H := (read_at d main_v10_1 _ s') $$ [Z1 HSI]
  · isplitl [Z1] <;> iassumption
  icases H with ⟨%h1, HSI⟩
  ihave H := (read_at d main_arg0 _ s') $$ [A0 HSI]
  · isplitl [A0] <;> iassumption
  icases H with ⟨%h2, HSI⟩
  ihave H := (read_at d main_arg1 _ s') $$ [A1 HSI]
  · isplitl [A1] <;> iassumption
  icases H with ⟨%h3, HSI⟩
  ihave H := (read_at d main_arg2 _ s') $$ [A2 HSI]
  · isplitl [A2] <;> iassumption
  icases H with ⟨%h4, -⟩
  ipureintro; exact ⟨⟨h0, h1⟩, h2, h3, h4⟩

def QC : PUnit × MemSt nD τ sig (Elt Ideal) → Prop := fun r =>
  (∀ d : Dev nD, (r.2.mem ((SparseCore.T d : Thread nD τ).loc main_v10_0) = kProbs (mX m d) (mW m d)
      ∧ r.2.mem ((SparseCore.T d : Thread nD τ).loc main_v10_1) = kOut (mX m d) (mW m d))
    ∧ r.2.mem ((SparseCore.T d : Thread nD τ).loc main_arg0) = m ((SparseCore.T d : Thread nD τ).loc main_arg0)
    ∧ r.2.mem ((SparseCore.T d : Thread nD τ).loc main_arg1) = m ((SparseCore.T d : Thread nD τ).loc main_arg1)
    ∧ r.2.mem ((SparseCore.T d : Thread nD τ).loc main_arg2) = m ((SparseCore.T d : Thread nD τ).loc main_arg2))
  ∧ r.2.sem = fun _ => 0

/-- The program runs to its end, and its results are those of the arrays above, where the gather's indices name rows. -/
theorem run_main (hix : ∀ d z, (kIx (mX m d) (mW m d) z).toNat < 202752) :
    θ_run (Cert.KernelIdeal.defs (F := Ideal)) (Cert.KernelIdeal.threads (F := Ideal)) ⟨m, fun _ => 0, ρ⟩ (QC m) :=
  SparseCore.Cfg.θ_run_sc_quiescent (K := KI) (D := D (F := Ideal)) (𝒱 := 𝒱) (EH := EH (F := Ideal)) (P := Pm m) (A := ∅) scFacts v₀
    (fun q hq => match q with | 0 => nomatch hq)
    (fun q _ => match q with | 0 => tileObl (F := Ideal) _ _ _ hix)
    (fun q _ => match q with | 0 => SparseCore.Cfg.VecSplit.of_plain (vecSplit (F := Ideal) _ _ _))
    m ρ (main (F := Ideal)) G (FIN m) u₀ (sep_elim_left.trans (hu₀ m)) (hmain m ρ) (fq m) (hfin m) (QC m) (fun _ h hz => ⟨h, hz⟩)

end Cert.KernelIdeal.Hand
end
-- ==== Proof.Rank.lean ====
/-
  Places in the descending order of a sequence of extended reals, the smaller index first among equals: what both
  selections of the kernel and the reference's sort put out.
-/
module
public import Mathlib.Data.EReal.Basic
public import Mathlib.Data.Finset.Card
public import Mathlib.Data.Fintype.Card
public import Mathlib.Data.Fintype.EquivFin
@[expose] public section
noncomputable section
namespace Cert.Top

open Finset Classical

/-- `i` stands before `j`: its value is greater, or is the same and its index is smaller. -/
def Bef (g : ℕ → EReal) (i j : ℕ) : Prop := g j < g i ∨ (g i = g j ∧ i < j)

theorem Bef.trans {g : ℕ → EReal} {i j k : ℕ} (h : Bef g i j) (h' : Bef g j k) : Bef g i k := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

theorem Bef.irrefl (g : ℕ → EReal) (i : ℕ) : ¬ Bef g i i := by
  rintro (h | ⟨-, h⟩)
  · exact lt_irrefl _ h
  · exact lt_irrefl _ h

theorem Bef.total (g : ℕ → EReal) {i j : ℕ} (h : i ≠ j) : Bef g i j ∨ Bef g j i := by
  rcases lt_trichotomy (g i) (g j) with l | l | l
  · exact Or.inr (Or.inl l)
  · rcases Nat.lt_or_gt_of_ne h with k | k
    · exact Or.inl (Or.inr ⟨l, k⟩)
    · exact Or.inr (Or.inr ⟨l.symm, k⟩)
  · exact Or.inl (Or.inl l)

/-- How many of the first `n` stand before `j`. -/
def rank (n : ℕ) (g : ℕ → EReal) (j : ℕ) : ℕ := ((range n).filter fun i => Bef g i j).card

variable {n : ℕ} {g : ℕ → EReal}

theorem rank_lt {i j : ℕ} (hi : i < n) (h : Bef g i j) : rank n g i < rank n g j := by
  refine card_lt_card (ssubset_iff_of_subset ?_ |>.mpr ⟨i, ?_, ?_⟩)
  · intro k hk
    rw [mem_filter] at hk ⊢
    exact ⟨hk.1, hk.2.trans h⟩
  · rw [mem_filter]; exact ⟨mem_range.mpr hi, h⟩
  · rw [mem_filter]; exact fun k => Bef.irrefl g i k.2

theorem rank_inj {i j : ℕ} (hi : i < n) (hj : j < n) (h : rank n g i = rank n g j) : i = j := by
  by_contra hne
  rcases Bef.total g hne with b | b
  · exact absurd h (rank_lt hi b).ne
  · exact absurd h (rank_lt hj b).ne'

theorem bef_of_rank_lt {i j : ℕ} (hj : j < n) (h : rank n g i < rank n g j) : Bef g i j := by
  have hne : i ≠ j := fun e => by rw [e] at h; exact lt_irrefl _ h
  rcases Bef.total g hne with b | b
  · exact b
  · exact absurd (rank_lt hj b) (by omega)

theorem rank_lt_n {j : ℕ} (hj : j < n) : rank n g j < n := by
  refine lt_of_lt_of_eq (card_lt_card (t := range n) (ssubset_iff_of_subset (filter_subset _ _) |>.mpr ⟨j, mem_range.mpr hj, ?_⟩)) (card_range n)
  rw [mem_filter]; exact fun k => Bef.irrefl g j k.2

/-- Every place is taken. -/
theorem exists_rank {t : ℕ} (ht : t < n) : ∃ e < n, rank n g e = t := by
  let f : Fin n → Fin n := fun j => ⟨rank n g j.val, rank_lt_n j.isLt⟩
  have hf : Function.Injective f := fun i j h => Fin.ext (rank_inj i.isLt j.isLt (congrArg Fin.val h))
  obtain ⟨e, he⟩ := (Finite.injective_iff_surjective.mp hf) ⟨t, ht⟩
  exact ⟨e.val, e.isLt, congrArg Fin.val he⟩

/-- The first `n` with those of the first `t` places struck out. -/
def struck (n : ℕ) (g : ℕ → EReal) (t : ℕ) (j : ℕ) : EReal := if rank n g j < t then ⊥ else g j

theorem struck_zero (j : ℕ) : struck n g 0 j = g j := if_neg (Nat.not_lt_zero _)

theorem struck_self {e t : ℕ} (he : rank n g e = t) : struck n g t e = g e := if_neg (by omega)

/-- What stands at place `t` is the greatest of what is left, -/
theorem struck_le {e t j : ℕ} (he : rank n g e = t) (hj : j < n) : struck n g t j ≤ g e := by
  unfold struck
  split_ifs with h
  · exact bot_le
  · by_cases hje : j = e
    · rw [hje]
    · rcases Bef.total g hje with b | b
      · exact absurd (rank_lt hj b) (by omega)
      · rcases b with b | ⟨b, -⟩
        · exact b.le
        · exact b.ge

/-- and the first of those as great. -/
theorem le_of_struck_eq {e t j : ℕ} (he : rank n g e = t) (hj : j < n) (hb : g e ≠ ⊥) (h : struck n g t j = g e) : e ≤ j := by
  unfold struck at h
  split_ifs at h with hr
  · exact absurd h.symm hb
  · by_contra hlt
    have b : Bef g j e := Or.inr ⟨h, by omega⟩
    exact hr (he ▸ rank_lt hj b)

/-- Struck out, it leaves what the next place is taken from. -/
theorem struck_succ {e t j : ℕ} (he : rank n g e = t) (hen : e < n) (hj : j < n) :
    struck n g (t + 1) j = if j = e then ⊥ else struck n g t j := by
  unfold struck
  by_cases hje : j = e
  · rw [if_pos hje, hje, if_pos (by omega)]
  · rw [if_neg hje]
    have hne : rank n g j ≠ t := fun h => hje (rank_inj hj hen (h.trans he.symm))
    by_cases hr : rank n g j < t
    · rw [if_pos hr, if_pos (by omega)]
    · rw [if_neg hr, if_neg (by omega)]

/-- With `k` entries above ⊥ in the first `n`, none of the first `k` places is at ⊥. -/
theorem ne_bot_of_rank_lt {k e : ℕ} (hkn : k ≤ n) (hk : ∀ i < k, g i ≠ ⊥) (he : rank n g e < k) : g e ≠ ⊥ := by
  intro hb
  have h : range k ⊆ (range n).filter fun i => Bef g i e := by
    intro i hi
    rw [mem_range] at hi
    rw [mem_filter, mem_range]
    exact ⟨lt_of_lt_of_le hi hkn, Or.inl (by rw [hb]; exact bot_lt_iff_ne_bot.mpr (hk i hi))⟩
  have := card_le_card h
  rw [card_range] at this
  unfold rank at he
  omega

/-- Entries at ⊥ past the end change no place of an entry above ⊥. -/
theorem rank_extend {n' e : ℕ} (hn : n ≤ n') (hbot : ∀ i, n ≤ i → g i = ⊥) (he : g e ≠ ⊥) (hen : e < n) : rank n' g e = rank n g e := by
  unfold rank
  congr 1
  ext i
  rw [mem_filter, mem_filter, mem_range, mem_range]
  constructor
  · rintro ⟨h, b⟩
    refine ⟨?_, b⟩
    by_contra hi
    rcases b with b | ⟨b, -⟩
    · rw [hbot i (by omega)] at b; exact not_lt_bot b
    · rw [hbot i (by omega)] at b; exact he b.symm
  · rintro ⟨h, b⟩
    exact ⟨by omega, b⟩

/-- CHUNKS. `cm j` is the greatest of the 32 entries from `32 * j` on, attained at `a j`. An entry among the first `k`
    lies in a chunk among the first `k` by their greatest entries. -/
theorem rank_chunk_lt {N k e : ℕ} {cm : ℕ → EReal} (hN : n = 32 * N) (hle : ∀ j < N, ∀ l < 32, g (32 * j + l) ≤ cm j)
    (hat : ∀ j < N, ∃ l < 32, g (32 * j + l) = cm j) (hen : e < n) (he : rank n g e < k) : rank N cm (e / 32) < k := by
  by_contra hlt
  choose! a ha hga using hat
  have hsub : ((range N).filter fun i => Bef cm i (e / 32)).image (fun j => 32 * j + a j) ⊆ (range n).filter fun i => Bef g i e := by
    intro i hi
    rw [mem_image] at hi
    obtain ⟨j, hj, rfl⟩ := hi
    rw [mem_filter, mem_range] at hj
    obtain ⟨hjN, b⟩ := hj
    have ha' := ha j hjN
    have hen' : g e ≤ cm (e / 32) := by
      have := hle (e / 32) (by omega) (e % 32) (by omega)
      rwa [show 32 * (e / 32) + e % 32 = e by omega] at this
    rw [mem_filter, mem_range]
    refine ⟨by omega, ?_⟩
    rcases b with b | ⟨b, l⟩
    · exact Or.inl (by rw [hga j hjN]; exact lt_of_le_of_lt hen' b)
    · rcases lt_or_eq_of_le hen' with h | h
      · exact Or.inl (by rw [hga j hjN, b]; exact h)
      · exact Or.inr ⟨by rw [hga j hjN, b, h], by omega⟩
  have hinj : Set.InjOn (fun j => 32 * j + a j) ((range N).filter fun i => Bef cm i (e / 32) : Finset ℕ) := by
    intro i hi j hj h
    rw [mem_coe, mem_filter, mem_range] at hi hj
    have hi' := ha i hi.1
    have hj' := ha j hj.1
    have h : 32 * i + a i = 32 * j + a j := h
    omega
  have h1 := card_le_card hsub
  rw [card_image_of_injOn hinj] at h1
  unfold rank at he hlt
  omega

end Cert.Top
end
-- ==== Proof.Pick.lean ====
/-
  One row's maximum, and the least number among those marked, as the two selections take them.
-/
module
public import proofs.«01_k».proof.Proof.IdealProject
public import proofs.«01_k».proof.Proof.BodyChunks
public import proofs.«01_k».proof.Proof.Rank
public import Idealize.ShloMosaic.Lib.SortNet.Extract
public import Idealize.ShloMosaic.Lib.Pipeline.Value
@[expose] public section
noncomputable section
namespace Cert.KernelIdeal.Hand
open Cert.KernelIdeal Cert.KernelIdeal.Gen
open Idealize.ShloMosaic Idealize.ShloMosaic.ValueIdx

/-! ## Folds -/

/-- The greatest of finitely many: a bound that is attained. -/
theorem fold_max_eq {N : ℕ} (f : Fin N → EReal) (e : Fin N) (h : ∀ j, f j ≤ f e) : (Finset.univ : Finset (Fin N)).fold max ⊥ f = f e := by
  refine le_antisymm ((Finset.fold_max_le _).mpr ⟨bot_le, fun j _ => h j⟩) ((Finset.le_fold_max _).mpr (Or.inr ⟨e, Finset.mem_univ e, le_rfl⟩))

/-- A signed minimum from the greatest word is below every word met, and is one of them or that greatest word. -/
theorem fold_minsi_spec {ι : Type} (f : ι → BitVec 32) (s : Finset ι) :
    (∀ i ∈ s, (s.fold IntOp.minsi 2147483647#32 f).toInt ≤ (f i).toInt)
      ∧ (s.fold IntOp.minsi 2147483647#32 f = 2147483647#32 ∨ ∃ i ∈ s, s.fold IntOp.minsi 2147483647#32 f = f i) := by
  classical
  refine Finset.induction_on s ⟨fun i hi => absurd hi (Finset.notMem_empty i), Or.inl (by rw [Finset.fold_empty])⟩ ?_
  intro a s has ih
  obtain ⟨h1, h2⟩ := ih
  rw [Finset.fold_insert has]
  refine ⟨fun i hi => ?_, ?_⟩
  · rw [SortNet.toInt_minsi]
    rcases Finset.mem_insert.mp hi with rfl | hi
    · exact min_le_left _ _
    · exact (min_le_right _ _).trans (h1 i hi)
  · by_cases hc : (f a).slt (s.fold IntOp.minsi 2147483647#32 f)
    · exact Or.inr ⟨a, Finset.mem_insert_self a s, if_pos hc⟩
    · rcases h2 with h2 | ⟨i, hi, h2⟩
      · exact Or.inl ((if_neg hc).trans h2)
      · exact Or.inr ⟨i, Finset.mem_insert_of_mem hi, (if_neg hc).trans h2⟩

theorem fold_minsi_eq {N : ℕ} (f : Fin N → BitVec 32) (w : BitVec 32) (e : Fin N) (he : f e = w) (h : ∀ j, w.toInt ≤ (f j).toInt) :
    (Finset.univ : Finset (Fin N)).fold IntOp.minsi 2147483647#32 f = w := by
  obtain ⟨h1, h2⟩ := fold_minsi_spec f Finset.univ
  have hle := h1 e (Finset.mem_univ e)
  rw [he] at hle
  refine BitVec.eq_of_toInt_eq (le_antisymm hle ?_)
  rcases h2 with h2 | ⟨i, -, h2⟩
  · rw [h2]
    have := BitVec.toInt_lt (x := w)
    have e2 : (2147483647#32 : BitVec 32).toInt = 2147483647 := by decide
    rw [e2]; norm_num at this; omega
  · rw [h2]; exact h i

/-- The least number among those marked: `num` at the marked places, a word above all numbers elsewhere. -/
theorem fold_marked {N : ℕ} (p : Fin N → Prop) [DecidablePred p] (num : Fin N → ℕ) (hnum : ∀ j, num j < 1073741824) (e : Fin N) (he : p e)
    (h : ∀ j, p j → num e ≤ num j) :
    ((Finset.univ : Finset (Fin N)).fold IntOp.minsi 2147483647#32 fun j => if p j then BitVec.ofNat 32 (num j) else 1073741824#32) = BitVec.ofNat 32 (num e) := by
  have hb : ∀ j, (BitVec.ofNat 32 (num j)).toInt = (num j : ℤ) := fun j => WordCmp.toInt_ofNat_of_lt (by have := hnum j; norm_num; omega)
  refine fold_minsi_eq _ _ e (if_pos he) fun j => ?_
  rw [hb]
  by_cases hj : p j
  · rw [if_pos hj, hb]; exact_mod_cast h j hj
  · rw [if_neg hj]
    have e2 : (1073741824#32 : BitVec 32).toInt = 1073741824 := by decide
    rw [e2]; have := hnum e; omega

/-- Every row has a first place where its greatest value stands. -/
theorem exists_first_max {N : ℕ} (hN : 0 < N) (f : Fin N → EReal) : ∃ e, (∀ j, f j ≤ f e) ∧ ∀ j, f j = f e → e ≤ j := by
  classical
  obtain ⟨M, -, hM⟩ := Finset.exists_max_image (Finset.univ : Finset (Fin N)) f ⟨⟨0, hN⟩, Finset.mem_univ _⟩
  obtain ⟨e, he, hmin⟩ := Finset.exists_min_image (Finset.univ.filter fun j => f j = f M) (fun j : Fin N => j) ⟨M, by simp⟩
  have he' : f e = f M := (Finset.mem_filter.mp he).2
  exact ⟨e, fun j => he' ▸ hM j (Finset.mem_univ j), fun j hj => hmin j (Finset.mem_filter.mpr ⟨Finset.mem_univ _, hj.trans he'⟩)⟩

/-- A signed minimum over one axis, as a fold over it. -/
theorem minsi_single {s t : Shape} {a : Fin s.rank} (src : IVec s 32) (h : s.Reduces [a] t) (j : t.Idx) :
    multiReductionI .minsi [a] t src 2147483647#32 h rfl j = (Finset.univ : Finset (Fin (s.size a))).fold IntOp.minsi 2147483647#32 (src ∘ h.lift j) :=
  (multiReductionI_eq_fold .minsi src 2147483647#32 h rfl j).trans (h.fold_filter_drop_single IntOp.minsi 2147483647#32 src j)

/-- Row `r` of a two-axis array, at its first greatest entry. -/
structure FirstMax {N : ℕ} (f : Fin N → EReal) (e : Fin N) : Prop where
  le : ∀ j, f j ≤ f e
  first : ∀ j, f j = f e → e ≤ j

/-! ## The chunk selection's trip -/

section Chunks

variable (v : S256x3168.Idx → EReal) (r : Fin 256)

theorem rowMax_chunks (e : Fin 3168) (h : FirstMax (fun j => v (ix2 r j)) e) (j : S256.Idx) (hj : j = ix1 r) :
    (multiReduction (F := Ideal) .maximumf [1] S256 (v : FVec Ideal S256x3168 .f32) 0xFF800000#32 reduces_S256x3168_S256 (.inl rfl) rfl j : EReal) = v (ix2 r e) := by
  subst hj
  refine (Ideal.multiReduction_maximumf_single _ _ reduces_S256x3168_S256 (.inl rfl) rfl _).trans ?_
  refine Eq.trans (congrArg (fun b : EReal => Finset.fold max b _ (Finset.univ : Finset (Fin 3168))) negInf_bot) ?_
  refine Eq.trans (congrArg (Finset.fold max (⊥ : EReal) · (Finset.univ : Finset (Fin 3168))) (funext fun l => ?_)) (fold_max_eq (fun l => v (ix2 r l)) e h.le)
  refine congrArg v ?_
  funext a
  match a with
  | ⟨0, _⟩ => rfl
  | ⟨1, _⟩ => rfl

theorem ofBool_cond (p : Prop) [Decidable p] {α : Type} (a b : α) : Scalar.select (BitVec.ofBool (decide p)) a b = if p then a else b := by
  by_cases h : p
  · rw [decide_eq_true h, if_pos h]; rfl
  · rw [decide_eq_false h, if_neg h]; rfl

theorem pay4_eq (e : Fin 3168) (h : FirstMax (fun j => v (ix2 r j)) e) :
    k1_pay4 (F := Ideal) v (ix2 r 0) = BitVec.ofNat 32 e.val := by
  have hc : Shape.reshapeEquiv shapeCasts_S256_S256x1 (ix2 r 0) = ix1 r := by
    refine Shape.reshapeEquiv_eq_of_rowMajor _ ?_
    rw [Shape.rowMajor_val_two, Shape.rowMajor_val_one]
    show r.val = r.val * 1 + 0
    omega
  have h0 : k1_pay4 (F := Ideal) v (ix2 r 0) = multiReductionI .minsi [1] S256
      (select (cmpf (F := Ideal) .oeq (v : FVec Ideal S256x3168 .f32) (broadcastTo S256x3168 (shapeCast S256x1 (multiReduction (F := Ideal) .maximumf [1] S256 (v : FVec Ideal S256x3168 .f32) 0xFF800000#32 reduces_S256x3168_S256 (.inl rfl) rfl) shapeCasts_S256_S256x1) broadcasts_S256x1_S256x3168))
        (iota .tc S256x3168 32 [1] iota_S256x3168_d1_w32) (broadcast S256x3168 1073741824#32)) 2147483647#32 reduces_S256x3168_S256 rfl
      (Shape.reshapeEquiv shapeCasts_S256_S256x1 (ix2 r 0)) := rfl
  rw [h0, hc]
  refine (minsi_single _ reduces_S256x3168_S256 (ix1 r)).trans ?_
  refine Eq.trans (congrArg (Finset.fold IntOp.minsi 2147483647#32 · (Finset.univ : Finset (Fin 3168))) (funext fun l => ?_))
    (fold_marked (fun l : Fin 3168 => v (ix2 r l) = v (ix2 r e)) (fun l => l.val) (fun l => by have := l.isLt; omega) e rfl fun j hj => h.first j hj)
  have hl : reduces_S256x3168_S256.lift (ix1 r) l = ix2 r l := by
    funext a
    match a with
    | ⟨0, _⟩ => rfl
    | ⟨1, _⟩ => rfl
  refine (congrArg _ hl).trans ?_
  have hb : (broadcastTo S256x3168 (shapeCast S256x1 (multiReduction (F := Ideal) .maximumf [1] S256 (v : FVec Ideal S256x3168 .f32) 0xFF800000#32 reduces_S256x3168_S256 (.inl rfl) rfl) shapeCasts_S256_S256x1) broadcasts_S256x1_S256x3168 (ix2 r l) : EReal) = v (ix2 r e) := by
    refine (broadcastTo_apply _ _ _ (ix2 r 0) fun a => ?_).trans (rowMax_chunks v r e h _ hc)
    match a with
    | ⟨0, _⟩ => rfl
    | ⟨1, _⟩ => rfl
  refine (congrArg (fun z : EReal => Scalar.select (Ideal.cmp .oeq (v (ix2 r l)) z) (BitVec.ofNat 32 (0 * 3168 + l.val)) 1073741824#32) hb).trans ?_
  rw [Nat.zero_mul, Nat.zero_add]
  exact ofBool_cond _ _ _

/-- The scratch after a trip: the first greatest entry of each row struck out. -/
theorem pay5_eq (e : Fin 3168) (h : FirstMax (fun j => v (ix2 r j)) e) (l : Fin 3168) :
    (k1_pay5 (F := Ideal) v (ix2 r l) : EReal) = if l = e then ⊥ else v (ix2 r l) := by
  have hs : ∀ z, Shape.reshapeEquiv shapeCasts_S256x3168_S256x3168 z = z := fun z => Shape.reshapeEquiv_eq_of_rowMajor _ rfl
  have hb : broadcastTo S256x3168 (k1_pay4 (F := Ideal) v) broadcasts_S256x1_S256x3168 (ix2 r l) = BitVec.ofNat 32 e.val := by
    refine (broadcastTo_apply _ _ _ (ix2 r 0) fun a => ?_).trans (pay4_eq v r e h)
    match a with
    | ⟨0, _⟩ => rfl
    | ⟨1, _⟩ => rfl
  have h0 : (k1_pay5 (F := Ideal) v (ix2 r l) : EReal) = select (cmpi .eq (iota .tc S256x3168 32 [1] iota_S256x3168_d1_w32) (broadcastTo S256x3168 (k1_pay4 (F := Ideal) v) broadcasts_S256x1_S256x3168))
      (broadcast S256x3168 (⊥ : EReal)) v (Shape.reshapeEquiv shapeCasts_S256x3168_S256x3168 (ix2 r l)) := rfl
  rw [h0, hs]
  show Scalar.select (IntOp.cmpi .eq (BitVec.ofNat 32 (0 * 3168 + l.val)) (broadcastTo S256x3168 (k1_pay4 (F := Ideal) v) broadcasts_S256x1_S256x3168 (ix2 r l))) (⊥ : EReal) (v (ix2 r l)) = _
  rw [hb, WordCmp.cmpi_eq_ofNat (by have := l.isLt; omega) (by have := e.isLt; omega), Nat.zero_mul, Nat.zero_add, ofBool_cond]
  exact if_congr Fin.ext_iff.symm rfl rfl

/-- The list after trip `t`: that entry's number at place `t`. -/
theorem pay6_eq (t : Fin k1_t1_loop.trips) (acc : IVec S256x64 32) (e : Fin 3168) (h : FirstMax (fun j => v (ix2 r j)) e) (k : Fin 64) :
    k1_pay6 (F := Ideal) t acc v (ix2 r k) = if k.val = t.val then BitVec.ofNat 32 e.val else acc (ix2 r k) := by
  have ht : t.val < 64 := t.isLt
  have hb : broadcastTo S256x64 (shapeCast S256x1 (k1_pay4 (F := Ideal) v) shapeCasts_S256x1_S256x1) broadcasts_S256x1_S256x64 (ix2 r k) = BitVec.ofNat 32 e.val := by
    refine (broadcastTo_apply _ _ _ (ix2 r 0) fun a => ?_).trans ?_
    · match a with
      | ⟨0, _⟩ => rfl
      | ⟨1, _⟩ => rfl
    · exact (shapeCast_apply _ _ _ (ix2 r 0) rfl).trans (pay4_eq v r e h)
  show Scalar.select (IntOp.cmpi .eq (BitVec.ofNat 32 (0 * 64 + k.val)) (0#32 + BitVec.ofNat 32 t.val * 1#32))
    (broadcastTo S256x64 (shapeCast S256x1 (k1_pay4 (F := Ideal) v) shapeCasts_S256x1_S256x1) broadcasts_S256x1_S256x64 (ix2 r k)) (acc (ix2 r k)) = _
  rw [hb, show (0#32 + BitVec.ofNat 32 t.val * 1#32) = BitVec.ofNat 32 t.val by simp, WordCmp.cmpi_eq_ofNat (by have := k.isLt; omega) (by omega), Nat.zero_mul, Nat.zero_add, ofBool_cond]

end Chunks

end Cert.KernelIdeal.Hand
end
-- ==== Proof.ChunksValue.lean ====
/-
  The chunk selection's list: always numbers of chunks; and, where enough entries stand above minus infinity, the chunks
  in descending order of their greatest entries.
-/
module
public import proofs.«01_k».proof.Proof.Pick
public import proofs.«01_k».proof.Proof.Host
@[expose] public section
noncomputable section
namespace Cert.KernelIdeal.Hand
open Cert.KernelIdeal Cert.KernelIdeal.Gen
open Idealize.ShloMosaic Idealize.ShloMosaic.ValueIdx
open Cert.Top

theorem chunk_trips : k1_t1_loop.trips = 64 := by decide

theorem exists_firstMax (v : S256x3168.Idx → EReal) (r : Fin 256) : ∃ e : Fin 3168, FirstMax (fun j => v (ix2 r j)) e := by
  obtain ⟨e, h1, h2⟩ := exists_first_max (N := 3168) (by norm_num) (fun j => v (ix2 r j))
  exact ⟨e, h1, h2⟩

theorem chSt_fst (X : S256x3168.Idx → EReal) (n : ℕ) (hlt : n < k1_t1_loop.trips) :
    (chSt (F := Ideal) X (n + 1)).1 = k1_pay5 (F := Ideal) (chSt (F := Ideal) X n).1 := by
  rw [chSt, dif_pos hlt]
theorem chSt_snd (X : S256x3168.Idx → EReal) (n : ℕ) (hlt : n < k1_t1_loop.trips) :
    (chSt (F := Ideal) X (n + 1)).2 = k1_pay6 (F := Ideal) ⟨n, hlt⟩ (chSt (F := Ideal) X n).2 (chSt (F := Ideal) X n).1 := by
  rw [chSt, dif_pos hlt]

/-- Every number listed is a chunk's. -/
theorem chSt_range (X : S256x3168.Idx → EReal) (n : ℕ) (hn : n ≤ 64) (r : Fin 256) (k : Fin 64) :
    ((chSt (F := Ideal) X n).2 (ix2 r k)).toNat < 3168 := by
  induction n with
  | zero => show (0#32 : BitVec 32).toNat < 3168; decide
  | succ n ih =>
    have hlt : n < k1_t1_loop.trips := by rw [chunk_trips]; omega
    have hs := chSt_succ (F := Ideal) X ⟨n, hlt⟩
    obtain ⟨e, he⟩ := exists_firstMax (chSt (F := Ideal) X n).1 r
    rw [show (chSt (F := Ideal) X (n + 1)) = _ from hs]
    show (k1_pay6 (F := Ideal) ⟨n, hlt⟩ (chSt (F := Ideal) X n).2 (chSt (F := Ideal) X n).1 (ix2 r k)).toNat < 3168
    rw [pay6_eq _ r _ _ e he]
    split_ifs
    · rw [BitVec.toNat_ofNat, Nat.mod_eq_of_lt (by have := e.isLt; omega)]; exact e.isLt
    · exact ih (by omega)

theorem chIds_range (X : S256x3168.Idx → EReal) (r : Fin 256) (k : Fin 64) : (chIds (F := Ideal) X (ix2 r k)).toNat < 3168 :=
  chSt_range X k1_t1_loop.trips chunk_trips.le r k

/-- The list where the rows hold `cm r`, with 64 entries of each above minus infinity at the front. -/
theorem chSt_value (X : S256x3168.Idx → EReal) (r : Fin 256) (cm : ℕ → EReal) (hX : ∀ j : Fin 3168, X (ix2 r j) = cm j.val)
    (hcm : ∀ i < 64, cm i ≠ ⊥) (n : ℕ) (hn : n ≤ 64) :
    (∀ j : Fin 3168, ((chSt (F := Ideal) X n).1 (ix2 r j) : EReal) = struck 3168 cm n j.val)
      ∧ ∀ k : Fin 64, k.val < n → ∃ e < 3168, rank 3168 cm e = k.val ∧ (chSt (F := Ideal) X n).2 (ix2 r k) = BitVec.ofNat 32 e := by
  induction n with
  | zero =>
    refine ⟨fun j => ?_, fun k hk => absurd hk (Nat.not_lt_zero _)⟩
    rw [struck_zero, ← hX]
    have hs : ∀ z, Shape.reshapeEquiv shapeCasts_S256x3168_S256x3168 z = z := fun z => Shape.reshapeEquiv_eq_of_rowMajor _ rfl
    show X (Shape.reshapeEquiv shapeCasts_S256x3168_S256x3168 (Shape.reshapeEquiv shapeCasts_S256x3168_S256x3168 (ix2 r j))) = _
    rw [hs, hs]
  | succ n ih =>
    obtain ⟨ihv, ihk⟩ := ih (by omega)
    have hlt : n < k1_t1_loop.trips := by rw [chunk_trips]; omega
    obtain ⟨e, hen, he⟩ := exists_rank (n := 3168) (g := cm) (t := n) (by omega)
    have hb : cm e ≠ ⊥ := ne_bot_of_rank_lt (n := 3168) (k := 64) (by norm_num) hcm (by omega)
    have hfirst : FirstMax (fun j => ((chSt (F := Ideal) X n).1 (ix2 r j) : EReal)) ⟨e, hen⟩ := by
      refine ⟨fun j => ?_, fun j hj => ?_⟩
      · show ((chSt (F := Ideal) X n).1 (ix2 r j) : EReal) ≤ (chSt (F := Ideal) X n).1 (ix2 r ⟨e, hen⟩)
        rw [ihv, ihv, struck_self he]; exact struck_le he j.isLt
      · replace hj : ((chSt (F := Ideal) X n).1 (ix2 r j) : EReal) = (chSt (F := Ideal) X n).1 (ix2 r ⟨e, hen⟩) := hj
        rw [ihv, ihv, struck_self he] at hj
        exact le_of_struck_eq he j.isLt hb hj
    have hs1 := chSt_fst X n hlt
    have hs2 := chSt_snd X n hlt
    refine ⟨fun j => ?_, fun k hk => ?_⟩
    · rw [hs1, struck_succ he hen j.isLt]
      have h5 := pay5_eq (chSt (F := Ideal) X n).1 r ⟨e, hen⟩ hfirst j
      rw [ihv] at h5
      rw [h5]
      by_cases hje : j.val = e
      · rw [if_pos hje, if_pos (Fin.ext hje)]
      · rw [if_neg hje, if_neg (fun h => hje (congrArg Fin.val h))]
    · rw [hs2, pay6_eq _ r _ _ _ hfirst]
      by_cases hkn : k.val = n
      · exact ⟨e, hen, he.trans hkn.symm, if_pos hkn⟩
      · rw [if_neg hkn]; exact ihk k (by omega)

theorem chIds_value (X : S256x3168.Idx → EReal) (r : Fin 256) (cm : ℕ → EReal) (hX : ∀ j : Fin 3168, X (ix2 r j) = cm j.val)
    (hcm : ∀ i < 64, cm i ≠ ⊥) (k : Fin 64) : ∃ e < 3168, rank 3168 cm e = k.val ∧ chIds (F := Ideal) X (ix2 r k) = BitVec.ofNat 32 e :=
  (chSt_value X r cm hX hcm k1_t1_loop.trips chunk_trips.le).2 k k.isLt

/-! ## The flat rows and the quarters -/

/-- The floor of a quarter, as the kernel's code has it of a signed word. -/
def quarterWord (w : BitVec 32) : BitVec 32 :=
  Scalar.select (IntOp.andi (IntOp.cmpi .ne (IntOp.subi ((IntOp.cmpi .sgt w 0#32).setWidth 32) ((IntOp.cmpi .slt w 0#32).setWidth 32))
      (Scalar.subi (Scalar.extui (Scalar.cmpi .sgt 4#32 0#32)) (Scalar.extui (Scalar.cmpi .slt 4#32 0#32)) : BitVec 32))
    (IntOp.cmpi .ne (IntOp.remsi .vector w 4#32) 0#32)) (IntOp.subi (IntOp.divsi .vector w 4#32) 1#32) (IntOp.divsi .vector w 4#32)

theorem chFlat_word (X : S256x3168.Idx → EReal) (r : Fin 256) (k : Fin 64) :
    chFlat X (ix2 r k) = IntOp.addi (IntOp.muli (BitVec.ofNat 32 (0 * 256 + r.val)) 792#32) (quarterWord (chIds (F := Ideal) X (ix2 r k))) := rfl

set_option maxRecDepth 100000 in
theorem quarterWord_eq : ∀ n : Fin 3168, quarterWord (BitVec.ofNat 32 n.val) = BitVec.ofNat 32 (n.val / 4) := by decide +kernel

/-- The remainder by four, as the kernel's code has it of a signed word. -/
def restWord (w : BitVec 32) : BitVec 32 :=
  Scalar.select (IntOp.andi (IntOp.xori (IntOp.cmpi .slt (IntOp.remsi .vector w (Scalar.select (Scalar.cmpi .eq 4#32 0#32) 1#32 4#32)) 0#32) (Scalar.cmpi .slt (Scalar.select (Scalar.cmpi .eq 4#32 0#32) 1#32 4#32) 0#32))
      (IntOp.cmpi .ne (IntOp.remsi .vector w (Scalar.select (Scalar.cmpi .eq 4#32 0#32) 1#32 4#32)) 0#32))
    (IntOp.addi (IntOp.remsi .vector w (Scalar.select (Scalar.cmpi .eq 4#32 0#32) 1#32 4#32)) (Scalar.select (Scalar.cmpi .eq 4#32 0#32) 1#32 4#32))
    (IntOp.remsi .vector w (Scalar.select (Scalar.cmpi .eq 4#32 0#32) 1#32 4#32))

set_option maxRecDepth 100000 in
theorem restWord_eq : ∀ n : Fin 3168, restWord (BitVec.ofNat 32 n.val) = BitVec.ofNat 32 (n.val % 4) := by decide +kernel

theorem ofNat_toNat_lt {w : BitVec 32} {n : ℕ} (h : w = BitVec.ofNat 32 n) (hn : n < 4294967296) : w.toNat = n := by
  rw [h, BitVec.toNat_ofNat, Nat.mod_eq_of_lt (by omega)]

/-- The flat row of chunk `e` of row `r`. -/
theorem chFlat_eq (X : S256x3168.Idx → EReal) (r : Fin 256) (k : Fin 64) (e : ℕ) (he : e < 3168) (h : chIds (F := Ideal) X (ix2 r k) = BitVec.ofNat 32 e) :
    chFlat X (ix2 r k) = BitVec.ofNat 32 (r.val * 792 + e / 4) := by
  rw [chFlat_word, h, quarterWord_eq ⟨e, he⟩, WordCmp.muli_ofNat, WordCmp.addi_ofNat]
  refine congrArg (BitVec.ofNat 32) ?_
  show (0 * 256 + r.val) * 792 + e / 4 = _
  omega

theorem chOff_eq (X : S256x3168.Idx → EReal) (r : Fin 256) (k : Fin 64) (e : ℕ) (he : e < 3168) (h : chIds (F := Ideal) X (ix2 r k) = BitVec.ofNat 32 e) :
    chOff X (ix2 r k) = BitVec.ofNat 32 (e % 4) := by
  rw [show chOff X (ix2 r k) = restWord (chIds (F := Ideal) X (ix2 r k)) from rfl, h, restWord_eq ⟨e, he⟩]

theorem chFlat_range (X : S256x3168.Idx → EReal) (r : Fin 256) (k : Fin 64) : (chFlat X (ix2 r k)).toNat < 202752 := by
  have hr := chIds_range X r k
  have h := chFlat_eq X r k _ hr (by rw [BitVec.ofNat_toNat, BitVec.setWidth_eq])
  rw [ofNat_toNat_lt h (by have := r.isLt; omega)]
  have := r.isLt
  omega

/-- The gather's list, read: entry `256 * k + r` is what chunk slot `k` of row `r` names. -/
theorem kIx_at (x : S256x1024.Idx → EReal) (W : S100000x1024.Idx → EReal) (r : Fin 256) (k : Fin 64) (z : S1x16384.Idx) (hz : (z 1).val = 256 * k.val + r.val) :
    kIx x W z = chFlat (kMax x W) (ix2 r k) := by
  unfold kIx kIxT
  refine (shapeCast_apply _ _ _ (ix2 k r) ?_).trans (transpose_apply _ _ _ _ (ix2 r k) ?_)
  · rw [Shape.rowMajor_val_two, Shape.rowMajor_val_two]
    show k.val * 256 + r.val = (z 0).val * 16384 + (z 1).val
    have h0 : (z 0).val < 1 := (z 0).isLt
    omega
  · intro a
    match a with
    | ⟨0, _⟩ => rfl
    | ⟨1, _⟩ => rfl

theorem kIx_range (x : S256x1024.Idx → EReal) (W : S100000x1024.Idx → EReal) (z : S1x16384.Idx) : (kIx x W z).toNat < 202752 := by
  have hz : (z 1).val < 16384 := (z 1).isLt
  rw [kIx_at x W ⟨(z 1).val % 256, by omega⟩ ⟨(z 1).val / 256, by omega⟩ z (by show _ = 256 * ((z 1).val / 256) + (z 1).val % 256; omega)]
  exact chFlat_range _ _ _

end Cert.KernelIdeal.Hand
end
-- ==== Proof.Frames.lean ====
/- The frames: every run of the kernel, and every run of the reference, ends with its arguments unchanged and every
   counter at zero. -/
module

public import proofs.«01_k».proof.Defs
public import proofs.«01_k».proof.Proof.Main
public import proofs.«01_k».proof.Proof.ChunksValue
public import proofs.«01_k».proof.Proof.Gen.Pre_finite_zero_bias
public import proofs.«01_k».proof.Proof.Gen.ReferenceIdeal.Run
public import Idealize.ShloMosaic.Init

@[expose] public section

noncomputable section

namespace Cert.Proof

open Idealize.ShloMosaic Idealize.SL.Sem
open Cert.KernelIdeal.Hand

/-- The kernel's run with its values. The index the gather reads always names a row of the table, so nothing is asked
    of the arguments. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (QC m) :=
  run_main m g fun _ z => kIx_range _ _ z

/-- The kernel's frame, read off its run. -/
theorem frame_kernel : Cert.quiescent_KernelIdeal := fun m g _ =>
  (θ_run Cert.KernelIdeal.defs _ _).mono (fun _ h => ⟨fun c => (h.1 c).2, h.2⟩) (kernel_run m g)

theorem frame_kernel_pre : Cert.quiescent_KernelIdeal_pre_finite_zero_bias := fun m g _ =>
  (θ_run Cert.KernelIdeal.defs _ _).mono (fun _ h => ⟨fun c => (h.1 c).2, h.2⟩) (kernel_run m g)

/-- The reference declares no counter. -/
theorem reference_sem (s : MemSt Cert.ReferenceIdeal.nD Cert.ReferenceIdeal.τ Cert.ReferenceIdeal.sig (Elt Ideal)) :
    s.sem = fun _ => 0 :=
  Idealize.ShloMosaic.sem_eq_zero_of_no_sems (by decide) s

/-- The reference's frame, read off its run. -/
theorem frame_reference : Cert.quiescent_ReferenceIdeal := fun m g _ =>
  (θ_run Cert.ReferenceIdeal.defs _ _).mono (fun r h => ⟨fun c => (h c).2.2, reference_sem r.2⟩)
    (Cert.ReferenceIdeal.Value.run (F := Ideal) m g)

theorem frame_reference_pre : Cert.quiescent_ReferenceIdeal_pre_finite_zero_bias := fun m g _ =>
  (θ_run Cert.ReferenceIdeal.defs _ _).mono (fun r h => ⟨fun c => (h c).2.2, reference_sem r.2⟩)
    (Cert.ReferenceIdeal.Value.run (F := Ideal) m g)

end Cert.Proof

end
-- ==== Proof.PickEntry.lean ====
/-
  The entry selection's trip at one row: the greatest value and, of the entries where it stands, the one of the least
  number.
-/
module
public import proofs.«01_k».proof.Proof.Pick
public import proofs.«01_k».proof.Proof.BodyFinalize
@[expose] public section
noncomputable section
namespace Cert.KernelIdeal.Hand
open Cert.KernelIdeal Cert.KernelIdeal.Gen
open Idealize.ShloMosaic Idealize.ShloMosaic.ValueIdx

/-- Place `e` holds the greatest value, and the least number of those that do. -/
structure LeastMax {N : ℕ} (f : Fin N → EReal) (num : Fin N → ℕ) (e : Fin N) : Prop where
  le : ∀ j, f j ≤ f e
  least : ∀ j, f j = f e → num e ≤ num j

/-- The columns of row `r` are numbered by `num`. -/
structure Numbered (w : S256x2048.Idx → BitVec 32) (r : Fin 256) (num : Fin 2048 → ℕ) : Prop where
  word : ∀ j, w (ix2 r j) = BitVec.ofNat 32 (num j)
  small : ∀ j, num j < 101376
  inj : Function.Injective num

variable (v : S256x2048.Idx → EReal) (w : S256x2048.Idx → BitVec 32) (r : Fin 256)

theorem column_cast : Shape.reshapeEquiv shapeCasts_S256_S256x1 (ix2 r 0) = ix1 r := by
  refine Shape.reshapeEquiv_eq_of_rowMajor _ ?_
  rw [Shape.rowMajor_val_two, Shape.rowMajor_val_one]
  show r.val = r.val * 1 + 0
  omega

theorem lift_row (l : Fin 2048) : reduces_S256x2048_S256.lift (ix1 r) l = ix2 r l := by
  funext a
  match a with
  | ⟨0, _⟩ => rfl
  | ⟨1, _⟩ => rfl

theorem pay79_eq (e : Fin 2048) (h : ∀ j, v (ix2 r j) ≤ v (ix2 r e)) : (k3_pay79 (F := Ideal) v (ix2 r 0) : EReal) = v (ix2 r e) := by
  have h0 : (k3_pay79 (F := Ideal) v (ix2 r 0) : EReal) = multiReduction (F := Ideal) .maximumf [1] S256 (v : FVec Ideal S256x2048 .f32) 0xFF800000#32 reduces_S256x2048_S256 (.inl rfl) rfl
      (Shape.reshapeEquiv shapeCasts_S256_S256x1 (ix2 r 0)) := rfl
  rw [h0, column_cast]
  refine (Ideal.multiReduction_maximumf_single _ _ reduces_S256x2048_S256 (.inl rfl) rfl _).trans ?_
  refine Eq.trans (congrArg (fun b : EReal => Finset.fold max b _ (Finset.univ : Finset (Fin 2048))) negInf_bot) ?_
  refine Eq.trans (congrArg (Finset.fold max (⊥ : EReal) · (Finset.univ : Finset (Fin 2048))) (funext fun l => ?_)) (fold_max_eq (fun l => v (ix2 r l)) e h)
  exact congrArg v (lift_row r l)

theorem pay80_at (e : Fin 2048) (h : ∀ j, v (ix2 r j) ≤ v (ix2 r e)) (l : Fin 2048) :
    k3_pay80 (F := Ideal) v (ix2 r l) = BitVec.ofBool (decide (v (ix2 r l) = v (ix2 r e))) := by
  have hb : (broadcastTo S256x2048 (k3_pay79 (F := Ideal) v) broadcasts_S256x1_S256x2048 (ix2 r l) : EReal) = v (ix2 r e) := by
    refine (broadcastTo_apply _ _ _ (ix2 r 0) fun a => ?_).trans (pay79_eq v r e h)
    match a with
    | ⟨0, _⟩ => rfl
    | ⟨1, _⟩ => rfl
  exact congrArg (fun z : EReal => Ideal.cmp .oeq (v (ix2 r l)) z) hb

theorem pay81_eq (num : Fin 2048 → ℕ) (hw : Numbered w r num) (e : Fin 2048) (h : LeastMax (fun j => v (ix2 r j)) num e) :
    k3_pay81 (F := Ideal) v w (ix2 r 0) = BitVec.ofNat 32 (num e) := by
  have h0 : k3_pay81 (F := Ideal) v w (ix2 r 0) = multiReductionI .minsi [1] S256
      (select (k3_pay80 (F := Ideal) v) w (broadcast S256x2048 1073741824#32)) 2147483647#32 reduces_S256x2048_S256 rfl
      (Shape.reshapeEquiv shapeCasts_S256_S256x1 (ix2 r 0)) := rfl
  rw [h0, column_cast]
  refine (minsi_single _ reduces_S256x2048_S256 (ix1 r)).trans ?_
  refine Eq.trans (congrArg (Finset.fold IntOp.minsi 2147483647#32 · (Finset.univ : Finset (Fin 2048))) (funext fun l => ?_))
    (fold_marked (fun l : Fin 2048 => v (ix2 r l) = v (ix2 r e)) num (fun l => by have := hw.small l; omega) e rfl fun j hj => h.least j hj)
  refine (congrArg _ (lift_row r l)).trans ?_
  refine (congrArg (fun z => Scalar.select z (w (ix2 r l)) 1073741824#32) (pay80_at v r e h.le l)).trans ?_
  refine (congrArg (fun z => Scalar.select (BitVec.ofBool (decide (v (ix2 r l) = v (ix2 r e)))) z 1073741824#32) (hw.word l)).trans ?_
  exact ofBool_cond _ _ _

/-- The scratch after a trip: that entry struck out. -/
theorem pay82_eq (num : Fin 2048 → ℕ) (hw : Numbered w r num) (e : Fin 2048) (h : LeastMax (fun j => v (ix2 r j)) num e) (l : Fin 2048) :
    (k3_pay82 (F := Ideal) v w (ix2 r l) : EReal) = if l = e then ⊥ else v (ix2 r l) := by
  have hs : ∀ z, Shape.reshapeEquiv shapeCasts_S256x2048_S256x2048 z = z := fun z => Shape.reshapeEquiv_eq_of_rowMajor _ rfl
  have hb : broadcastTo S256x2048 (k3_pay81 (F := Ideal) v w) broadcasts_S256x1_S256x2048 (ix2 r l) = BitVec.ofNat 32 (num e) := by
    refine (broadcastTo_apply _ _ _ (ix2 r 0) fun a => ?_).trans (pay81_eq v w r num hw e h)
    match a with
    | ⟨0, _⟩ => rfl
    | ⟨1, _⟩ => rfl
  have h0 : (k3_pay82 (F := Ideal) v w (ix2 r l) : EReal) = select (andi (k3_pay80 (F := Ideal) v) (cmpi .eq w (broadcastTo S256x2048 (k3_pay81 (F := Ideal) v w) broadcasts_S256x1_S256x2048)))
      (broadcast S256x2048 (⊥ : EReal)) v (Shape.reshapeEquiv shapeCasts_S256x2048_S256x2048 (ix2 r l)) := rfl
  rw [h0, hs]
  show Scalar.select (IntOp.andi (k3_pay80 (F := Ideal) v (ix2 r l)) (IntOp.cmpi .eq (w (ix2 r l)) (broadcastTo S256x2048 (k3_pay81 (F := Ideal) v w) broadcasts_S256x1_S256x2048 (ix2 r l)))) (⊥ : EReal) (v (ix2 r l)) = _
  rw [hb, pay80_at v r e h.le, hw.word, WordCmp.cmpi_eq_ofNat (by have := hw.small l; omega) (by have := hw.small e; omega), WordCmp.andi_ofBool, ← Bool.decide_and, ofBool_cond]
  by_cases hle : l = e
  · rw [if_pos hle, if_pos ⟨by rw [hle], by rw [hle]⟩]
  · rw [if_neg hle, if_neg fun hc => hle (hw.inj hc.2)]

/-- The two lists after trip `t`. -/
theorem pay83_eq (t : Fin k3_t1_loop.trips) (acc : S256x64.Idx → EReal) (e : Fin 2048) (h : ∀ j, v (ix2 r j) ≤ v (ix2 r e)) (k : Fin 64) :
    (k3_pay83 (F := Ideal) t acc v (ix2 r k) : EReal) = if k.val = t.val then v (ix2 r e) else acc (ix2 r k) := by
  have ht : t.val < 64 := t.isLt
  have hb : (broadcastTo S256x64 (shapeCast S256x1 (k3_pay79 (F := Ideal) v) shapeCasts_S256x1_S256x1) broadcasts_S256x1_S256x64 (ix2 r k) : EReal) = v (ix2 r e) := by
    refine (broadcastTo_apply _ _ _ (ix2 r 0) fun a => ?_).trans ?_
    · match a with
      | ⟨0, _⟩ => rfl
      | ⟨1, _⟩ => rfl
    · exact (shapeCast_apply _ _ _ (ix2 r 0) rfl).trans (pay79_eq v r e h)
  show Scalar.select (IntOp.cmpi .eq (BitVec.ofNat 32 (0 * 64 + k.val)) (0#32 + BitVec.ofNat 32 t.val * 1#32))
    (broadcastTo S256x64 (shapeCast S256x1 (k3_pay79 (F := Ideal) v) shapeCasts_S256x1_S256x1) broadcasts_S256x1_S256x64 (ix2 r k) : EReal) (acc (ix2 r k)) = _
  rw [hb, show (0#32 + BitVec.ofNat 32 t.val * 1#32) = BitVec.ofNat 32 t.val by simp, WordCmp.cmpi_eq_ofNat (by have := k.isLt; omega) (by omega), Nat.zero_mul, Nat.zero_add, ofBool_cond]

theorem pay84_eq (t : Fin k3_t1_loop.trips) (acc : IVec S256x64 32) (num : Fin 2048 → ℕ) (hw : Numbered w r num) (e : Fin 2048)
    (h : LeastMax (fun j => v (ix2 r j)) num e) (k : Fin 64) :
    k3_pay84 (F := Ideal) t acc v w (ix2 r k) = if k.val = t.val then BitVec.ofNat 32 (num e) else acc (ix2 r k) := by
  have ht : t.val < 64 := t.isLt
  have hb : broadcastTo S256x64 (shapeCast S256x1 (k3_pay81 (F := Ideal) v w) shapeCasts_S256x1_S256x1) broadcasts_S256x1_S256x64 (ix2 r k) = BitVec.ofNat 32 (num e) := by
    refine (broadcastTo_apply _ _ _ (ix2 r 0) fun a => ?_).trans ?_
    · match a with
      | ⟨0, _⟩ => rfl
      | ⟨1, _⟩ => rfl
    · exact (shapeCast_apply _ _ _ (ix2 r 0) rfl).trans (pay81_eq v w r num hw e h)
  show Scalar.select (IntOp.cmpi .eq (BitVec.ofNat 32 (0 * 64 + k.val)) (0#32 + BitVec.ofNat 32 t.val * 1#32))
    (broadcastTo S256x64 (shapeCast S256x1 (k3_pay81 (F := Ideal) v w) shapeCasts_S256x1_S256x1) broadcasts_S256x1_S256x64 (ix2 r k)) (acc (ix2 r k)) = _
  rw [hb, show (0#32 + BitVec.ofNat 32 t.val * 1#32) = BitVec.ofNat 32 t.val by simp, WordCmp.cmpi_eq_ofNat (by have := k.isLt; omega) (by omega), Nat.zero_mul, Nat.zero_add, ofBool_cond]

end Cert.KernelIdeal.Hand
end
-- ==== Proof.EntriesLoop.lean ====
/-
  The entry selection's loop at one row whose columns hold entries of a sequence: the entries of the first 64 places,
  in order, and their numbers.
-/
module
public import proofs.«01_k».proof.Proof.PickEntry
@[expose] public section
noncomputable section
namespace Cert.KernelIdeal.Hand
open Cert.KernelIdeal Cert.KernelIdeal.Gen
open Idealize.ShloMosaic Idealize.ShloMosaic.ValueIdx
open Cert.Top

theorem entry_trips : k3_t1_loop.trips = 64 := by decide

variable (V : S256x2048.Idx → EReal) (N : S256x2048.Idx → BitVec 32)

theorem fiSt_scratch (n : ℕ) (hlt : n < k3_t1_loop.trips) :
    (fiSt (F := Ideal) V N (n + 1)).1 = k3_pay82 (F := Ideal) (fiSt (F := Ideal) V N n).1 N := by
  rw [fiSt, dif_pos hlt]
theorem fiSt_vals (n : ℕ) (hlt : n < k3_t1_loop.trips) :
    (fiSt (F := Ideal) V N (n + 1)).2.1 = k3_pay83 (F := Ideal) ⟨n, hlt⟩ (fiSt (F := Ideal) V N n).2.1 (fiSt (F := Ideal) V N n).1 := by
  rw [fiSt, dif_pos hlt]
theorem fiSt_idx (n : ℕ) (hlt : n < k3_t1_loop.trips) :
    (fiSt (F := Ideal) V N (n + 1)).2.2 = k3_pay84 (F := Ideal) ⟨n, hlt⟩ (fiSt (F := Ideal) V N n).2.2 (fiSt (F := Ideal) V N n).1 N := by
  rw [fiSt, dif_pos hlt]

/-- The loop at row `r`: column `l` holds entry `num l` of `g`, and every entry of the first 64 places is in some column. -/
theorem fiSt_value (r : Fin 256) (g : ℕ → EReal) (num : Fin 2048 → ℕ) (hN : Numbered N r num)
    (hV : ∀ l : Fin 2048, V (ix2 r l) = g (num l)) (hg : ∀ i < 64, g i ≠ ⊥)
    (hin : ∀ e < 101376, rank 101376 g e < 64 → ∃ l, num l = e) (n : ℕ) (hn : n ≤ 64) :
    (∀ l : Fin 2048, ((fiSt (F := Ideal) V N n).1 (ix2 r l) : EReal) = struck 101376 g n (num l))
      ∧ ∀ k : Fin 64, k.val < n → ∃ e < 101376, rank 101376 g e = k.val
          ∧ ((fiSt (F := Ideal) V N n).2.1 (ix2 r k) : EReal) = g e ∧ (fiSt (F := Ideal) V N n).2.2 (ix2 r k) = BitVec.ofNat 32 e := by
  induction n with
  | zero =>
    refine ⟨fun l => ?_, fun k hk => absurd hk (Nat.not_lt_zero _)⟩
    rw [struck_zero, ← hV]
    rfl
  | succ n ih =>
    obtain ⟨ihv, ihk⟩ := ih (by omega)
    have hlt : n < k3_t1_loop.trips := by rw [entry_trips]; omega
    obtain ⟨e, hen, he⟩ := exists_rank (n := 101376) (g := g) (t := n) (by omega)
    have hb : g e ≠ ⊥ := ne_bot_of_rank_lt (n := 101376) (k := 64) (by norm_num) hg (by omega)
    obtain ⟨le, hle⟩ := hin e hen (by omega)
    have hmost : LeastMax (fun j => ((fiSt (F := Ideal) V N n).1 (ix2 r j) : EReal)) num le := by
      refine ⟨fun j => ?_, fun j hj => ?_⟩
      · show ((fiSt (F := Ideal) V N n).1 (ix2 r j) : EReal) ≤ (fiSt (F := Ideal) V N n).1 (ix2 r le)
        rw [ihv, ihv, hle, struck_self he]; exact struck_le he (hN.small j)
      · replace hj : ((fiSt (F := Ideal) V N n).1 (ix2 r j) : EReal) = (fiSt (F := Ideal) V N n).1 (ix2 r le) := hj
        rw [ihv, ihv, hle, struck_self he] at hj
        rw [hle]
        exact le_of_struck_eq he (hN.small j) hb hj
    have hat : ((fiSt (F := Ideal) V N n).1 (ix2 r le) : EReal) = g e := by rw [ihv, hle, struck_self he]
    refine ⟨fun l => ?_, fun k hk => ?_⟩
    · rw [fiSt_scratch V N n hlt, struck_succ he hen (hN.small l)]
      have h5 := pay82_eq (fiSt (F := Ideal) V N n).1 N r num hN le hmost l
      rw [ihv] at h5
      rw [h5]
      by_cases hl : num l = e
      · rw [if_pos hl, if_pos (hN.inj (hl.trans hle.symm))]
      · rw [if_neg hl, if_neg (fun h => hl (by rw [h]; exact hle))]
    · have h3 := pay83_eq (fiSt (F := Ideal) V N n).1 r ⟨n, hlt⟩ (fiSt (F := Ideal) V N n).2.1 le hmost.le k
      have h4 := pay84_eq (fiSt (F := Ideal) V N n).1 N r ⟨n, hlt⟩ (fiSt (F := Ideal) V N n).2.2 num hN le hmost k
      rw [fiSt_vals V N n hlt, fiSt_idx V N n hlt, h3, h4]
      by_cases hkn : k.val = n
      · exact ⟨e, hen, he.trans hkn.symm, (if_pos hkn).trans hat, (if_pos hkn).trans (by rw [hle])⟩
      · rw [if_neg hkn, if_neg hkn]; exact ihk k (by omega)

theorem fiVals_value (r : Fin 256) (g : ℕ → EReal) (num : Fin 2048 → ℕ) (hN : Numbered N r num)
    (hV : ∀ l : Fin 2048, V (ix2 r l) = g (num l)) (hg : ∀ i < 64, g i ≠ ⊥)
    (hin : ∀ e < 101376, rank 101376 g e < 64 → ∃ l, num l = e) (k : Fin 64) :
    ∃ e < 101376, rank 101376 g e = k.val ∧ (fiVals (F := Ideal) V N (ix2 r k) : EReal) = g e ∧ fiIdx (F := Ideal) V N (ix2 r k) = BitVec.ofNat 32 e :=
  (fiSt_value V N r g num hN hV hg hin k3_t1_loop.trips entry_trips.le).2 k k.isLt

end Cert.KernelIdeal.Hand
end
-- ==== Proof.EntryNumbers.lean ====
/-
  The numbers the entry selection gives its columns: 32 times the chunk's number and the place in the chunk, the chunk
  numbers spread over the columns by a product with a matrix of zeros and ones.
-/
module
public import proofs.«01_k».proof.Proof.PickEntry
public import proofs.«01_k».proof.Proof.ChunksValue
@[expose] public section
noncomputable section
namespace Cert.KernelIdeal.Hand
open Cert.KernelIdeal Cert.KernelIdeal.Gen
open Idealize.ShloMosaic Idealize.ShloMosaic.ValueIdx

/-- The floor of a 32nd, as the kernel's code has it of a signed word. -/
def blockWord (w : BitVec 32) : BitVec 32 :=
  Scalar.select (IntOp.andi (IntOp.cmpi .ne (IntOp.subi ((IntOp.cmpi .sgt w 0#32).setWidth 32) ((IntOp.cmpi .slt w 0#32).setWidth 32))
      (Scalar.subi (Scalar.extui (Scalar.cmpi .sgt 32#32 0#32)) (Scalar.extui (Scalar.cmpi .slt 32#32 0#32)) : BitVec 32))
    (IntOp.cmpi .ne (IntOp.remsi .vector w 32#32) 0#32)) (IntOp.subi (IntOp.divsi .vector w 32#32) 1#32) (IntOp.divsi .vector w 32#32)

set_option maxRecDepth 100000 in
theorem blockWord_eq : ∀ n : Fin 2048, blockWord (BitVec.ofNat 32 n.val) = BitVec.ofNat 32 (n.val / 32) := by decide +kernel

/-- The remainder by 32, likewise. -/
def laneWord (w : BitVec 32) : BitVec 32 :=
  Scalar.select (IntOp.andi (IntOp.xori (IntOp.cmpi .slt (IntOp.remsi .vector w (Scalar.select (Scalar.cmpi .eq 32#32 0#32) 1#32 32#32)) 0#32) (Scalar.cmpi .slt (Scalar.select (Scalar.cmpi .eq 32#32 0#32) 1#32 32#32) 0#32))
      (IntOp.cmpi .ne (IntOp.remsi .vector w (Scalar.select (Scalar.cmpi .eq 32#32 0#32) 1#32 32#32)) 0#32))
    (IntOp.addi (IntOp.remsi .vector w (Scalar.select (Scalar.cmpi .eq 32#32 0#32) 1#32 32#32)) (Scalar.select (Scalar.cmpi .eq 32#32 0#32) 1#32 32#32))
    (IntOp.remsi .vector w (Scalar.select (Scalar.cmpi .eq 32#32 0#32) 1#32 32#32))

set_option maxRecDepth 100000 in
theorem laneWord_eq : ∀ n : Fin 2048, laneWord (BitVec.ofNat 32 n.val) = BitVec.ofNat 32 (n.val % 32) := by decide +kernel

/-- The entry of the matrix that spreads the chunk numbers: one where the column is of the row's block. -/
def spreadWord (k : Fin 64) (l : Fin 2048) : BitVec 32 :=
  (IntOp.cmpi .eq (BitVec.ofNat 32 (0 * 64 + k.val)) (blockWord (BitVec.ofNat 32 (0 * 2048 + l.val)))).setWidth 32

theorem spreadWord_eq (k : Fin 64) (l : Fin 2048) : spreadWord k l = if k.val = l.val / 32 then 1#32 else 0#32 := by
  unfold spreadWord
  rw [show 0 * 64 + k.val = k.val by omega, show 0 * 2048 + l.val = l.val by omega, blockWord_eq, WordCmp.cmpi_eq_ofNat (by have := k.isLt; omega) (by have := l.isLt; omega)]
  by_cases h : k.val = l.val / 32
  · rw [decide_eq_true h, if_pos h]; rfl
  · rw [decide_eq_false h, if_neg h]; rfl

/-- The matrix, as the body has it. -/
def spreadMat : FVec Ideal S64x2048 .f32 := fun z => (((spreadWord (z 0) (z 1)).toInt : ℝ) : EReal)

/-- The spread chunk numbers at one column. -/
theorem spread_at (I : FVec Ideal S256x64 .f32) (r : Fin 256) (l : Fin 2048) :
    (matmul dot_S256x64_S64x2048_S256x2048_1_0_0_1_n_n (some .fp32) I spreadMat (constant S256x2048 .f32 0x00000000#32) : FVec Ideal S256x2048 .f32) (ix2 r l)
      = (I (ix2 r ⟨l.val / 32, by omega⟩) : EReal) := by
  refine (Ideal.matmul_constant_zero_apply dot_S256x64_S64x2048_S256x2048_1_0_0_1_n_n (some .fp32) I spreadMat (ix2 r l)).trans ?_
  rw [← Equiv.sum_comp (contrEquiv1 dot_S256x64_S64x2048_S256x2048_1_0_0_1_n_n 64 rfl rfl).symm]
  have hterm : ∀ k : Fin 64, (I (dot_S256x64_S64x2048_S256x2048_1_0_0_1_n_n.lhsIdx (ix2 r l) ((contrEquiv1 dot_S256x64_S64x2048_S256x2048_1_0_0_1_n_n 64 rfl rfl).symm k)) : EReal)
      * spreadMat (dot_S256x64_S64x2048_S256x2048_1_0_0_1_n_n.rhsIdx (ix2 r l) ((contrEquiv1 dot_S256x64_S64x2048_S256x2048_1_0_0_1_n_n 64 rfl rfl).symm k))
      = if k.val = l.val / 32 then (I (ix2 r k) : EReal) else 0 := fun k => by
    have e1 : dot_S256x64_S64x2048_S256x2048_1_0_0_1_n_n.lhsIdx (ix2 r l) ((contrEquiv1 dot_S256x64_S64x2048_S256x2048_1_0_0_1_n_n 64 rfl rfl).symm k) = ix2 r k := by
      funext a
      match a with
      | ⟨0, _⟩ => rfl
      | ⟨1, _⟩ => rfl
    have e2 : dot_S256x64_S64x2048_S256x2048_1_0_0_1_n_n.rhsIdx (ix2 r l) ((contrEquiv1 dot_S256x64_S64x2048_S256x2048_1_0_0_1_n_n 64 rfl rfl).symm k) = ix2 k l := by
      funext a
      match a with
      | ⟨0, _⟩ => rfl
      | ⟨1, _⟩ => rfl
    rw [e1, e2]
    show (I (ix2 r k) : EReal) * (((spreadWord k l).toInt : ℝ) : EReal) = _
    rw [spreadWord_eq]
    by_cases h : k.val = l.val / 32
    · rw [if_pos h, if_pos h, show (1#32 : BitVec 32).toInt = 1 by decide, Int.cast_one, EReal.coe_one, mul_one]
    · rw [if_neg h, if_neg h, show (0#32 : BitVec 32).toInt = 0 by decide, Int.cast_zero, EReal.coe_zero, mul_zero]
  refine (Finset.sum_congr rfl fun k _ => hterm k).trans ?_
  rw [Finset.sum_eq_single (⟨l.val / 32, by omega⟩ : Fin 64)]
  · exact if_pos rfl
  · exact fun k _ hk => if_neg fun h => hk (Fin.ext h)
  · exact fun h => absurd (Finset.mem_univ _) h

theorem fptosi_ofNat (n : ℕ) (hn : n < 2147483648) : Ideal.fptosi 32 (((BitVec.ofNat 32 n).toInt : ℝ) : EReal) = BitVec.ofNat 32 n := by
  rw [WordCmp.toInt_ofNat_of_lt (by omega), Ideal.fptosi, Ideal.toIntClamped_coe]
  rw [Int.cast_natCast, if_pos (Nat.cast_nonneg n), Int.floor_natCast]
  have e : max (-((2 ^ (32 - 1) : ℕ) : ℤ)) (min (((2 ^ (32 - 1) : ℕ) : ℤ) - 1) (n : ℤ)) = (n : ℤ) := by
    norm_num
    omega
  rw [e]
  rfl

/-- The number of a column, from the chunk's. -/
theorem fiOrig_eq (ids : S256x64.Idx → BitVec 32) (r : Fin 256) (l : Fin 2048) (e : ℕ) (he : e < 3168)
    (h : ids (ix2 r ⟨l.val / 32, by omega⟩) = BitVec.ofNat 32 e) :
    fiOrig (F := Ideal) ids (ix2 r l) = BitVec.ofNat 32 (32 * e + l.val % 32) := by
  have hs : ∀ z, Shape.reshapeEquiv shapeCasts_S256x2048_S256x2048 z = z := fun z => Shape.reshapeEquiv_eq_of_rowMajor _ rfl
  have hs' : ∀ z, Shape.reshapeEquiv shapeCasts_S256x64_S256x64 z = z := fun z => Shape.reshapeEquiv_eq_of_rowMajor _ rfl
  have h1 : (matmul dot_S256x64_S64x2048_S256x2048_1_0_0_1_n_n (some .fp32) (sitofp .f32 (shapeCast S256x64 ids shapeCasts_S256x64_S256x64) : FVec Ideal S256x64 .f32) spreadMat (constant S256x2048 .f32 0x00000000#32) : FVec Ideal S256x2048 .f32) (ix2 r l)
      = (((BitVec.ofNat 32 e).toInt : ℝ) : EReal) := by
    refine (spread_at _ r l).trans ?_
    show (((ids (Shape.reshapeEquiv shapeCasts_S256x64_S256x64 (ix2 r ⟨l.val / 32, _⟩))).toInt : ℝ) : EReal) = _
    rw [hs', h]
  have h0 : fiOrig (F := Ideal) ids (ix2 r l) = (fun z => IntOp.addi (IntOp.muli (Ideal.fptosi 32 ((matmul dot_S256x64_S64x2048_S256x2048_1_0_0_1_n_n (some .fp32) (sitofp .f32 (shapeCast S256x64 ids shapeCasts_S256x64_S256x64) : FVec Ideal S256x64 .f32) spreadMat (constant S256x2048 .f32 0x00000000#32) : FVec Ideal S256x2048 .f32) z)) 32#32)
      (laneWord (BitVec.ofNat 32 (0 * 2048 + (z 1).val)))) (Shape.reshapeEquiv shapeCasts_S256x2048_S256x2048 (ix2 r l)) := rfl
  rw [h0, hs]
  show IntOp.addi (IntOp.muli (Ideal.fptosi 32 _) 32#32) (laneWord (BitVec.ofNat 32 (0 * 2048 + l.val))) = _
  rw [h1, fptosi_ofNat e (by omega), Nat.zero_mul, Nat.zero_add, laneWord_eq, WordCmp.muli_ofNat, WordCmp.addi_ofNat, Nat.mul_comm e 32]

end Cert.KernelIdeal.Hand
end
-- ==== Proof.KernelValue.lean ====
/-
  The kernel's two lists: at row `r`, place `k`, the entry of place `k` among the row's scores, and its number.
-/
module
public import proofs.«01_k».proof.Proof.EntriesLoop
public import proofs.«01_k».proof.Proof.EntryNumbers
@[expose] public section
noncomputable section
namespace Cert.KernelIdeal.Hand
open Cert.KernelIdeal Cert.KernelIdeal.Gen
open Idealize.ShloMosaic Idealize.ShloMosaic.ValueIdx
open Cert.Top

/-! ## Which quarter of a row -/

theorem window_at (rows : S16384x128.Idx → EReal) (q : Fin 16384) (c : Fin 32) (o : ℕ) (ho : 32 * o + 32 ≤ 128)
    (inb : ∀ a, (![0, 32 * o] : Fin 2 → ℕ) a + S16384x32.size a ≤ S16384x128.size a) :
    VecWindow.window rows ![0, 32 * o] S16384x32.size inb (ix2 q c) = rows (ix2 q ⟨32 * o + c.val, by omega⟩) := by
  unfold VecWindow.window
  refine congrArg rows ?_
  funext a
  apply Fin.ext
  match a with
  | ⟨0, _⟩ => show 0 + 1 * q.val = q.val; omega
  | ⟨1, _⟩ => show 32 * o + 1 * c.val = 32 * o + c.val; omega

/-- The choice among four, by a word that is 0, 1, 2 or another. -/
theorem quarter_pick (w : BitVec 32) (o : ℕ) (ho : o < 4) (hw : w = BitVec.ofNat 32 o) (a b c d : EReal) :
    Scalar.select (IntOp.cmpi .eq w 0#32) a (Scalar.select (IntOp.cmpi .eq w 1#32) b (Scalar.select (IntOp.cmpi .eq w 2#32) c d))
      = if o = 0 then a else if o = 1 then b else if o = 2 then c else d := by
  subst hw
  match o, ho with
  | 0, _ => rfl
  | 1, _ => rfl
  | 2, _ => rfl
  | 3, _ => rfl

theorem fiSel_at (rows : S16384x128.Idx → EReal) (off : S16384x1.Idx → BitVec 32) (q : Fin 16384) (c : Fin 32) (o : ℕ) (ho : o < 4)
    (hoff : off (ix2 q 0) = BitVec.ofNat 32 o) :
    (fiSel (F := Ideal) rows off (ix2 q c) : EReal) = rows (ix2 q ⟨32 * o + c.val, by omega⟩) := by
  have hs : ∀ z, Shape.reshapeEquiv shapeCasts_S16384x32_S16384x32 z = z := fun z => Shape.reshapeEquiv_eq_of_rowMajor _ rfl
  have hs1 : ∀ z, Shape.reshapeEquiv shapeCasts_S16384x1_S16384x1 z = z := fun z => Shape.reshapeEquiv_eq_of_rowMajor _ rfl
  have hmask : ∀ n : BitVec 32, broadcastTo S16384x32 (shapeCast S16384x1 (cmpi .eq (shapeCast S16384x1 off shapeCasts_S16384x1_S16384x1) (broadcast S16384x1 n)) shapeCasts_S16384x1_S16384x1) broadcasts_S16384x1_S16384x32 (ix2 q c)
      = IntOp.cmpi .eq (off (ix2 q 0)) n := fun n => by
    refine (broadcastTo_apply _ _ _ (ix2 q 0) fun a => ?_).trans ?_
    · match a with
      | ⟨0, _⟩ => rfl
      | ⟨1, _⟩ => rfl
    · refine (shapeCast_apply _ _ _ (ix2 q 0) rfl).trans ?_
      show IntOp.cmpi .eq (off (Shape.reshapeEquiv shapeCasts_S16384x1_S16384x1 (ix2 q 0))) n = _
      rw [hs1]
  have hwin : ∀ n : ℕ, ∀ hn : 32 * n + 32 ≤ 128, ∀ inb : ∀ a, (![0, 32 * n] : Fin 2 → ℕ) a + S16384x32.size a ≤ S16384x128.size a,
      VecWindow.window rows ![0, 32 * n] S16384x32.size inb (Shape.reshapeEquiv shapeCasts_S16384x32_S16384x32 (ix2 q c)) = rows (ix2 q ⟨32 * n + c.val, by omega⟩) :=
    fun n hn inb => (congrArg _ (hs _)).trans (window_at rows q c n hn inb)
  have h0 : (fiSel (F := Ideal) rows off (ix2 q c) : EReal)
      = Scalar.select (broadcastTo S16384x32 (shapeCast S16384x1 (cmpi .eq (shapeCast S16384x1 off shapeCasts_S16384x1_S16384x1) (broadcast S16384x1 0#32)) shapeCasts_S16384x1_S16384x1) broadcasts_S16384x1_S16384x32 (ix2 q c))
          (VecWindow.window rows ![0, 32 * 0] S16384x32.size inb_S16384x128_S16384x32_0_0 (Shape.reshapeEquiv shapeCasts_S16384x32_S16384x32 (ix2 q c)))
        (Scalar.select (broadcastTo S16384x32 (shapeCast S16384x1 (cmpi .eq (shapeCast S16384x1 off shapeCasts_S16384x1_S16384x1) (broadcast S16384x1 1#32)) shapeCasts_S16384x1_S16384x1) broadcasts_S16384x1_S16384x32 (ix2 q c))
          (VecWindow.window rows ![0, 32 * 1] S16384x32.size inb_S16384x128_S16384x32_0_32 (Shape.reshapeEquiv shapeCasts_S16384x32_S16384x32 (ix2 q c)))
        (Scalar.select (broadcastTo S16384x32 (shapeCast S16384x1 (cmpi .eq (shapeCast S16384x1 off shapeCasts_S16384x1_S16384x1) (broadcast S16384x1 2#32)) shapeCasts_S16384x1_S16384x1) broadcasts_S16384x1_S16384x32 (ix2 q c))
          (VecWindow.window rows ![0, 32 * 2] S16384x32.size inb_S16384x128_S16384x32_0_64 (Shape.reshapeEquiv shapeCasts_S16384x32_S16384x32 (ix2 q c)))
          (VecWindow.window rows ![0, 32 * 3] S16384x32.size inb_S16384x128_S16384x32_0_96 (Shape.reshapeEquiv shapeCasts_S16384x32_S16384x32 (ix2 q c))))) := rfl
  rw [h0, hmask, hmask, hmask, hwin 0 (by omega), hwin 1 (by omega), hwin 2 (by omega), hwin 3 (by omega), quarter_pick _ o ho hoff]
  match o, ho with
  | 0, _ => rfl
  | 1, _ => rfl
  | 2, _ => rfl
  | 3, _ => rfl

/-! ## The arrays of the run, read at an entry -/

variable (x : S256x1024.Idx → EReal) (W : S100000x1024.Idx → EReal)

theorem kMax_at (r : Fin 256) (j : Fin 3168) : kMax x W (ix2 r j) = chunkMax x W r j.val := by
  have hj := j.isLt
  unfold kMax kMaxT
  refine (shapeCast_apply _ _ _ (ix3 r ⟨j.val / 96, by omega⟩ ⟨j.val % 96, by omega⟩) ?_).trans
    ((transpose_apply _ _ _ _ (ix3 ⟨j.val / 96, by omega⟩ r ⟨j.val % 96, by omega⟩) ?_).trans ?_)
  · rw [Shape.rowMajor_val_two, Shape.rowMajor_val_three]
    show (r.val * 33 + j.val / 96) * 96 + j.val % 96 = r.val * 3168 + j.val
    omega
  · intro a
    match a with
    | ⟨0, _⟩ => rfl
    | ⟨1, _⟩ => rfl
    | ⟨2, _⟩ => rfl
  · show chunkMax x W r (96 * (j.val / 96) + j.val % 96) = _
    rw [Nat.div_add_mod]

theorem kTab_at (r : Fin 256) (c : Fin 101376) (z : S202752x128.Idx) (hz : (z 0).val * 128 + (z 1).val = r.val * 101376 + c.val) :
    kTab x W z = logit x W r c.val := by
  unfold kTab
  refine (shapeCast_apply _ _ _ (ix2 r c) ?_).trans rfl
  rw [Shape.rowMajor_val_two, Shape.rowMajor_val_two]
  exact hz.symm

theorem kSel_at (r : Fin 256) (k : Fin 64) (q : Fin 16384) (hq : q.val = 256 * k.val + r.val) :
    kSel x W (ix2 q 0) = chOff (kMax x W) (ix2 r k) := by
  unfold kSel kSelT
  refine (shapeCast_apply _ _ _ (ix2 k r) ?_).trans (transpose_apply _ _ _ _ (ix2 r k) ?_)
  · rw [Shape.rowMajor_val_two, Shape.rowMajor_val_two]
    show k.val * 256 + r.val = q.val * 1 + 0
    omega
  · intro a
    match a with
    | ⟨0, _⟩ => rfl
    | ⟨1, _⟩ => rfl

/-- The gathered row of chunk slot `k` of row `r`. -/
theorem kRows_at (r : Fin 256) (k : Fin 64) (e : ℕ) (he : e < 3168) (h : kIds x W (ix2 r k) = BitVec.ofNat 32 e)
    (q : Fin 16384) (hq : q.val = 256 * k.val + r.val) (c : Fin 128) :
    kRows x W (ix2 q c) = logit x W r (128 * (e / 4) + c.val) := by
  have hr := r.isLt
  have hc := c.isLt
  have hi : ∀ z : S1x16384.Idx, (z 1).val = q.val → (kIx x W z).toNat = r.val * 792 + e / 4 := fun z hz => by
    rw [kIx_at x W r k z (hz.trans hq)]
    exact ofNat_toNat_lt (chFlat_eq (kMax x W) r k e he h) (by omega)
  unfold kRows gathered
  refine kTab_at x W r ⟨128 * (e / 4) + c.val, by omega⟩ _ ?_
  show (kIx x W _).toNat % 202752 * 128 + c.val = r.val * 101376 + (128 * (e / 4) + c.val)
  rw [hi _ rfl, Nat.mod_eq_of_lt (by omega)]
  omega

/-- The chunk quarters side by side. -/
theorem kV_at (r : Fin 256) (l : Fin 2048) (e : ℕ) (he : e < 3168) (h : kIds x W (ix2 r ⟨l.val / 32, by omega⟩) = BitVec.ofNat 32 e) :
    (fiV (F := Ideal) (kRows x W) (kSel x W) (ix2 r l) : EReal) = logit x W r (32 * e + l.val % 32) := by
  have hr := r.isLt
  have hl := l.isLt
  have hsrc : srcIdx (ix2 r l) = ix2 (⟨256 * (l.val / 32) + r.val, by omega⟩ : Fin 16384) (⟨l.val % 32, by omega⟩ : Fin 32) := by
    funext a
    match a with
    | ⟨0, _⟩ => rfl
    | ⟨1, _⟩ => rfl
  unfold fiV spread
  rw [hsrc]
  refine (fiSel_at _ _ _ _ (e % 4) (by omega) ?_).trans ((kRows_at x W r ⟨l.val / 32, by omega⟩ e he h _ rfl _).trans ?_)
  · exact (kSel_at x W r ⟨l.val / 32, by omega⟩ _ rfl).trans (chOff_eq (kMax x W) r _ e he h)
  · refine congrArg (logit x W r) ?_
    show 128 * (e / 4) + (32 * (e % 4) + l.val % 32) = 32 * e + l.val % 32
    omega

/-! ## The two lists -/

theorem chunk_attained (r : Fin 256) (j : ℕ) :
    (∀ l < 32, logit x W r (32 * j + l) ≤ chunkMax x W r j) ∧ ∃ l < 32, logit x W r (32 * j + l) = chunkMax x W r j := by
  obtain ⟨e, h1, -⟩ := exists_first_max (N := 32) (by norm_num) fun l => logit x W r (32 * j + l.val)
  have h2 : chunkMax x W r j = logit x W r (32 * j + e.val) := fold_max_eq (fun l : Fin 32 => logit x W r (32 * j + l.val)) e h1
  exact ⟨fun l hl => h2 ▸ h1 ⟨l, hl⟩, e.val, e.isLt, h2.symm⟩

theorem kernel_lists (r : Fin 256) (hg : ∀ c < 100000, logit x W r c ≠ ⊥) (k : Fin 64) :
    ∃ e < 100000, rank 100000 (logit x W r) e = k.val
      ∧ (fiVals (F := Ideal) (fiV (F := Ideal) (kRows x W) (kSel x W)) (fiOrig (F := Ideal) (kIds x W)) (ix2 r k) : EReal) = logit x W r e
      ∧ kOut x W (ix2 r k) = BitVec.ofNat 32 e := by
  have hcm : ∀ i < 64, chunkMax x W r i ≠ ⊥ := fun i hi => by
    obtain ⟨h1, -⟩ := chunk_attained x W r i
    intro hb
    have h := h1 0 (by norm_num)
    rw [hb] at h
    exact hg (32 * i + 0) (by omega) (le_bot_iff.mp h)
  have hids := chIds_value (kMax x W) r (chunkMax x W r) (kMax_at x W r) hcm
  choose es hes hrank hword using hids
  have hinj : Function.Injective es := fun i j h => Fin.ext (by rw [← hrank i, ← hrank j, h])
  let num : Fin 2048 → ℕ := fun l => 32 * es ⟨l.val / 32, by omega⟩ + l.val % 32
  have hN : Numbered (fiOrig (F := Ideal) (kIds x W)) r num := by
    refine ⟨fun l => fiOrig_eq (kIds x W) r l _ (hes _) (hword _), fun l => ?_, fun i j h => ?_⟩
    · have := hes ⟨l.val / 32, by omega⟩
      show 32 * es ⟨l.val / 32, _⟩ + l.val % 32 < 101376
      omega
    · replace h : 32 * es ⟨i.val / 32, by omega⟩ + i.val % 32 = 32 * es ⟨j.val / 32, by omega⟩ + j.val % 32 := h
      have h1 : es ⟨i.val / 32, by omega⟩ = es ⟨j.val / 32, by omega⟩ := by omega
      have h2 := congrArg Fin.val (hinj h1)
      replace h2 : i.val / 32 = j.val / 32 := h2
      exact Fin.ext (by omega)
  have hV : ∀ l : Fin 2048, fiV (F := Ideal) (kRows x W) (kSel x W) (ix2 r l) = logit x W r (num l) := fun l =>
    kV_at x W r l _ (hes _) (hword _)
  have hin : ∀ e < 101376, rank 101376 (logit x W r) e < 64 → ∃ l, num l = e := fun e he hr => by
    have hc := rank_chunk_lt (N := 3168) (cm := chunkMax x W r) (by norm_num) (fun j _ => (chunk_attained x W r j).1) (fun j _ => (chunk_attained x W r j).2) he hr
    have hk := rank_inj (hes ⟨_, hc⟩) (by omega) (hrank ⟨_, hc⟩)
    refine ⟨⟨32 * rank 3168 (chunkMax x W r) (e / 32) + e % 32, by omega⟩, ?_⟩
    have hdiv : (⟨(32 * rank 3168 (chunkMax x W r) (e / 32) + e % 32) / 32, by omega⟩ : Fin 64) = ⟨rank 3168 (chunkMax x W r) (e / 32), hc⟩ := Fin.ext (by
      show (32 * rank 3168 (chunkMax x W r) (e / 32) + e % 32) / 32 = rank 3168 (chunkMax x W r) (e / 32)
      omega)
    show 32 * es ⟨(32 * rank 3168 (chunkMax x W r) (e / 32) + e % 32) / 32, _⟩ + (32 * rank 3168 (chunkMax x W r) (e / 32) + e % 32) % 32 = e
    rw [hdiv, hk]
    omega
  have h64 : ∀ i < 64, logit x W r i ≠ ⊥ := fun i hi => hg i (by omega)
  obtain ⟨e, he, hre, hval, hidx⟩ := fiVals_value _ _ r (logit x W r) num hN hV h64 hin k
  have hne : logit x W r e ≠ ⊥ := ne_bot_of_rank_lt (n := 101376) (k := 64) (by norm_num) h64 (by rw [hre]; exact k.isLt)
  have hlt : e < 100000 := by
    by_contra hc
    exact hne (dif_neg hc)
  refine ⟨e, hlt, ?_, hval, hidx⟩
  rw [← hre]
  exact (rank_extend (by norm_num) (fun i hi => dif_neg (by omega)) hne hlt).symm

end Cert.KernelIdeal.Hand
end
-- ==== Proof.Precondition.lean ====
/-
  What the precondition says: every entry of the input and of the weights is a real number, and every bias is zero. A
  score is then never minus infinity.
-/
module
public import proofs.«01_k».proof.Proof.Gen.Pre_finite_zero_bias
public import proofs.«01_k».proof.Proof.IdealProject
public import Idealize.ShloMosaic.PureOps.Ideal.Laws
public import Idealize.ShloMosaic.PureOps.Reduce
@[expose] public section
noncomputable section
namespace Cert.Pre_finite_zero_bias.Hand
open Cert.Pre_finite_zero_bias Cert.Pre_finite_zero_bias.Gen
open Idealize.ShloMosaic Idealize.ShloMosaic.ValueIdx

/-- A conjunction of two bits is one only where both are. -/
theorem both_one : ∀ a b : BitVec 1, IntOp.andi a b = 1#1 → a = 1#1 ∧ b = 1#1 := by decide

/-- A conjunction of many bits is one only where each is. -/
theorem each_one {ι : Type} (s : Finset ι) (f : ι → BitVec 1) (b : BitVec 1) (h : s.fold IntOp.andi b f = 1#1) :
    ∀ i ∈ s, f i = 1#1 := by
  classical
  induction s using Finset.induction_on with
  | empty => intro i hi; exact absurd hi (Finset.notMem_empty i)
  | insert a s ha ih =>
    rw [Finset.fold_insert ha] at h
    obtain ⟨h1, h2⟩ := both_one _ _ h
    intro i hi
    rcases Finset.mem_insert.mp hi with rfl | hi
    · exact h1
    · exact ih h2 i hi

/-- The same of a reduction to one entry. -/
theorem reduce_one {s t u : Shape} {axes : List (Fin s.rank)} (x : s.Idx → BitVec 1) (init : u.Idx → BitVec 1) (h : s.ReducesTo axes t)
    (hu : 0 < u.numel) (j : t.Idx) (ht : ∀ a b : t.Idx, a = b) (he : Host.reduce IntOp.andi x init h hu j = 1#1) (i : s.Idx) : x i = 1#1 := by
  rw [Host.reduce_eq_fold] at he
  exact each_one _ _ _ he i (Finset.mem_filter.mpr ⟨Finset.mem_univ _, ht _ _⟩)

theorem plusInf : (FloatOps.ofBits .f32 0x7F800000#32 : Ideal .f32) = (⊤ : EReal) := by
  show Ideal.ofBits .f32 0x7F800000#32 = ⊤
  simp [Ideal.ofBits, Ideal.ieee]

theorem bit_true (p : Prop) [Decidable p] (h : BitVec.ofBool (decide p) = 1#1) : p := by
  by_contra hp
  rw [decide_eq_false hp] at h
  exact absurd h (by decide)

/-- An entry whose absolute value is below plus infinity is neither infinity. -/
theorem real_entry (a : EReal) (h : (Ideal.cmp .olt (max a (-a)) (FloatOps.ofBits .f32 0x7F800000#32 : Ideal .f32)) = 1#1) : a ≠ ⊥ ∧ a ≠ ⊤ := by
  rw [plusInf] at h
  have h' : max a (-a) < ⊤ := bit_true _ h
  constructor
  · rintro rfl
    exact absurd h' (by simp)
  · rintro rfl
    exact absurd h' (by simp)

theorem zero_entry (a : EReal) (h : (Ideal.cmp .oeq a (FloatOps.ofBits .f32 0x00000000#32 : Ideal .f32)) = 1#1) : a = 0 := by
  have h' : a = (FloatOps.ofBits .f32 0x00000000#32 : Ideal .f32) := bit_true _ h
  exact h'.trans Ideal.ofBits_zero_f32

theorem one_index : ∀ a b : S_.Idx, a = b := fun a b => funext fun i => i.elim0

theorem read (x : S256x1024.Idx → EReal) (W : S100000x1024.Idx → EReal) (b : S100000.Idx → EReal)
    (h : fn (F := Ideal) x W b = fun _ => 1#1) :
    (∀ z, x z ≠ ⊥ ∧ x z ≠ ⊤) ∧ (∀ z, W z ≠ ⊥ ∧ W z ≠ ⊤) ∧ ∀ z, b z = 0 := by
  have h0 := congrFun h (fun i => i.elim0)
  obtain ⟨h1, hb⟩ := both_one _ _ h0
  obtain ⟨hx, hW⟩ := both_one _ _ h1
  refine ⟨fun z => real_entry _ ?_, fun z => real_entry _ ?_, fun z => zero_entry _ ?_⟩
  · exact reduce_one _ _ _ _ _ one_index hx z
  · exact reduce_one _ _ _ _ _ one_index hW z
  · exact reduce_one _ _ _ _ _ one_index hb z

/-- A sum of products of real numbers is not minus infinity. -/
theorem sum_ne_bot {n : ℕ} (f g : Fin n → EReal) (hf : ∀ k, f k ≠ ⊥ ∧ f k ≠ ⊤) (hg : ∀ k, g k ≠ ⊥ ∧ g k ≠ ⊤) (s : Finset (Fin n)) :
    ∑ k ∈ s, f k * g k ≠ ⊥ := by
  classical
  induction s using Finset.induction_on with
  | empty => rw [Finset.sum_empty]; exact EReal.zero_ne_bot
  | insert a s ha ih =>
    rw [Finset.sum_insert ha]
    refine EReal.add_ne_bot_iff.mpr ⟨?_, ih⟩
    rw [← EReal.coe_toReal (hf a).2 (hf a).1, ← EReal.coe_toReal (hg a).2 (hg a).1, ← EReal.coe_mul]
    exact EReal.coe_ne_bot _

theorem logit_ne_bot (x : S256x1024.Idx → EReal) (W : S100000x1024.Idx → EReal) (hx : ∀ z, x z ≠ ⊥ ∧ x z ≠ ⊤) (hW : ∀ z, W z ≠ ⊥ ∧ W z ≠ ⊤)
    (r : Fin 256) (c : ℕ) (hc : c < 100000) : Cert.KernelIdeal.Hand.logit x W r c ≠ ⊥ := by
  unfold Cert.KernelIdeal.Hand.logit
  rw [dif_pos hc]
  exact sum_ne_bot _ _ (fun k => hx _) (fun k => hW _) _

end Cert.Pre_finite_zero_bias.Hand
end
-- ==== Proof.Sorted.lean ====
/-
  A stable sort by descending value puts at each place the entry of that place.
-/
module
public import proofs.«01_k».proof.Proof.Rank
public import Idealize.ShloMosaic.Lib.SortPrefix
@[expose] public section
noncomputable section
namespace Cert.Top
open Idealize.ShloMosaic Classical

/-- On a list without repetition in ascending order a stable sort asks only whether a later entry goes before an earlier
    one, so two relations that agree there sort it alike. -/
theorem stableSort_ascending {ι : Type} (R R' : ι → ι → Bool) (l : List ι) (h : l.Pairwise fun a b => R b a = R' b a) :
    stableSort R l = stableSort R' l := by
  induction l with
  | nil => rfl
  | cons a l ih =>
    obtain ⟨h1, h2⟩ := List.pairwise_cons.mp h
    unfold stableSort
    rw [ih h2]
    exact insertBefore_congr R R' a _ fun b hb => h1 b ((perm_stableSort R' l).mem_iff.mp hb)

/-- The order of places, on the first `n`. -/
def befB (n : ℕ) (g : ℕ → EReal) : Fin n → Fin n → Bool := fun i j => decide (Bef g i.val j.val)

theorem befB_strict (n : ℕ) (g : ℕ → EReal) : StrictTotalBefore (befB n g) where
  irrefl a := decide_eq_false (Bef.irrefl g a.val)
  trans _ _ _ h h' := decide_eq_true ((of_decide_eq_true h).trans (of_decide_eq_true h'))
  total a b hne := (Bef.total g (fun e => hne (Fin.ext e))).imp (fun h => decide_eq_true h) fun h => decide_eq_true h

theorem sortedFrom_bef (n : ℕ) (g : ℕ → EReal) (R : Fin n → Fin n → Bool) (hR : ∀ i j, R i j = decide (g j.val < g i.val)) :
    sortedFrom R = sortedFrom (befB n g) := by
  have hs : sortPositions n R = sortPositions n (befB n g) := by
    refine stableSort_ascending R (befB n g) _ ((List.pairwise_lt_finRange n).imp fun {a b} hab => ?_)
    rw [hR]
    unfold befB
    refine decide_eq_decide.mpr ⟨Or.inl, fun h => h.resolve_right fun h' => ?_⟩
    have := h'.2
    have : a.val < b.val := hab
    omega
  funext k
  unfold sortedFrom
  rw [List.get_of_eq hs]
  rfl

theorem sortedFrom_rank {n k : ℕ} (g : ℕ → EReal) (hk : k ≤ n) (R : Fin n → Fin n → Bool)
    (hR : ∀ i j, R i j = decide (g j.val < g i.val)) (i : Fin k) : rank n g (sortedFrom R (i.castLE hk)).val = i.val := by
  rw [sortedFrom_bef n g R hR]
  have hex : ∀ i : Fin k, ∃ e : Fin n, rank n g e.val = i.val := fun i => by
    obtain ⟨e, he, hr⟩ := exists_rank (n := n) (g := g) (t := i.val) (lt_of_lt_of_le i.isLt hk)
    exact ⟨⟨e, he⟩, hr⟩
  choose σ hσ using hex
  rw [(befB_strict n g).sortedFrom_eq_of_prefix hk σ (fun i j h => Fin.ext (by rw [← hσ i, ← hσ j, h])) ?_ ?_ i, hσ]
  · intro i j hij
    refine decide_eq_false fun b => ?_
    have := rank_lt (σ j).isLt b
    rw [hσ, hσ] at this
    have : i.val < j.val := hij
    omega
  · intro i p hp
    refine decide_eq_false fun b => ?_
    have h1 := rank_lt p.isLt b
    rw [hσ] at h1
    have hpk : rank n g p.val < k := h1.trans i.isLt
    exact hp ⟨_, hpk⟩ (Fin.ext (rank_inj (σ ⟨_, hpk⟩).isLt p.isLt (hσ ⟨_, hpk⟩)))

end Cert.Top
end
-- ==== Proof.ReferenceValue.lean ====
/-
  The reference's two lists: at row `r`, place `k`, the entry of place `k` among the row's scores, and its number; and
  its softmax at an entry.
-/
module
public import proofs.«01_k».proof.Proof.Sorted
public import proofs.«01_k».proof.Proof.Gen.ReferenceIdeal
public import Idealize.ShloMosaic.Lib.Pipeline.Value
public import Idealize.ShloMosaic.Lib.ValueIdx
public import Idealize.ShloMosaic.PureOps.Ideal.Laws
public import Idealize.ShloMosaic.PureOps.Reduce
@[expose] public section
noncomputable section
namespace Cert.ReferenceIdeal.Hand
open Cert.ReferenceIdeal Cert.ReferenceIdeal.Gen
open Idealize.ShloMosaic Idealize.ShloMosaic.ValueIdx
open Cert.Top

/-- The scores with the bias, as the reference has them. -/
def rScores (x : S256x1024.Idx → EReal) (W : S100000x1024.Idx → EReal) (b : S100000.Idx → EReal) : FVec Ideal S256x100000 .f32 :=
  addf (Host.dotGeneral (F := Ideal) (φ₁ := .f32) (φ₂ := .f32) dot_S256x1024_S1024x100000_S256x100000_1_0_0_1_n_n none (x : FVec Ideal S256x1024 .f32) (transpose (α := Ideal .f32) S1024x100000 [1, 0] W transposes_S100000x1024_S1024x100000_1_0))
    (broadcastInDim S256x100000 ![0, 1] bcast_S1x100000_S256x100000_0_1 (broadcastInDim S1x100000 ![1] bcast_S100000_S1x100000_1 (b : FVec Ideal S100000 .f32)))

def rTop (x : S256x1024.Idx → EReal) (W : S100000x1024.Idx → EReal) (b : S100000.Idx → EReal) : FVec Ideal S256x64 .f32 × IVec S256x64 32 :=
  Host.topK S256x64 1 (FloatOps.cmpfTotal .gt) (rScores x W b) sliceFits_S256x100000_S256x64

/-- The softmax of the list of values, as the reference has it. -/
def rSoft (v : FVec Ideal S256x64 .f32) : FVec Ideal S256x64 .f32 :=
  Host.divf (Host.exp (subf v (broadcastInDim S256x64 ![0, 1] bcast_S256x1_S256x64_0_1 (broadcastInDim S256x1 ![0] bcast_S256_S256x1_0
      (maximumf (broadcastInDim S256 ![] bcast_S_S256 (constant S_ .f32 0xFF800000#32)) (Host.reduce FloatOps.maximumf v (constant S_ .f32 0xFF800000#32) reducesTo_S256x64_S256_d1 h_S_))))))
    (broadcastInDim S256x64 ![0, 1] bcast_S256x1_S256x64_0_1 (broadcastInDim S256x1 ![0] bcast_S256_S256x1_0
      (Host.reduceAdd (Host.exp (subf v (broadcastInDim S256x64 ![0, 1] bcast_S256x1_S256x64_0_1 (broadcastInDim S256x1 ![0] bcast_S256_S256x1_0
        (maximumf (broadcastInDim S256 ![] bcast_S_S256 (constant S_ .f32 0xFF800000#32)) (Host.reduce FloatOps.maximumf v (constant S_ .f32 0xFF800000#32) reducesTo_S256x64_S256_d1 h_S_))))))
        (constant S_ .f32 0x00000000#32) reducesTo_S256x64_S256_d1 h_S_)))

/-! ## The scores -/

theorem rScores_at (x : S256x1024.Idx → EReal) (W : S100000x1024.Idx → EReal) (b : S100000.Idx → EReal) (r : Fin 256) (c : Fin 100000) (hb : b (ix1 c) = 0) :
    (rScores x W b (ix2 r c) : EReal) = ∑ k : Fin 1024, x (ix2 r k) * W (ix2 c k) := by
  have hbias : (broadcastInDim S256x100000 ![0, 1] bcast_S1x100000_S256x100000_0_1 (broadcastInDim S1x100000 ![1] bcast_S100000_S1x100000_1 (b : FVec Ideal S100000 .f32)) (ix2 r c) : EReal) = 0 := by
    refine (broadcastInDim_apply _ _ _ _ (ix2 0 c) fun a => ?_).trans ((broadcastInDim_apply _ _ _ _ (ix1 c) fun a => ?_).trans hb)
    · match a with
      | ⟨0, _⟩ => rfl
      | ⟨1, _⟩ => rfl
    · match a with
      | ⟨0, _⟩ => rfl
  have hdot : (Host.dotGeneral (F := Ideal) (φ₁ := .f32) (φ₂ := .f32) dot_S256x1024_S1024x100000_S256x100000_1_0_0_1_n_n none (x : FVec Ideal S256x1024 .f32) (transpose (α := Ideal .f32) S1024x100000 [1, 0] W transposes_S100000x1024_S1024x100000_1_0) (ix2 r c) : EReal)
      = ∑ k : Fin 1024, x (ix2 r k) * W (ix2 c k) := by
    refine (Ideal.dotGeneral_apply dot_S256x1024_S1024x100000_S256x100000_1_0_0_1_n_n none _ _ _ (ix2 r c)).trans ?_
    rw [← Equiv.sum_comp (contrEquiv1 dot_S256x1024_S1024x100000_S256x100000_1_0_0_1_n_n 1024 rfl rfl).symm]
    refine Finset.sum_congr rfl fun k _ => ?_
    congr 1
    · congr 1; funext a
      match a with
      | ⟨0, _⟩ => rfl
      | ⟨1, _⟩ => rfl
    · refine transpose_apply _ _ _ _ (ix2 c k) fun a => ?_
      match a with
      | ⟨0, _⟩ => rfl
      | ⟨1, _⟩ => rfl
  unfold rScores
  show (_ : EReal) + _ = _
  rw [hdot, hbias, add_zero]

/-! ## The list -/

/-- Where the sort of row `r` takes its entries from. -/
def rFrom (Y : S256x100000.Idx → EReal) (r : Fin 256) : Fin 100000 → Fin 100000 :=
  sortedFrom fun k k' => (FloatOps.cmpfTotal (F := Ideal) (φ := .f32) .gt (Y (ix2 r k)) (Y (ix2 r k')) : BitVec 1) == 1#1

theorem along_row (r : Fin 256) (c k : Fin 100000) : (ix2 r c : S256x100000.Idx).along 1 k = ix2 r k := by
  funext a
  match a with
  | ⟨0, _⟩ => rfl
  | ⟨1, _⟩ => rfl

theorem topK_at (Y : S256x100000.Idx → EReal) (r : Fin 256) (k : Fin 64) :
    ((Host.topK S256x64 1 (FloatOps.cmpfTotal (F := Ideal) (φ := .f32) .gt) Y sliceFits_S256x100000_S256x64).1 (ix2 r k) : EReal) = Y (ix2 r (rFrom Y r (k.castLE (by norm_num))))
      ∧ (Host.topK S256x64 1 (FloatOps.cmpfTotal (F := Ideal) (φ := .f32) .gt) Y sliceFits_S256x100000_S256x64).2 (ix2 r k) = BitVec.ofNat 32 (rFrom Y r (k.castLE (by norm_num))).val := by
  have hJ : ∀ {α : Type} (v : S256x100000.Idx → α), extractStridedSlice S256x64 (fun _ => 0) v sliceFits_S256x100000_S256x64 (ix2 r k) = v (ix2 r (k.castLE (by norm_num))) := fun v => by
    refine extractStridedSlice_apply _ _ _ _ (ix2 r (k.castLE (by norm_num))) fun a => ?_
    match a with
    | ⟨0, _⟩ => show r.val = 0 + r.val; omega
    | ⟨1, _⟩ => show k.val = 0 + k.val; omega
  unfold Host.topK
  dsimp only
  rw [hJ, hJ]
  unfold Host.sort2
  rw [dif_pos (show 1 < S256x100000.rank by decide)]
  have hfrom : (sortedFrom (fun i j : Fin 100000 => (FloatOps.cmpfTotal (F := Ideal) (φ := .f32) .gt (Y ((ix2 r (k.castLE (by norm_num)) : S256x100000.Idx).along 1 i)) (Y ((ix2 r (k.castLE (by norm_num)) : S256x100000.Idx).along 1 j)) : BitVec 1) == 1#1) (k.castLE (by norm_num)))
      = rFrom Y r (k.castLE (by norm_num)) := by
    unfold rFrom
    refine congrArg (fun R => sortedFrom R (k.castLE (by norm_num))) (funext fun i => funext fun j => ?_)
    rw [along_row, along_row]
  constructor
  · exact (congrArg Y (along_row r _ _)).trans (congrArg (fun z : Fin 100000 => Y (ix2 r z)) hfrom)
  · exact (congrArg (iotaInDim S256x100000 32 1) (along_row r _ _)).trans (congrArg (fun z : Fin 100000 => BitVec.ofNat 32 z.val) hfrom)

theorem reference_lists (x : S256x1024.Idx → EReal) (W : S100000x1024.Idx → EReal) (b : S100000.Idx → EReal) (g : ℕ → EReal) (r : Fin 256)
    (hg : ∀ c : Fin 100000, (rScores x W b (ix2 r c) : EReal) = g c.val) (k : Fin 64) :
    ∃ e < 100000, rank 100000 g e = k.val ∧ ((rTop x W b).1 (ix2 r k) : EReal) = g e ∧ (rTop x W b).2 (ix2 r k) = BitVec.ofNat 32 e := by
  obtain ⟨h1, h2⟩ := topK_at (rScores x W b) r k
  refine ⟨(rFrom (rScores x W b) r (k.castLE (by norm_num))).val, Fin.isLt _, ?_, h1.trans (hg _), h2⟩
  refine sortedFrom_rank g (by norm_num) _ (fun i j => ?_) k
  show ((BitVec.ofBool (decide ((rScores x W b (ix2 r j) : EReal) < rScores x W b (ix2 r i))) : BitVec 1) == 1#1) = _
  rw [hg, hg]
  by_cases h : g j.val < g i.val
  · rw [decide_eq_true h]; rfl
  · rw [decide_eq_false h]; rfl

/-! ## The softmax -/

/-- The softmax of a list of 64, at one entry. -/
def soft (v : Fin 64 → EReal) (k : Fin 64) : EReal :=
  Ideal.div (Ideal.exp (v k - (Finset.univ : Finset (Fin 64)).fold max ⊥ v)) (∑ j : Fin 64, Ideal.exp (v j - (Finset.univ : Finset (Fin 64)).fold max ⊥ v))

theorem minusInf : (FloatOps.ofBits .f32 0xFF800000#32 : Ideal .f32) = (⊥ : EReal) := by
  show Ideal.ofBits .f32 0xFF800000#32 = ⊥
  simp [Ideal.ofBits, Ideal.ieee]

theorem reduces_row : S256x64.Reduces [1] S256 := by decide

theorem lift_row (r : Fin 256) (l : Fin 64) : reduces_row.lift (ix1 r) l = ix2 r l := by
  funext a
  match a with
  | ⟨0, _⟩ => rfl
  | ⟨1, _⟩ => rfl

theorem spread_row {α : Type} (w : S256.Idx → α) (r : Fin 256) (k : Fin 64) :
    broadcastInDim S256x64 ![0, 1] bcast_S256x1_S256x64_0_1 (broadcastInDim S256x1 ![0] bcast_S256_S256x1_0 w) (ix2 r k) = w (ix1 r) := by
  refine (broadcastInDim_apply _ _ _ _ (ix2 r 0) fun a => ?_).trans (broadcastInDim_apply _ _ _ _ (ix1 r) fun a => ?_)
  · match a with
    | ⟨0, _⟩ => rfl
    | ⟨1, _⟩ => rfl
  · match a with
    | ⟨0, _⟩ => rfl

theorem rMax_at (v : S256x64.Idx → EReal) (r : Fin 256) :
    (maximumf (broadcastInDim S256 ![] bcast_S_S256 (constant (F := Ideal) S_ .f32 0xFF800000#32)) (Host.reduce (FloatOps.maximumf (F := Ideal) (φ := .f32)) (v : FVec Ideal S256x64 .f32) (constant (F := Ideal) S_ .f32 0xFF800000#32) reducesTo_S256x64_S256_d1 h_S_) (ix1 r) : EReal)
      = (Finset.univ : Finset (Fin 64)).fold max ⊥ fun l => v (ix2 r l) := by
  have h1 : (Host.reduce (FloatOps.maximumf (F := Ideal) (φ := .f32)) (v : FVec Ideal S256x64 .f32) (constant (F := Ideal) S_ .f32 0xFF800000#32) reducesTo_S256x64_S256_d1 h_S_ (ix1 r) : EReal)
      = (Finset.univ : Finset (Fin 64)).fold max ⊥ fun l => v (ix2 r l) := by
    refine (Host.reduce_eq_fold_single (max : EReal → EReal → EReal) v (fun _ => (FloatOps.ofBits .f32 0xFF800000#32 : Ideal .f32)) reducesTo_S256x64_S256_d1 reduces_row h_S_ (ix1 r)).trans ?_
    refine Eq.trans (congrArg (fun b : EReal => Finset.fold max b _ (Finset.univ : Finset (Fin 64))) minusInf) ?_
    exact congrArg (Finset.fold max (⊥ : EReal) · (Finset.univ : Finset (Fin 64))) (funext fun l => congrArg v (lift_row r l))
  show max (FloatOps.ofBits .f32 0xFF800000#32 : Ideal .f32) _ = _
  rw [h1]
  exact (congrArg (fun z : EReal => max z _) minusInf).trans (max_eq_right bot_le)

theorem rSoft_at (v : S256x64.Idx → EReal) (r : Fin 256) (k : Fin 64) : (rSoft v (ix2 r k) : EReal) = soft (fun l => v (ix2 r l)) k := by
  have he : ∀ l : Fin 64, (Host.exp (F := Ideal) (subf (F := Ideal) (v : FVec Ideal S256x64 .f32) (broadcastInDim S256x64 ![0, 1] bcast_S256x1_S256x64_0_1 (broadcastInDim S256x1 ![0] bcast_S256_S256x1_0
      (maximumf (broadcastInDim S256 ![] bcast_S_S256 (constant (F := Ideal) S_ .f32 0xFF800000#32)) (Host.reduce (FloatOps.maximumf (F := Ideal) (φ := .f32)) (v : FVec Ideal S256x64 .f32) (constant (F := Ideal) S_ .f32 0xFF800000#32) reducesTo_S256x64_S256_d1 h_S_))))) (ix2 r l) : EReal)
      = Ideal.exp (v (ix2 r l) - (Finset.univ : Finset (Fin 64)).fold max ⊥ fun l => v (ix2 r l)) := fun l => by
    exact congrArg (fun z : EReal => Ideal.exp (v (ix2 r l) - z)) ((spread_row _ r l).trans (rMax_at v r))
  unfold rSoft soft
  refine (congrArg₂ Ideal.div (he k) ((spread_row _ r k).trans ?_) : _)
  refine (Ideal.hostReduceAdd_single reducesTo_S256x64_S256_d1 reduces_row _ _ (ix1 r)).trans ?_
  refine (congrArg₂ (fun a b : EReal => a + b) Ideal.ofBits_zero_f32 (Finset.sum_congr rfl fun l _ => (congrArg _ (lift_row r l)).trans (he l))).trans (zero_add _)

end Cert.ReferenceIdeal.Hand
end
-- ==== Proof.Softmax.lean ====
/-
  The kernel's softmax of its list of values, at one entry.
-/
module
public import proofs.«01_k».proof.Proof.PickEntry
public import proofs.«01_k».proof.Proof.ReferenceValue
@[expose] public section
noncomputable section
namespace Cert.KernelIdeal.Hand
open Cert.KernelIdeal Cert.KernelIdeal.Gen
open Idealize.ShloMosaic Idealize.ShloMosaic.ValueIdx
open Cert.ReferenceIdeal.Hand (soft)

theorem lift_list (r : Fin 256) (l : Fin 64) : reduces_S256x64_S256.lift (ix1 r) l = ix2 r l := by
  funext a
  match a with
  | ⟨0, _⟩ => rfl
  | ⟨1, _⟩ => rfl

/-- A column of 256 spread over a list of 64 places. -/
theorem spread_column (w : S256.Idx → EReal) (r : Fin 256) (k : Fin 64) :
    (broadcastTo S256x64 (shapeCast S256x1 (w : FVec Ideal S256 .f32) shapeCasts_S256_S256x1) broadcasts_S256x1_S256x64 (ix2 r k) : EReal) = w (ix1 r) := by
  refine (broadcastTo_apply _ _ _ (ix2 r 0) fun a => ?_).trans ?_
  · match a with
    | ⟨0, _⟩ => rfl
    | ⟨1, _⟩ => rfl
  · exact congrArg w (column_cast r)

theorem listMax_at (v : S256x64.Idx → EReal) (r : Fin 256) :
    (multiReduction (F := Ideal) .maximumf [1] S256 (v : FVec Ideal S256x64 .f32) 0xFF800000#32 reduces_S256x64_S256 (.inl rfl) rfl (ix1 r) : EReal)
      = (Finset.univ : Finset (Fin 64)).fold max ⊥ fun l => v (ix2 r l) := by
  refine (Ideal.multiReduction_maximumf_single _ _ reduces_S256x64_S256 (.inl rfl) rfl _).trans ?_
  refine Eq.trans (congrArg (fun b : EReal => Finset.fold max b _ (Finset.univ : Finset (Fin 64))) negInf_bot) ?_
  exact congrArg (Finset.fold max (⊥ : EReal) · (Finset.univ : Finset (Fin 64))) (funext fun l => congrArg v (lift_list r l))

/-- One entry less the greatest of its row, exponentiated. -/
theorem listExp_at (v : S256x64.Idx → EReal) (r : Fin 256) (l : Fin 64) :
    (exp (F := Ideal) (subf (F := Ideal) (v : FVec Ideal S256x64 .f32) (broadcastTo S256x64 (shapeCast S256x1
      (multiReduction (F := Ideal) .maximumf [1] S256 (v : FVec Ideal S256x64 .f32) 0xFF800000#32 reduces_S256x64_S256 (.inl rfl) rfl)
      shapeCasts_S256_S256x1) broadcasts_S256x1_S256x64)) (ix2 r l) : EReal)
      = Ideal.exp (v (ix2 r l) - (Finset.univ : Finset (Fin 64)).fold max ⊥ fun l => v (ix2 r l)) :=
  congrArg (fun z : EReal => Ideal.exp (v (ix2 r l) - z)) ((spread_column _ r l).trans (listMax_at v r))

theorem pay85_at (v : S256x64.Idx → EReal) (r : Fin 256) (k : Fin 64) :
    (k3_pay85 (F := Ideal) v (ix2 r k) : EReal) = soft (fun l => v (ix2 r l)) k := by
  unfold k3_pay85 soft
  refine (congrArg₂ Ideal.div (listExp_at v r k) ((spread_column _ r k).trans ?_) : _)
  refine (Ideal.multiReduction_add_single _ _ reduces_S256x64_S256 (.inl rfl) rfl _).trans ?_
  exact Finset.sum_congr rfl fun l _ => (congrArg _ (lift_list r l)).trans (listExp_at v r l)

end Cert.KernelIdeal.Hand
end
-- ==== Proof.Equal.lean ====
/-
  The kernel's two results are the reference's, where the inputs are real numbers and the bias is zero.
-/
module
public import proofs.«01_k».proof.Proof.KernelValue
public import proofs.«01_k».proof.Proof.Precondition
public import proofs.«01_k».proof.Proof.Softmax
@[expose] public section
noncomputable section
namespace Cert.Equal
open Cert.KernelIdeal Cert.KernelIdeal.Gen
open Cert.KernelIdeal.Hand
open Cert.ReferenceIdeal.Hand (rScores rTop rSoft rSoft_at rScores_at reference_lists)
open Idealize.ShloMosaic Idealize.ShloMosaic.ValueIdx
open Cert.Top

variable (x : S256x1024.Idx → EReal) (W : S100000x1024.Idx → EReal) (b : Cert.ReferenceIdeal.S100000.Idx → EReal)

/-- The kernel's list of values before its softmax. -/
def kVals : S256x64.Idx → EReal := fiVals (F := Ideal) (fiV (F := Ideal) (kRows x W) (kSel x W)) (fiOrig (F := Ideal) (kIds x W))

variable (hx : ∀ z, x z ≠ ⊥ ∧ x z ≠ ⊤) (hW : ∀ z, W z ≠ ⊥ ∧ W z ≠ ⊤) (hb : ∀ z, b z = 0)
include hx hW hb

/-- At every row and place both lists hold the same value and the same number: each is the entry of that place. -/
theorem lists_agree (r : Fin 256) (k : Fin 64) :
    kVals x W (ix2 r k) = (rTop x W b).1 (ix2 r k) ∧ kOut x W (ix2 r k) = (rTop x W b).2 (ix2 r k) := by
  obtain ⟨e, he, hr, hv, hi⟩ := kernel_lists x W r (fun c hc => Cert.Pre_finite_zero_bias.Hand.logit_ne_bot x W hx hW r c hc) k
  obtain ⟨e', he', hr', hv', hi'⟩ := reference_lists x W b (logit x W r) r (fun c => by
    rw [rScores_at x W b r c (hb _)]
    unfold logit
    rw [dif_pos c.isLt]) k
  have hee : e = e' := rank_inj he he' (hr.trans hr'.symm)
  subst hee
  exact ⟨hv.trans hv'.symm, hi.trans hi'.symm⟩

theorem indices_agree : kOut x W = (rTop x W b).2 := by
  funext z
  have h := (lists_agree x W b hx hW hb (z 0) (z 1)).2
  have hz : z = ix2 (z 0) (z 1) := eq_ix2 z
  exact (congrArg (kOut x W) hz).trans (h.trans (congrArg (rTop x W b).2 hz.symm))

theorem values_agree : kVals x W = (rTop x W b).1 := by
  funext z
  have h := (lists_agree x W b hx hW hb (z 0) (z 1)).1
  have hz : z = ix2 (z 0) (z 1) := eq_ix2 z
  exact (congrArg (kVals x W) hz).trans (h.trans (congrArg (rTop x W b).1 hz.symm))

theorem probs_agree : kProbs x W = rSoft (rTop x W b).1 := by
  have hk : kProbs x W = k3_pay85 (F := Ideal) (kVals x W) := rfl
  rw [hk, values_agree x W b hx hW hb]
  funext z
  have hz : z = ix2 (z 0) (z 1) := eq_ix2 z
  exact (congrArg (k3_pay85 (F := Ideal) (rTop x W b).1) hz).trans
    ((pay85_at _ (z 0) (z 1)).trans ((rSoft_at _ (z 0) (z 1)).symm.trans (congrArg (rSoft (rTop x W b).1) hz.symm)))

end Cert.Equal
end
-- ==== Proof.Algebraic.lean ====
/-
  The value claim: under the precondition the kernel and the reference end with equal results.
-/
module
public import proofs.«01_k».proof.Proof.Frames
public import proofs.«01_k».proof.Proof.Equal
@[expose] public section
noncomputable section
namespace Cert.Proof
open Idealize.ShloMosaic Idealize.SL.Sem
open Cert.KernelIdeal.Hand
open Cert.ReferenceIdeal.Hand (rTop rSoft)

/-- The reference's run with its results by name. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v15)
            = rSoft (rTop (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1
        ∧ r.2.mem ((c.tc : Thread Cert.ReferenceIdeal.nD Cert.ReferenceIdeal.τ).loc Cert.ReferenceIdeal.main_indices)
            = (rTop (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  Cert.ReferenceIdeal.Value.run (F := Ideal) m g

theorem algebraic : Cert.algebraic_KernelIdeal_ReferenceIdeal_pre_finite_zero_bias := by
  intro m g m' g' hpre hargs
  refine ⟨fun c => kProbs (mX m c) (mW m c), fun c => kOut (mX m c) (mW m c), ?_, ?_⟩
  · exact (θ_run Cert.KernelIdeal.defs _ _).mono (fun _ h c => ⟨(h.1 c).1.1, (h.1 c).1.2, (h.1 c).2⟩) (kernel_run m g)
  · refine (θ_run Cert.ReferenceIdeal.defs _ _).mono (fun _ h c => ?_) (reference_run m' g')
    obtain ⟨h0, h1, h2⟩ := h c
    obtain ⟨a0, a1, a2⟩ := hargs c
    obtain ⟨hx, hW, hb⟩ := Cert.Pre_finite_zero_bias.Hand.read _ _ _ (hpre c)
    rw [a0, a1, a2] at h0 h1
    exact ⟨h0.trans (Cert.Equal.probs_agree _ _ _ hx hW hb).symm, h1.trans (Cert.Equal.indices_agree _ _ _ hx hW hb).symm, h2⟩

end Cert.Proof
end
-- ==== Proof.lean ====
/-
  The proof of `Cert.Claim`: the kernel's frame and the reference's, on the extended reals, with and without the
  precondition, and the value claim. The witnesses of the programs' stated facts come first.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_zero_bias
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.KernelIdeal.Gen.facts, Cert.ReferenceIdeal.Gen.facts, Cert.Pre_finite_zero_bias.Gen.facts, frame_kernel, frame_kernel_pre, frame_reference, frame_reference_pre, algebraic⟩

end Cert.Proof

end
